-- ==== Defs.lean ====
def Pre_Gateup (m : (ℓ : Loc Cert.Gateup.nD Cert.Gateup.τ Cert.Gateup.sig) → Buf (Elt Bits) ℓ) : Prop :=
  True

def Pre_GateupIdeal (m : (ℓ : Loc Cert.GateupIdeal.nD Cert.GateupIdeal.τ Cert.GateupIdeal.sig) → Buf (Elt Ideal) ℓ) : Prop :=
  True

def Pre_GateupRefIdeal (m : (ℓ : Loc Cert.GateupRefIdeal.nD Cert.GateupRefIdeal.τ Cert.GateupRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Gateup [hGateup : Cert.Gateup.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1)
      ∧ r.2.mem ((c.tc : Thread Cert.Gateup.nD Cert.Gateup.τ).loc Cert.Gateup.main_arg2) = m ((c.tc : Thread Cert.Gateup.nD Cert.Gateup.τ).loc Cert.Gateup.main_arg2)
      ∧ r.2.mem ((c.tc : Thread Cert.Gateup.nD Cert.Gateup.τ).loc Cert.Gateup.main_arg3) = m ((c.tc : Thread Cert.Gateup.nD Cert.Gateup.τ).loc Cert.Gateup.main_arg3)
      ∧ r.2.mem ((c.tc : Thread Cert.Gateup.nD Cert.Gateup.τ).loc Cert.Gateup.main_arg4) = m ((c.tc : Thread Cert.Gateup.nD Cert.Gateup.τ).loc Cert.Gateup.main_arg4)
      ∧ r.2.mem ((c.tc : Thread Cert.Gateup.nD Cert.Gateup.τ).loc Cert.Gateup.main_arg5) = m ((c.tc : Thread Cert.Gateup.nD Cert.Gateup.τ).loc Cert.Gateup.main_arg5))
      ∧ r.2.sem = fun _ => 0)

def quiescent_GateupIdeal [hGateupIdeal : Cert.GateupIdeal.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
      ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
      ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
      ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4)
      ∧ r.2.mem ((c.tc : Thread Cert.GateupIdeal.nD Cert.GateupIdeal.τ).loc Cert.GateupIdeal.main_arg5) = m ((c.tc : Thread Cert.GateupIdeal.nD Cert.GateupIdeal.τ).loc Cert.GateupIdeal.main_arg5))
      ∧ r.2.sem = fun _ => 0)

def quiescent_GateupRefIdeal [hGateupRefIdeal : Cert.GateupRefIdeal.Facts] : Prop :=
  ∀ (m : (ℓ : Loc Cert.GateupRefIdeal.nD Cert.GateupRefIdeal.τ Cert.GateupRefIdeal.sig) → Buf (Elt Ideal) ℓ) (g : Dev Cert.GateupRefIdeal.nD → PrngReg), Pre_GateupRefIdeal m →
    θ_run (Cert.GateupRefIdeal.defs (F := Ideal)) (onTc (τ := Cert.GateupRefIdeal.τ) (Cert.GateupRefIdeal.main (F := Ideal))) ⟨m, fun _ => 0, g⟩ (fun r => (∀ c : Dev Cert.GateupRefIdeal.nD,
      r.2.mem ((c.tc : Thread Cert.GateupRefIdeal.nD Cert.GateupRefIdeal.τ).loc Cert.GateupRefIdeal.main_arg0) = m ((c.tc : Thread Cert.GateupRefIdeal.nD Cert.GateupRefIdeal.τ).loc Cert.GateupRefIdeal.main_arg0)
      ∧ r.2.mem ((c.tc : Thread Cert.GateupRefIdeal.nD Cert.GateupRefIdeal.τ).loc Cert.GateupRefIdeal.main_arg1) = m ((c.tc : Thread Cert.GateupRefIdeal.nD Cert.GateupRefIdeal.τ).loc Cert.GateupRefIdeal.main_arg1)
      ∧ r.2.mem ((c.tc : Thread Cert.GateupRefIdeal.nD Cert.GateupRefIdeal.τ).loc Cert.GateupRefIdeal.main_arg2) = m ((c.tc : Thread Cert.GateupRefIdeal.nD Cert.GateupRefIdeal.τ).loc Cert.GateupRefIdeal.main_arg2)
      ∧ r.2.mem ((c.tc : Thread Cert.GateupRefIdeal.nD Cert.GateupRefIdeal.τ).loc Cert.GateupRefIdeal.main_arg3) = m ((c.tc : Thread Cert.GateupRefIdeal.nD Cert.GateupRefIdeal.τ).loc Cert.GateupRefIdeal.main_arg3)
      ∧ r.2.mem ((c.tc : Thread Cert.GateupRefIdeal.nD Cert.GateupRefIdeal.τ).loc Cert.GateupRefIdeal.main_arg4) = m ((c.tc : Thread Cert.GateupRefIdeal.nD Cert.GateupRefIdeal.τ).loc Cert.GateupRefIdeal.main_arg4)
      ∧ r.2.mem ((c.tc : Thread Cert.GateupRefIdeal.nD Cert.GateupRefIdeal.τ).loc Cert.GateupRefIdeal.main_arg5) = m ((c.tc : Thread Cert.GateupRefIdeal.nD Cert.GateupRefIdeal.τ).loc Cert.GateupRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def preserves_Gateup_GateupIdeal : Prop :=
  True

def algebraic_GateupIdeal_GateupRefIdeal [hGateupIdeal : Cert.GateupIdeal.Facts] [hGateupRefIdeal : Cert.GateupRefIdeal.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.GateupRefIdeal.nD Cert.GateupRefIdeal.τ Cert.GateupRefIdeal.sig) → Buf (Elt Ideal) ℓ) (g' : Dev Cert.GateupRefIdeal.nD → PrngReg), Pre_GateupIdeal m →
    (∀ c : Dev Cert.GateupIdeal.nD,
      m' ((c.tc : Thread Cert.GateupRefIdeal.nD Cert.GateupRefIdeal.τ).loc Cert.GateupRefIdeal.main_arg0) = m ((c.tc : Thread Cert.GateupIdeal.nD Cert.GateupIdeal.τ).loc Cert.GateupIdeal.main_arg0)
      ∧ m' ((c.tc : Thread Cert.GateupRefIdeal.nD Cert.GateupRefIdeal.τ).loc Cert.GateupRefIdeal.main_arg1) = m ((c.tc : Thread Cert.GateupIdeal.nD Cert.GateupIdeal.τ).loc Cert.GateupIdeal.main_arg1)
      ∧ m' ((c.tc : Thread Cert.GateupRefIdeal.nD Cert.GateupRefIdeal.τ).loc Cert.GateupRefIdeal.main_arg2) = m ((c.tc : Thread Cert.GateupIdeal.nD Cert.GateupIdeal.τ).loc Cert.GateupIdeal.main_arg2)
      ∧ m' ((c.tc : Thread Cert.GateupRefIdeal.nD Cert.GateupRefIdeal.τ).loc Cert.GateupRefIdeal.main_arg3) = m ((c.tc : Thread Cert.GateupIdeal.nD Cert.GateupIdeal.τ).loc Cert.GateupIdeal.main_arg3)
      ∧ m' ((c.tc : Thread Cert.GateupRefIdeal.nD Cert.GateupRefIdeal.τ).loc Cert.GateupRefIdeal.main_arg4) = m ((c.tc : Thread Cert.GateupIdeal.nD Cert.GateupIdeal.τ).loc Cert.GateupIdeal.main_arg4)
      ∧ m' ((c.tc : Thread Cert.GateupRefIdeal.nD Cert.GateupRefIdeal.τ).loc Cert.GateupRefIdeal.main_arg5) = m ((c.tc : Thread Cert.GateupIdeal.nD Cert.GateupIdeal.τ).loc Cert.GateupIdeal.main_arg5)) →
    ∃ (v0 : (c : Dev Cert.GateupIdeal.nD) → Buf (Elt Ideal) ((c.tc : Thread Cert.GateupIdeal.nD Cert.GateupIdeal.τ).loc Cert.GateupIdeal.main_v0_0)) (v1 : (c : Dev Cert.GateupIdeal.nD) → Buf (Elt Ideal) ((c.tc : Thread Cert.GateupIdeal.nD Cert.GateupIdeal.τ).loc Cert.GateupIdeal.main_v0_1)) (v2 : (c : Dev Cert.GateupIdeal.nD) → Buf (Elt Ideal) ((c.tc : Thread Cert.GateupIdeal.nD Cert.GateupIdeal.τ).loc Cert.GateupIdeal.main_v0_2)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v0_0) = v0 c
          ∧ r.2.mem ((c.tc : Thread Cert.GateupIdeal.nD Cert.GateupIdeal.τ).loc Cert.GateupIdeal.main_v0_1) = v1 c
          ∧ r.2.mem ((c.tc : Thread Cert.GateupIdeal.nD Cert.GateupIdeal.τ).loc Cert.GateupIdeal.main_v0_2) = v2 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
          ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
          ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3)
          ∧ r.2.mem ((c.tc : Thread Cert.GateupIdeal.nD Cert.GateupIdeal.τ).loc Cert.GateupIdeal.main_arg4) = m ((c.tc : Thread Cert.GateupIdeal.nD Cert.GateupIdeal.τ).loc Cert.GateupIdeal.main_arg4)
          ∧ r.2.mem ((c.tc : Thread Cert.GateupIdeal.nD Cert.GateupIdeal.τ).loc Cert.GateupIdeal.main_arg5) = m ((c.tc : Thread Cert.GateupIdeal.nD Cert.GateupIdeal.τ).loc Cert.GateupIdeal.main_arg5))
      ∧ θ_run (Cert.GateupRefIdeal.defs (F := Ideal)) (onTc (τ := Cert.GateupRefIdeal.τ) (Cert.GateupRefIdeal.main (F := Ideal))) ⟨m', fun _ => 0, g'⟩ (fun r => ∀ c : Dev Cert.GateupRefIdeal.nD,
          r.2.mem ((c.tc : Thread Cert.GateupRefIdeal.nD Cert.GateupRefIdeal.τ).loc Cert.GateupRefIdeal.main_v0_0) = v0 c
          ∧ r.2.mem ((c.tc : Thread Cert.GateupRefIdeal.nD Cert.GateupRefIdeal.τ).loc Cert.GateupRefIdeal.main_v0_1) = v1 c
          ∧ r.2.mem ((c.tc : Thread Cert.GateupRefIdeal.nD Cert.GateupRefIdeal.τ).loc Cert.GateupRefIdeal.main_v0_2) = v2 c
          ∧ r.2.mem ((c.tc : Thread Cert.GateupRefIdeal.nD Cert.GateupRefIdeal.τ).loc Cert.GateupRefIdeal.main_arg0) = m' ((c.tc : Thread Cert.GateupRefIdeal.nD Cert.GateupRefIdeal.τ).loc Cert.GateupRefIdeal.main_arg0)
          ∧ r.2.mem ((c.tc : Thread Cert.GateupRefIdeal.nD Cert.GateupRefIdeal.τ).loc Cert.GateupRefIdeal.main_arg1) = m' ((c.tc : Thread Cert.GateupRefIdeal.nD Cert.GateupRefIdeal.τ).loc Cert.GateupRefIdeal.main_arg1)
          ∧ r.2.mem ((c.tc : Thread Cert.GateupRefIdeal.nD Cert.GateupRefIdeal.τ).loc Cert.GateupRefIdeal.main_arg2) = m' ((c.tc : Thread Cert.GateupRefIdeal.nD Cert.GateupRefIdeal.τ).loc Cert.GateupRefIdeal.main_arg2)
          ∧ r.2.mem ((c.tc : Thread Cert.GateupRefIdeal.nD Cert.GateupRefIdeal.τ).loc Cert.GateupRefIdeal.main_arg3) = m' ((c.tc : Thread Cert.GateupRefIdeal.nD Cert.GateupRefIdeal.τ).loc Cert.GateupRefIdeal.main_arg3)
          ∧ r.2.mem ((c.tc : Thread Cert.GateupRefIdeal.nD Cert.GateupRefIdeal.τ).loc Cert.GateupRefIdeal.main_arg4) = m' ((c.tc : Thread Cert.GateupRefIdeal.nD Cert.GateupRefIdeal.τ).loc Cert.GateupRefIdeal.main_arg4)
          ∧ r.2.mem ((c.tc : Thread Cert.GateupRefIdeal.nD Cert.GateupRefIdeal.τ).loc Cert.GateupRefIdeal.main_arg5) = m' ((c.tc : Thread Cert.GateupRefIdeal.nD Cert.GateupRefIdeal.τ).loc Cert.GateupRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v0_0)) (v1 : (c : Dev Cert.OprojIdeal.nD) → Buf (Elt Ideal) ((c.tc : Thread Cert.OprojIdeal.nD Cert.OprojIdeal.τ).loc Cert.OprojIdeal.main_v0_1)) (v2 : (c : Dev Cert.OprojIdeal.nD) → Buf (Elt Ideal) ((c.tc : Thread Cert.OprojIdeal.nD Cert.OprojIdeal.τ).loc Cert.OprojIdeal.main_v0_2)) (v3 : (c : Dev Cert.OprojIdeal.nD) → Buf (Elt Ideal) ((c.tc : Thread Cert.OprojIdeal.nD Cert.OprojIdeal.τ).loc Cert.OprojIdeal.main_v0_3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0_0) = v0 c
          ∧ r.2.mem ((c.tc : Thread Cert.OprojIdeal.nD Cert.OprojIdeal.τ).loc Cert.OprojIdeal.main_v0_1) = v1 c
          ∧ r.2.mem ((c.tc : Thread Cert.OprojIdeal.nD Cert.OprojIdeal.τ).loc Cert.OprojIdeal.main_v0_2) = v2 c
          ∧ r.2.mem ((c.tc : Thread Cert.OprojIdeal.nD Cert.OprojIdeal.τ).loc Cert.OprojIdeal.main_v0_3) = v3 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_v0_3) = v3 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def Claim : Prop :=
  ∃ (hGateup : Cert.Gateup.Facts) (hGateupIdeal : Cert.GateupIdeal.Facts) (hGateupRefIdeal : Cert.GateupRefIdeal.Facts) (hDown : Cert.Down.Facts) (hDownIdeal : Cert.DownIdeal.Facts) (hDownRefIdeal : Cert.DownRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts),
    quiescent_Gateup (hGateup := hGateup)
    ∧ quiescent_GateupIdeal (hGateupIdeal := hGateupIdeal)
    ∧ quiescent_GateupRefIdeal (hGateupRefIdeal := hGateupRefIdeal)
    ∧ quiescent_Down (hDown := hDown)
    ∧ quiescent_DownIdeal (hDownIdeal := hDownIdeal)
    ∧ quiescent_DownRefIdeal (hDownRefIdeal := hDownRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ preserves_Gateup_GateupIdeal
    ∧ algebraic_GateupIdeal_GateupRefIdeal (hGateupIdeal := hGateupIdeal) (hGateupRefIdeal := hGateupRefIdeal)
    ∧ preserves_Down_DownIdeal
    ∧ algebraic_DownIdeal_DownRefIdeal (hDownIdeal := hDownIdeal) (hDownRefIdeal := hDownRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
-- ==== Gateup.lean ====
abbrev S1024x4096 : Shape := ⟨2, ![1024, 4096]⟩
abbrev S1024x1 : Shape := ⟨2, ![1024, 1]⟩
abbrev S4096x7168 : Shape := ⟨2, ![4096, 7168]⟩
abbrev S1x7168 : Shape := ⟨2, ![1, 7168]⟩
abbrev S1024x7168 : Shape := ⟨2, ![1024, 7168]⟩
abbrev S8x128 : Shape := ⟨2, ![8, 128]⟩
abbrev S4096x512 : Shape := ⟨2, ![4096, 512]⟩
abbrev S1x512 : Shape := ⟨2, ![1, 512]⟩
abbrev S1024x512 : Shape := ⟨2, ![1024, 512]⟩
abbrev S1024x128 : Shape := ⟨2, ![1024, 128]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S1024x4096, .fp8e4m3⟩
  | .hbm, ⟨1, _⟩ => ⟨S1024x1, .f32⟩
  | .hbm, ⟨2, _⟩ => ⟨S4096x7168, .fp8e4m3⟩
  | .hbm, ⟨3, _⟩ => ⟨S4096x7168, .fp8e4m3⟩
  | .hbm, ⟨4, _⟩ => ⟨S1x7168, .f32⟩
  | .hbm, ⟨5, _⟩ => ⟨S1x7168, .f32⟩
  | .hbm, ⟨6, _⟩ => ⟨S1024x7168, .f32⟩
  | .hbm, ⟨7, _⟩ => ⟨S1024x1, .f32⟩
  | .hbm, ⟨8, _⟩ => ⟨S8x128, .f32⟩
  | .local _ .vmem, ⟨0, _⟩ => ⟨S1024x4096, .fp8e4m3⟩
  | .local _ .vmem, ⟨1, _⟩ => ⟨S1024x1, .f32⟩
  | .local _ .vmem, ⟨2, _⟩ => ⟨S4096x512, .fp8e4m3⟩
  | .local _ .vmem, ⟨3, _⟩ => ⟨S4096x512, .fp8e4m3⟩
  | .local _ .vmem, ⟨4, _⟩ => ⟨S4096x512, .fp8e4m3⟩
  | .local _ .vmem, ⟨5, _⟩ => ⟨S4096x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x1, .f32⟩
  | .local _ .vmem, ⟨13, _⟩ => ⟨S8x128, .f32⟩
  | .local _ .vmem, ⟨14, _⟩ => ⟨S1024x128, .f32⟩
  | _, _ => ⟨S1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![14], ![false]⟩

def k0_cond3 (i : grid0.Coords) : BitVec 1 :=
  let arg0 : BitVec 32 := BitVec.ofNat 32 (i 0).val
  let c13_i32 : BitVec 32 := 13#32
  let v34 : BitVec 1 := Scalar.cmpi .eq arg0 c13_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GateupRefIdeal.lean ====
abbrev S1024x4096 : Shape := ⟨2, ![1024, 4096]⟩
abbrev S1024x1 : Shape := ⟨2, ![1024, 1]⟩
abbrev S4096x7168 : Shape := ⟨2, ![4096, 7168]⟩
abbrev S1x7168 : Shape := ⟨2, ![1, 7168]⟩
abbrev S1024x7168 : Shape := ⟨2, ![1024, 7168]⟩
abbrev S8x128 : Shape := ⟨2, ![8, 128]⟩
abbrev S1024 : Shape := ⟨1, ![1024]⟩
abbrev S1024x256 : Shape := ⟨2, ![1024, 256]⟩

abbrev nBuf : Space → Nat
  | .hbm => 9
  | .vmem => 9
  | .smem => 0
  | _ => 0

abbrev bufTy : (tb : Table) → Fin (tcTables nBuf tb) → BufTy
  | .hbm, ⟨0, _⟩ => ⟨S1024x4096, .fp8e4m3⟩
  | .hbm, ⟨1, _⟩ => ⟨S1024x1, .f32⟩
  | .hbm, ⟨2, _⟩ => ⟨S4096x7168, .fp8e4m3⟩
  | .hbm, ⟨3, _⟩ => ⟨S4096x7168, .fp8e4m3⟩
  | .hbm, ⟨4, _⟩ => ⟨S1x7168, .f32⟩
  | .hbm, ⟨5, _⟩ => ⟨S1x7168, .f32⟩
  | .hbm, ⟨6, _⟩ => ⟨S1024x7168, .f32⟩
  | .hbm, ⟨7, _⟩ => ⟨S1024x1, .f32⟩
  | .hbm, ⟨8, _⟩ => ⟨S8x128, .f32⟩
  | .local _ .vmem, ⟨0, _⟩ => ⟨S1024x4096, .fp8e4m3⟩
  | .local _ .vmem, ⟨1, _⟩ => ⟨S1024x1, .f32⟩
  | .local _ .vmem, ⟨2, _⟩ => ⟨S4096x7168, .fp8e4m3⟩
  | .local _ .vmem, ⟨3, _⟩ => ⟨S4096x7168, .fp8e4m3⟩
  | .local _ .vmem, ⟨4, _⟩ => ⟨S1x7168, .f32⟩
  | .local _ .vmem, ⟨5, _⟩ => ⟨S1x7168, .f32⟩
  | .local _ .vmem, ⟨6, _⟩ => ⟨S1024x7168, .f32⟩
  | .local _ .vmem, ⟨7, _⟩ => ⟨S1024x1, .f32⟩
  | .local _ .vmem, ⟨8, _⟩ => ⟨S8x128, .f32⟩
  | _, _ => ⟨S1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Down.lean ====
abbrev S1024x7168 : Shape := ⟨2, ![1024, 7168]⟩
abbrev S1024x1 : Shape := ⟨2, ![1024, 1]⟩
abbrev S7168x4096 : Shape := ⟨2, ![7168, 4096]⟩
abbrev S1x4096 : Shape := ⟨2, ![1, 4096]⟩
abbrev S1024x4096 : Shape := ⟨2, ![1024, 4096]⟩
abbrev S1x1024x4096 : Shape := ⟨3, ![1, 1024, 4096]⟩
abbrev S512x1024 : Shape := ⟨2, ![512, 1024]⟩
abbrev S512x1 : Shape := ⟨2, ![512, 1]⟩
abbrev S512x4096 : Shape := ⟨2, ![512, 4096]⟩
abbrev S1x512x4096 : Shape := ⟨3, ![1, 512, 4096]⟩

abbrev nBuf : Space → Nat
  | .hbm => 7
  | .vmem => 14
  | .smem => 0
  | _ => 0

abbrev bufTy : (tb : Table) → Fin (tcTables nBuf tb) → BufTy
  | .hbm, ⟨0, _⟩ => ⟨S1024x7168, .f32⟩
  | .hbm, ⟨1, _⟩ => ⟨S1024x1, .f32⟩
  | .hbm, ⟨2, _⟩ => ⟨S7168x4096, .fp8e4m3⟩
  | .hbm, ⟨3, _⟩ => ⟨S1x4096, .f32⟩
  | .hbm, ⟨4, _⟩ => ⟨S1024x4096, .f32⟩
  | .hbm, ⟨5, _⟩ => ⟨S1x1024x4096, .bf16⟩
  | .hbm, ⟨6, _⟩ => ⟨S1024x7168, .fp8e4m3⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1024x4096, .fp8e4m3⟩
  | .local _ .vmem, ⟨5, _⟩ => ⟨S1024x4096, .fp8e4m3⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S1x512x4096, .bf16⟩
  | .local _ .vmem, ⟨10, _⟩ => ⟨S1x512x4096, .bf16⟩
  | .local _ .vmem, ⟨11, _⟩ => ⟨S512x1024, .fp8e4m3⟩
  | .local _ .vmem, ⟨12, _⟩ => ⟨S512x1024, .fp8e4m3⟩
  | .local _ .vmem, ⟨13, _⟩ => ⟨S512x4096, .f32⟩
  | _, _ => ⟨S1024x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 7], ![false, false]⟩

def k0_cond2 (i : grid0.Coords) : BitVec 1 :=
  let arg1 : BitVec 32 := BitVec.ofNat 32 (i 1).val
  let c6_i32 : BitVec 32 := 6#32
  let v108 : BitVec 1 := Scalar.cmpi .eq arg1 c6_i32
  let v109 : BitVec 32 := Scalar.extui v108
  let c0_i32_34 : BitVec 32 := 0#32
  let v110 : BitVec 1 := Scalar.cmpi .ne v109 c0_i32_34
  v110

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S1024x7168 : Shape := ⟨2, ![1024, 7168]⟩
abbrev S1024x1 : Shape := ⟨2, ![1024, 1]⟩
abbrev S7168x4096 : Shape := ⟨2, ![7168, 4096]⟩
abbrev S1x4096 : Shape := ⟨2, ![1, 4096]⟩
abbrev S1024x4096 : Shape := ⟨2, ![1024, 4096]⟩
abbrev S1x1024x4096 : Shape := ⟨3, ![1, 1024, 4096]⟩
abbrev S1024x256 : Shape := ⟨2, ![1024, 256]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S1024x7168, .f32⟩
  | .hbm, ⟨1, _⟩ => ⟨S1024x1, .f32⟩
  | .hbm, ⟨2, _⟩ => ⟨S7168x4096, .fp8e4m3⟩
  | .hbm, ⟨3, _⟩ => ⟨S1x4096, .f32⟩
  | .hbm, ⟨4, _⟩ => ⟨S1024x4096, .f32⟩
  | .hbm, ⟨5, _⟩ => ⟨S1x1024x4096, .bf16⟩
  | .hbm, ⟨6, _⟩ => ⟨S1024x7168, .fp8e4m3⟩
  | .local _ .vmem, ⟨0, _⟩ => ⟨S1024x7168, .f32⟩
  | .local _ .vmem, ⟨1, _⟩ => ⟨S1024x1, .f32⟩
  | .local _ .vmem, ⟨2, _⟩ => ⟨S7168x4096, .fp8e4m3⟩
  | .local _ .vmem, ⟨3, _⟩ => ⟨S1x4096, .f32⟩
  | .local _ .vmem, ⟨4, _⟩ => ⟨S1024x4096, .f32⟩
  | .local _ .vmem, ⟨5, _⟩ => ⟨S1x1024x4096, .bf16⟩
  | .local _ .vmem, ⟨6, _⟩ => ⟨S1024x7168, .fp8e4m3⟩
  | _, _ => ⟨S1024x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Oproj.lean ====
abbrev S1024x2048 : Shape := ⟨2, ![1024, 2048]⟩
abbrev S1024x1 : Shape := ⟨2, ![1024, 1]⟩
abbrev S2048x4096 : Shape := ⟨2, ![2048, 4096]⟩
abbrev S1x4096 : Shape := ⟨2, ![1, 4096]⟩
abbrev S1024x4096 : Shape := ⟨2, ![1024, 4096]⟩
abbrev S8x128 : Shape := ⟨2, ![8, 128]⟩
abbrev S256x2048 : Shape := ⟨2, ![256, 2048]⟩
abbrev S256x1 : Shape := ⟨2, ![256, 1]⟩
abbrev S256x4096 : Shape := ⟨2, ![256, 4096]⟩
abbrev S256x128 : Shape := ⟨2, ![256, 128]⟩
abbrev S128x256 : Shape := ⟨2, ![128, 256]⟩
abbrev S8x256 : Shape := ⟨2, ![8, 256]⟩
abbrev S256x8 : Shape := ⟨2, ![256, 8]⟩
abbrev S256 : Shape := ⟨1, ![256]⟩
abbrev S2x128 : Shape := ⟨2, ![2, 128]⟩

abbrev nBuf : Space → Nat
  | .hbm => 10
  | .vmem => 16
  | .smem => 0
  | _ => 0

abbrev bufTy : (tb : Table) → Fin (tcTables nBuf tb) → BufTy
  | .hbm, ⟨0, _⟩ => ⟨S1024x2048, .fp8e4m3⟩
  | .hbm, ⟨1, _⟩ => ⟨S1024x1, .f32⟩
  | .hbm, ⟨2, _⟩ => ⟨S2048x4096, .fp8e4m3⟩
  | .hbm, ⟨3, _⟩ => ⟨S1x4096, .f32⟩
  | .hbm, ⟨4, _⟩ => ⟨S1024x4096, .bf16⟩
  | .hbm, ⟨5, _⟩ => ⟨S1x4096, .bf16⟩
  | .hbm, ⟨6, _⟩ => ⟨S1024x4096, .f32⟩
  | .hbm, ⟨7, _⟩ => ⟨S1024x4096, .fp8e4m3⟩
  | .hbm, ⟨8, _⟩ => ⟨S1024x1, .f32⟩
  | .hbm, ⟨9, _⟩ => ⟨S8x128, .f32⟩
  | .local _ .vmem, ⟨0, _⟩ => ⟨S256x2048, .fp8e4m3⟩
  | .local _ .vmem, ⟨1, _⟩ => ⟨S256x2048, .fp8e4m3⟩
  | .local _ .vmem, ⟨2, _⟩ => ⟨S256x1, .f32⟩
  | .local _ .vmem, ⟨3, _⟩ => ⟨S256x1, .f32⟩
  | .local _ .vmem, ⟨4, _⟩ => ⟨S2048x4096, .fp8e4m3⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S1x4096, .bf16⟩
  | .local _ .vmem, ⟨9, _⟩ => ⟨S256x4096, .f32⟩
  | .local _ .vmem, ⟨10, _⟩ => ⟨S256x4096, .f32⟩
  | .local _ .vmem, ⟨11, _⟩ => ⟨S256x4096, .fp8e4m3⟩
  | .local _ .vmem, ⟨12, _⟩ => ⟨S256x4096, .fp8e4m3⟩
  | .local _ .vmem, ⟨13, _⟩ => ⟨S256x1, .f32⟩
  | .local _ .vmem, ⟨14, _⟩ => ⟨S256x1, .f32⟩
  | .local _ .vmem, ⟨15, _⟩ => ⟨S8x128, .f32⟩
  | _, _ => ⟨S1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c2_i32_55 : BitVec 32 := 2#32
  let v286 : BitVec 32 := Scalar.muli arg0 c2_i32_55
  let v288 : Index := Scalar.indexCast v286
  let c0_56 : Index := 0#32
  ![v288.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OprojRefIdeal.lean ====
abbrev S1024x2048 : Shape := ⟨2, ![1024, 2048]⟩
abbrev S1024x1 : Shape := ⟨2, ![1024, 1]⟩
abbrev S2048x4096 : Shape := ⟨2, ![2048, 4096]⟩
abbrev S1x4096 : Shape := ⟨2, ![1, 4096]⟩
abbrev S1024x4096 : Shape := ⟨2, ![1024, 4096]⟩
abbrev S8x128 : Shape := ⟨2, ![8, 128]⟩
abbrev S1024 : Shape := ⟨1, ![1024]⟩
abbrev S1024x256 : Shape := ⟨2, ![1024, 256]⟩

abbrev nBuf : Space → Nat
  | .hbm => 10
  | .vmem => 10
  | .smem => 0
  | _ => 0

abbrev bufTy : (tb : Table) → Fin (tcTables nBuf tb) → BufTy
  | .hbm, ⟨0, _⟩ => ⟨S1024x2048, .fp8e4m3⟩
  | .hbm, ⟨1, _⟩ => ⟨S1024x1, .f32⟩
  | .hbm, ⟨2, _⟩ => ⟨S2048x4096, .fp8e4m3⟩
  | .hbm, ⟨3, _⟩ => ⟨S1x4096, .f32⟩
  | .hbm, ⟨4, _⟩ => ⟨S1024x4096, .bf16⟩
  | .hbm, ⟨5, _⟩ => ⟨S1x4096, .bf16⟩
  | .hbm, ⟨6, _⟩ => ⟨S1024x4096, .f32⟩
  | .hbm, ⟨7, _⟩ => ⟨S1024x4096, .fp8e4m3⟩
  | .hbm, ⟨8, _⟩ => ⟨S1024x1, .f32⟩
  | .hbm, ⟨9, _⟩ => ⟨S8x128, .f32⟩
  | .local _ .vmem, ⟨0, _⟩ => ⟨S1024x2048, .fp8e4m3⟩
  | .local _ .vmem, ⟨1, _⟩ => ⟨S1024x1, .f32⟩
  | .local _ .vmem, ⟨2, _⟩ => ⟨S2048x4096, .fp8e4m3⟩
  | .local _ .vmem, ⟨3, _⟩ => ⟨S1x4096, .f32⟩
  | .local _ .vmem, ⟨4, _⟩ => ⟨S1024x4096, .bf16⟩
  | .local _ .vmem, ⟨5, _⟩ => ⟨S1x4096, .bf16⟩
  | .local _ .vmem, ⟨6, _⟩ => ⟨S1024x4096, .f32⟩
  | .local _ .vmem, ⟨7, _⟩ => ⟨S1024x4096, .fp8e4m3⟩
  | .local _ .vmem, ⟨8, _⟩ => ⟨S1024x1, .f32⟩
  | .local _ .vmem, ⟨9, _⟩ => ⟨S8x128, .f32⟩
  | _, _ => ⟨S1024x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Qkv.lean ====
abbrev S1024x4096 : Shape := ⟨2, ![1024, 4096]⟩
abbrev S1x4096 : Shape := ⟨2, ![1, 4096]⟩
abbrev S4096x2048 : Shape := ⟨2, ![4096, 2048]⟩
abbrev S4096x512 : Shape := ⟨2, ![4096, 512]⟩
abbrev S1x2048 : Shape := ⟨2, ![1, 2048]⟩
abbrev S1x512 : Shape := ⟨2, ![1, 512]⟩
abbrev S1024x128 : Shape := ⟨2, ![1024, 128]⟩
abbrev S1024x1 : Shape := ⟨2, ![1024, 1]⟩
abbrev S8x128 : Shape := ⟨2, ![8, 128]⟩
abbrev S1024x3072 : Shape := ⟨2, ![1024, 3072]⟩
abbrev S1024x512 : Shape := ⟨2, ![1024, 512]⟩
abbrev S128x4096 : Shape := ⟨2, ![128, 4096]⟩
abbrev S128x128 : Shape := ⟨2, ![128, 128]⟩
abbrev S128x8 : Shape := ⟨2, ![128, 8]⟩
abbrev S128x1 : Shape := ⟨2, ![128, 1]⟩
abbrev S128 : Shape := ⟨1, ![128]⟩

abbrev nBuf : Space → Nat
  | .hbm => 14
  | .vmem => 17
  | .smem => 0
  | _ => 0

abbrev bufTy : (tb : Table) → Fin (tcTables nBuf tb) → BufTy
  | .hbm, ⟨0, _⟩ => ⟨S1024x4096, .bf16⟩
  | .hbm, ⟨1, _⟩ => ⟨S1x4096, .bf16⟩
  | .hbm, ⟨2, _⟩ => ⟨S4096x2048, .fp8e4m3⟩
  | .hbm, ⟨3, _⟩ => ⟨S4096x512, .fp8e4m3⟩
  | .hbm, ⟨4, _⟩ => ⟨S4096x512, .fp8e4m3⟩
  | .hbm, ⟨5, _⟩ => ⟨S1x2048, .f32⟩
  | .hbm, ⟨6, _⟩ => ⟨S1x512, .f32⟩
  | .hbm, ⟨7, _⟩ => ⟨S1x512, .f32⟩
  | .hbm, ⟨8, _⟩ => ⟨S1024x128, .f32⟩
  | .hbm, ⟨9, _⟩ => ⟨S1024x128, .f32⟩
  | .hbm, ⟨10, _⟩ => ⟨S1024x4096, .fp8e4m3⟩
  | .hbm, ⟨11, _⟩ => ⟨S1024x1, .f32⟩
  | .hbm, ⟨12, _⟩ => ⟨S8x128, .f32⟩
  | .hbm, ⟨13, _⟩ => ⟨S1024x3072, .bf16⟩
  | .local _ .vmem, ⟨0, _⟩ => ⟨S1024x4096, .bf16⟩
  | .local _ .vmem, ⟨1, _⟩ => ⟨S1x4096, .bf16⟩
  | .local _ .vmem, ⟨2, _⟩ => ⟨S4096x512, .fp8e4m3⟩
  | .local _ .vmem, ⟨3, _⟩ => ⟨S4096x512, .fp8e4m3⟩
  | .local _ .vmem, ⟨4, _⟩ => ⟨S4096x512, .fp8e4m3⟩
  | .local _ .vmem, ⟨5, _⟩ => ⟨S4096x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x128, .f32⟩
  | .local _ .vmem, ⟨11, _⟩ => ⟨S1024x128, .f32⟩
  | .local _ .vmem, ⟨12, _⟩ => ⟨S1024x4096, .fp8e4m3⟩
  | .local _ .vmem, ⟨13, _⟩ => ⟨S1024x1, .f32⟩
  | .local _ .vmem, ⟨14, _⟩ => ⟨S8x128, .f32⟩
  | .local _ .vmem, ⟨15, _⟩ => ⟨S1024x512, .bf16⟩
  | .local _ .vmem, ⟨16, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v14 : BitVec 32 := Scalar.addi c0_i32_6 c8_i32
  let c1_i32 : BitVec 32 := 1#32
  ⟨c0_i32_6, v14, c1_i32⟩
def k0_off1 (k0_t1 : Fin k0_t1_loop.trips) : Fin 2 → Nat :=
  let c0_i32_6 : BitVec 32 := 0#32
  let c1_i32 : BitVec 32 := 1#32
  let arg15 : BitVec 32 := Scf.iv c0_i32_6 c1_i32 k0_t1
  let c128_i32 : BitVec 32 := 128#32
  let v19 : BitVec 32 := Scalar.muli arg15 c128_i32
  let v20 : Index := Scalar.indexCast v19
  let c0_12 : Index := 0#32
  ![v20.toNat, 0]
def k0_off2 (k0_t1 : Fin k0_t1_loop.trips) : Fin 2 → Nat :=
  let c0_i32_6 : BitVec 32 := 0#32
  let c1_i32 : BitVec 32 := 1#32
  let arg15 : BitVec 32 := Scf.iv c0_i32_6 c1_i32 k0_t1
  let c128_i32 : BitVec 32 := 128#32
  let v19 : BitVec 32 := Scalar.muli arg15 c128_i32
  let v294 : Index := Scalar.indexCast v19
  let c0_56 : Index := 0#32
  ![v294.toNat, 0]
def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c4_i32_2 : BitVec 32 := 4#32
  let v6 : BitVec 1 := Scalar.cmpi .eq arg0 c4_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c5_i32 : BitVec 32 := 5#32
  let v9 : BitVec 1 := Scalar.cmpi .eq arg0 c5_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkvRefIdeal.lean ====
abbrev S1024x4096 : Shape := ⟨2, ![1024, 4096]⟩
abbrev S1x4096 : Shape := ⟨2, ![1, 4096]⟩
abbrev S4096x2048 : Shape := ⟨2, ![4096, 2048]⟩
abbrev S4096x512 : Shape := ⟨2, ![4096, 512]⟩
abbrev S1x2048 : Shape := ⟨2, ![1, 2048]⟩
abbrev S1x512 : Shape := ⟨2, ![1, 512]⟩
abbrev S1024x128 : Shape := ⟨2, ![1024, 128]⟩
abbrev S1024x1 : Shape := ⟨2, ![1024, 1]⟩
abbrev S8x128 : Shape := ⟨2, ![8, 128]⟩
abbrev S1024x3072 : Shape := ⟨2, ![1024, 3072]⟩
abbrev S1024 : Shape := ⟨1, ![1024]⟩
abbrev S1024x256 : Shape := ⟨2, ![1024, 256]⟩
abbrev S1024x64 : Shape := ⟨2, ![1024, 64]⟩
abbrev S1024x2048 : Shape := ⟨2, ![1024, 2048]⟩
abbrev S1024x16x128 : Shape := ⟨3, ![1024, 16, 128]⟩
abbrev S1024x16x64 : Shape := ⟨3, ![1024, 16, 64]⟩
abbrev S1024x1x128 : Shape := ⟨3, ![1024, 1, 128]⟩
abbrev S1024x512 : Shape := ⟨2, ![1024, 512]⟩
abbrev S1024x4x128 : Shape := ⟨3, ![1024, 4, 128]⟩
abbrev S1024x4x64 : Shape := ⟨3, ![1024, 4, 64]⟩

abbrev nBuf : Space → Nat
  | .hbm => 14
  | .vmem => 14
  | .smem => 0
  | _ => 0

abbrev bufTy : (tb : Table) → Fin (tcTables nBuf tb) → BufTy
  | .hbm, ⟨0, _⟩ => ⟨S1024x4096, .bf16⟩
  | .hbm, ⟨1, _⟩ => ⟨S1x4096, .bf16⟩
  | .hbm, ⟨2, _⟩ => ⟨S4096x2048, .fp8e4m3⟩
  | .hbm, ⟨3, _⟩ => ⟨S4096x512, .fp8e4m3⟩
  | .hbm, ⟨4, _⟩ => ⟨S4096x512, .fp8e4m3⟩
  | .hbm, ⟨5, _⟩ => ⟨S1x2048, .f32⟩
  | .hbm, ⟨6, _⟩ => ⟨S1x512, .f32⟩
  | .hbm, ⟨7, _⟩ => ⟨S1x512, .f32⟩
  | .hbm, ⟨8, _⟩ => ⟨S1024x128, .f32⟩
  | .hbm, ⟨9, _⟩ => ⟨S1024x128, .f32⟩
  | .hbm, ⟨10, _⟩ => ⟨S1024x4096, .fp8e4m3⟩
  | .hbm, ⟨11, _⟩ => ⟨S1024x1, .f32⟩
  | .hbm, ⟨12, _⟩ => ⟨S8x128, .f32⟩
  | .hbm, ⟨13, _⟩ => ⟨S1024x3072, .bf16⟩
  | .local _ .vmem, ⟨0, _⟩ => ⟨S1024x4096, .bf16⟩
  | .local _ .vmem, ⟨1, _⟩ => ⟨S1x4096, .bf16⟩
  | .local _ .vmem, ⟨2, _⟩ => ⟨S4096x2048, .fp8e4m3⟩
  | .local _ .vmem, ⟨3, _⟩ => ⟨S4096x512, .fp8e4m3⟩
  | .local _ .vmem, ⟨4, _⟩ => ⟨S4096x512, .fp8e4m3⟩
  | .local _ .vmem, ⟨5, _⟩ => ⟨S1x2048, .f32⟩
  | .local _ .vmem, ⟨6, _⟩ => ⟨S1x512, .f32⟩
  | .local _ .vmem, ⟨7, _⟩ => ⟨S1x512, .f32⟩
  | .local _ .vmem, ⟨8, _⟩ => ⟨S1024x128, .f32⟩
  | .local _ .vmem, ⟨9, _⟩ => ⟨S1024x128, .f32⟩
  | .local _ .vmem, ⟨10, _⟩ => ⟨S1024x4096, .fp8e4m3⟩
  | .local _ .vmem, ⟨11, _⟩ => ⟨S1024x1, .f32⟩
  | .local _ .vmem, ⟨12, _⟩ => ⟨S8x128, .f32⟩
  | .local _ .vmem, ⟨13, _⟩ => ⟨S1024x3072, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x3072 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.GateupBlock.lean ====
/-
  What one grid point of the gate/up kernel leaves behind, as values of its argument blocks.

  At every point the output block is `hblk`, the gated product of the point's blocks; the carried scratch becomes `pblk`
  at the first point and the maximum of what it was with `pblk` at every later one; at the last point the scale and its
  dense copy are computed from the carried maximum (`scaleOf`, `denseOf`).
-/
module

public import proofs.«01_k».proof.Proof.Gen.GateupIdeal.Value

@[expose] public section

noncomputable section

namespace Cert.GateupIdeal.Block

open Cert.GateupIdeal Cert.GateupIdeal.Gen Cert.GateupIdeal.Value Idealize.ShloMosaic Idealize.ShloMosaic.TcCoe Idealize.SL.Sem

variable {F : FTy → Type} [FloatOps F]
variable (m : (ℓ : Loc nD τ sig) → Buf (Elt F) ℓ)

/-- The output block of point `t`: the gated product of its blocks. -/
abbrev hblk (c : Dev nD) (t : Fin cfg0.N) : FVec F S1024x512 .f32 :=
  k0_pay9 (iblk m c 0 t) (iblk m c 1 t) (iblk m c 2 t) (iblk m c 4 t) (iblk m c 3 t) (iblk m c 5 t)

/-- Point `t`'s lane-wise maximum of absolute values: four groups of 128 lanes folded into one. -/
abbrev pblk (c : Dev nD) (t : Fin cfg0.N) : FVec F S1024x128 .f32 :=
  k0_pay10 (iblk m c 0 t) (iblk m c 1 t) (iblk m c 2 t) (iblk m c 4 t) (iblk m c 3 t) (iblk m c 5 t)

/-- The row scales from the carried maximum `v`. -/
abbrev scaleOf (v : FVec F S1024x128 .f32) : FVec F S1024x1 .f32 :=
  k0_pay1 (k0_pay6 (k0_pay4 v) (k0_pay5 v) 8#32) (k0_pay7 (k0_pay3 v) (k0_pay4 v) (k0_pay5 v) 8#32) k0_pay8

/-- The row scales in an 8x128 block. -/
abbrev denseOf (v : FVec F S1024x128 .f32) : FVec F S8x128 .f32 :=
  k0_pay2 (k0_pay6 (k0_pay4 v) (k0_pay5 v) 8#32) (k0_pay7 (k0_pay3 v) (k0_pay4 v) (k0_pay5 v) 8#32) k0_pay8

theorem hz : (![0, 0] : Fin 2 → Nat) = fun _ => 0 := funext fun a => by fin_cases a <;> rfl

/-- The carried merge is the plain maximum: the shape cast around it keeps the shape. -/
theorem pay12_eq (v0 : Vec F S1024x4096 .fp8e4m3) (v1 : Vec F S1024x1 .f32) (v2 : Vec F S4096x512 .fp8e4m3) (v6 : Vec F S1x512 .f32)
    (v9 : Vec F S4096x512 .fp8e4m3) (v13 : Vec F S1x512 .f32) (v37 : Vec F S1024x128 .f32) :
    k0_pay12 v0 v1 v2 v6 v9 v13 v37 = maximumf v37 (k0_pay10 v0 v1 v2 v6 v9 v13) := by
  unfold k0_pay12
  dsimp only
  rw [shapeCast_self]

variable (c : Dev nD) (t : Fin cfg0.N) (acc : Vec F S1024x512 .f32 × Vec F S1024x1 .f32 × Vec F S8x128 .f32 × Vec F S1024x128 .f32)

/-- At the first point the output block is `hblk`. -/
theorem out_A (h0 : t.val % 14 = 0) (h1 : ¬1 ≤ t.val) (h2 : ¬t.val % 14 = 13) : (stAt0 m c t.val t.isLt acc).1 = hblk m c t := by
  rw [stAt0_A m c t acc h0 h1 h2]
  dsimp only
  unfold out0_A_6
  rw [View.read_writes_eq_canon _ _ _ (cover0_A_6 _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, View.ld_unit_zero (S := S1024x4096) hz, View.ld_unit_zero (S := S1024x1) hz,
    View.ld_unit_zero (S := S4096x512) hz, View.ld_unit_zero (S := S1x512) hz]

/-- At the first point the carried maximum becomes `pblk`. -/
theorem carry_A (h0 : t.val % 14 = 0) (h1 : ¬1 ≤ t.val) (h2 : ¬t.val % 14 = 13) : (stAt0 m c t.val t.isLt acc).2.2.2 = pblk m c t := by
  rw [stAt0_A m c t acc h0 h1 h2]
  dsimp only
  unfold sout0_A_0
  rw [View.read_writes_eq_canon _ _ _ (scover0_A_0 _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, View.ld_unit_zero (S := S1024x4096) hz, View.ld_unit_zero (S := S1024x1) hz,
    View.ld_unit_zero (S := S4096x512) hz, View.ld_unit_zero (S := S1x512) hz]
  unfold k0_pay11
  dsimp only
  rw [shapeCast_self]

/-- At a middle point the output block is `hblk`. -/
theorem out_B (h0 : ¬t.val % 14 = 0) (h1 : 1 ≤ t.val) (h2 : ¬t.val % 14 = 13) : (stAt0 m c t.val t.isLt acc).1 = hblk m c t := by
  rw [stAt0_B m c t acc h0 h1 h2]
  dsimp only
  unfold out0_B_6
  rw [View.read_writes_eq_canon _ _ _ (cover0_B_6 _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, View.ld_unit_zero (S := S1024x4096) hz, View.ld_unit_zero (S := S1024x1) hz,
    View.ld_unit_zero (S := S4096x512) hz, View.ld_unit_zero (S := S1x512) hz]

/-- At a middle point the carried maximum takes `pblk` in. -/
theorem carry_B (h0 : ¬t.val % 14 = 0) (h1 : 1 ≤ t.val) (h2 : ¬t.val % 14 = 13) :
    (stAt0 m c t.val t.isLt acc).2.2.2 = maximumf acc.2.2.2 (pblk m c t) := by
  rw [stAt0_B m c t acc h0 h1 h2]
  dsimp only
  unfold sout0_B_0
  rw [View.read_writes_eq_canon _ _ _ (scover0_B_0 _ _ _ _ _ _ _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread, View.ld_unit_zero (S := S1024x4096) hz,
    View.ld_unit_zero (S := S1024x1) hz, View.ld_unit_zero (S := S4096x512) hz, View.ld_unit_zero (S := S1x512) hz,
    View.ld_unit_zero (S := S1024x128) hz, pay12_eq]

/-- At the last point the output block is `hblk`. -/
theorem out_C (h0 : ¬t.val % 14 = 0) (h1 : 1 ≤ t.val) (h2 : t.val % 14 = 13) : (stAt0 m c t.val t.isLt acc).1 = hblk m c t := by
  rw [stAt0_C m c t acc h0 h1 h2]
  dsimp only
  unfold out0_C_6
  rw [View.read_writes_eq_canon _ _ _ (cover0_C_6 _ _ _ _ _ _ _ _ _ _ _ _ _ _ _ _ _ _ _ _ _ _ _ _ _ _ _ _ _ _ _ _)]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, View.ld_unit_zero (S := S1024x4096) hz, View.ld_unit_zero (S := S1024x1) hz,
    View.ld_unit_zero (S := S4096x512) hz, View.ld_unit_zero (S := S1x512) hz]

/-- At the last point the scale is `scaleOf` the carried maximum with `pblk` taken in. -/
theorem scale_C (h0 : ¬t.val % 14 = 0) (h1 : 1 ≤ t.val) (h2 : t.val % 14 = 13) :
    (stAt0 m c t.val t.isLt acc).2.1 = scaleOf (maximumf acc.2.2.2 (pblk m c t)) := by
  rw [stAt0_C m c t acc h0 h1 h2]
  dsimp only
  unfold out0_C_7
  rw [View.read_writes_eq_canon _ _ _ (cover0_C_7 _ _ _ _ _ _ _ _ _ _ _ _ _ _ _ _ _ _ _ _ _ _ _ _ _ _ _ _ _ _ _ _)]
  unfold kernelRun0_C
  dsimp only
  sl_unfold_words
  rw [View.canon_unit_zero hz]
  simp only [View.readCov_unit_zero (S := S1024x128) _ hz, View.readAt_eq_ld, (hs0_0 t).read_unread, (hs0_1 t).read_unread,
    (hs0_2 t).read_unread, (hs0_3 t).read_unread, (hs0_4 t).read_unread, (hs0_5 t).read_unread, (Memref.isWhole_whole _).read_unread,
    View.ld_unit_zero (S := S1024x4096) hz, View.ld_unit_zero (S := S1024x1) hz, View.ld_unit_zero (S := S4096x512) hz,
    View.ld_unit_zero (S := S1x512) hz, View.ld_unit_zero (S := S1024x128) hz, pay12_eq]

/-- At the last point the dense copy is `denseOf` the same. -/
theorem dense_C (h0 : ¬t.val % 14 = 0) (h1 : 1 ≤ t.val) (h2 : t.val % 14 = 13) :
    (stAt0 m c t.val t.isLt acc).2.2.1 = denseOf (maximumf acc.2.2.2 (pblk m c t)) := by
  rw [stAt0_C m c t acc h0 h1 h2]
  dsimp only
  unfold out0_C_8
  rw [View.read_writes_eq_canon _ _ _ (cover0_C_8 _ _ _ _ _ _ _ _ _ _ _ _ _ _ _ _ _ _ _ _ _ _ _ _ _ _ _ _ _ _ _ _)]
  unfold kernelRun0_C
  dsimp only
  sl_unfold_words
  rw [View.canon_unit_zero hz]
  simp only [View.readCov_unit_zero (S := S1024x128) _ hz, View.readAt_eq_ld, (hs0_0 t).read_unread, (hs0_1 t).read_unread,
    (hs0_2 t).read_unread, (hs0_3 t).read_unread, (hs0_4 t).read_unread, (hs0_5 t).read_unread, (Memref.isWhole_whole _).read_unread,
    View.ld_unit_zero (S := S1024x4096) hz, View.ld_unit_zero (S := S1024x1) hz, View.ld_unit_zero (S := S4096x512) hz,
    View.ld_unit_zero (S := S1x512) hz, View.ld_unit_zero (S := S1024x128) hz, pay12_eq]

end Cert.GateupIdeal.Block

end
-- ==== Proof.GateupRefRun.lean ====
/-
  What the gate/up reference leaves in its three result arrays, as values of its arguments.

  The reference is one point over whole arrays, so each window's block is its array: the results are the reference's
  payloads at the arguments themselves (`hRef`, `scaleRef`, `denseRef`), and `run` states that the run ends there.
-/
module

public import proofs.«01_k».proof.Proof.Gen.GateupRefIdeal.Frame
public import Idealize.ShloMosaic.Lib.Pipeline.Value

@[expose] public section

noncomputable section

namespace Cert.GateupRefIdeal.Run

open Cert.GateupRefIdeal Cert.GateupRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The gated product of whole arrays: codes, their scales, the two weight matrices and the two rows of weight scales. -/
abbrev hRef (a0 : Vec F S1024x4096 .fp8e4m3) (a1 : Vec F S1024x1 .f32) (a2 a3 : Vec F S4096x7168 .fp8e4m3) (a4 a5 : Vec F S1x7168 .f32) :
    FVec F S1024x7168 .f32 := k0_pay3 a0 a1 a2 a4 a0 a1 a3 a5

/-- The row scales of the gated product. -/
abbrev scaleRef (a0 : Vec F S1024x4096 .fp8e4m3) (a1 : Vec F S1024x1 .f32) (a2 a3 : Vec F S4096x7168 .fp8e4m3) (a4 a5 : Vec F S1x7168 .f32) :
    FVec F S1024x1 .f32 := k0_pay1 (k0_pay4 a0 a1 a2 a4 a0 a1 a3 a5) (k0_pay5 a0 a1 a2 a4 a0 a1 a3 a5)

/-- The row scales laid out as 8x128. -/
abbrev denseRef (a0 : Vec F S1024x4096 .fp8e4m3) (a1 : Vec F S1024x1 .f32) (a2 a3 : Vec F S4096x7168 .fp8e4m3) (a4 a5 : Vec F S1x7168 .f32) :
    FVec F S8x128 .f32 := k0_pay2 (k0_pay4 a0 a1 a2 a4 a0 a1 a3 a5) (k0_pay5 a0 a1 a2 a4 a0 a1 a3 a5)

/-! ## Each input window's block is its argument -/

theorem iblk0 (c : Dev nD) (t : Fin cfg0.N) : (iblk m c 0 t : Vec F S1024x4096 .fp8e4m3) = m ((c : Thread nD τ).loc main_arg0) := by
  obtain rfl := fin_N0 t
  have hz' : (fun a => win0_0.index t0_0 a * main_arg0.ty.shape.size a) = fun _ => 0 := funext fun a => by fin_cases a <;> decide
  exact Memref.read_access_unit_zero (Elt F) main_arg0 hz' (fun a => by rw [congrFun hz' a]; simp) (V m c main_arg0)

theorem iblk1 (c : Dev nD) (t : Fin cfg0.N) : (iblk m c 1 t : Vec F S1024x1 .f32) = m ((c : Thread nD τ).loc main_arg1) := by
  obtain rfl := fin_N0 t
  have hz' : (fun a => win0_1.index t0_0 a * main_arg1.ty.shape.size a) = fun _ => 0 := funext fun a => by fin_cases a <;> decide
  exact Memref.read_access_unit_zero (Elt F) main_arg1 hz' (fun a => by rw [congrFun hz' a]; simp) (V m c main_arg1)

theorem iblk2 (c : Dev nD) (t : Fin cfg0.N) : (iblk m c 2 t : Vec F S4096x7168 .fp8e4m3) = m ((c : Thread nD τ).loc main_arg2) := by
  obtain rfl := fin_N0 t
  have hz' : (fun a => win0_2.index t0_0 a * main_arg2.ty.shape.size a) = fun _ => 0 := funext fun a => by fin_cases a <;> decide
  exact Memref.read_access_unit_zero (Elt F) main_arg2 hz' (fun a => by rw [congrFun hz' a]; simp) (V m c main_arg2)

theorem iblk3 (c : Dev nD) (t : Fin cfg0.N) : (iblk m c 3 t : Vec F S4096x7168 .fp8e4m3) = m ((c : Thread nD τ).loc main_arg3) := by
  obtain rfl := fin_N0 t
  have hz' : (fun a => win0_3.index t0_0 a * main_arg3.ty.shape.size a) = fun _ => 0 := funext fun a => by fin_cases a <;> decide
  exact Memref.read_access_unit_zero (Elt F) main_arg3 hz' (fun a => by rw [congrFun hz' a]; simp) (V m c main_arg3)

theorem iblk4 (c : Dev nD) (t : Fin cfg0.N) : (iblk m c 4 t : Vec F S1x7168 .f32) = m ((c : Thread nD τ).loc main_arg4) := by
  obtain rfl := fin_N0 t
  have hz' : (fun a => win0_4.index t0_0 a * main_arg4.ty.shape.size a) = fun _ => 0 := funext fun a => by fin_cases a <;> decide
  exact Memref.read_access_unit_zero (Elt F) main_arg4 hz' (fun a => by rw [congrFun hz' a]; simp) (V m c main_arg4)

theorem iblk5 (c : Dev nD) (t : Fin cfg0.N) : (iblk m c 5 t : Vec F S1x7168 .f32) = m ((c : Thread nD τ).loc main_arg5) := by
  obtain rfl := fin_N0 t
  have hz' : (fun a => win0_5.index t0_0 a * main_arg5.ty.shape.size a) = fun _ => 0 := funext fun a => by fin_cases a <;> decide
  exact Memref.read_access_unit_zero (Elt F) main_arg5 hz' (fun a => by rw [congrFun hz' a]; simp) (V m c main_arg5)

/-! ## What is stored -/

theorem out6_eq (a0 : Vec F S1024x4096 .fp8e4m3) (a1 : Vec F S1024x1 .f32) (a2 a3 : Vec F S4096x7168 .fp8e4m3) (a4 a5 : Vec F S1x7168 .f32) :
    out0_6 a0 a1 a2 a3 a4 a5 = hRef a0 a1 a2 a3 a4 a5 := by
  unfold out0_6
  rw [View.canon_unit_zero hz]
  simp only [View.ld_unit_zero (S := S1024x4096) hz, View.ld_unit_zero (S := S1024x1) hz, View.ld_unit_zero (S := S4096x7168) hz, View.ld_unit_zero (S := S1x7168) hz]

theorem out7_eq (a0 : Vec F S1024x4096 .fp8e4m3) (a1 : Vec F S1024x1 .f32) (a2 a3 : Vec F S4096x7168 .fp8e4m3) (a4 a5 : Vec F S1x7168 .f32) :
    out0_7 a0 a1 a2 a3 a4 a5 = scaleRef a0 a1 a2 a3 a4 a5 := by
  unfold out0_7 Gen.k0_pay6 Gen.k0_pay7
  rw [View.canon_unit_zero hz]
  simp only [View.ld_unit_zero (S := S1024x4096) hz, View.ld_unit_zero (S := S1024x1) hz, View.ld_unit_zero (S := S4096x7168) hz, View.ld_unit_zero (S := S1x7168) hz]

theorem out8_eq (a0 : Vec F S1024x4096 .fp8e4m3) (a1 : Vec F S1024x1 .f32) (a2 a3 : Vec F S4096x7168 .fp8e4m3) (a4 a5 : Vec F S1x7168 .f32) :
    out0_8 a0 a1 a2 a3 a4 a5 = denseRef a0 a1 a2 a3 a4 a5 := by
  unfold out0_8 Gen.k0_pay6 Gen.k0_pay7
  rw [View.canon_unit_zero hz]
  simp only [View.ld_unit_zero (S := S1024x4096) hz, View.ld_unit_zero (S := S1024x1) hz, View.ld_unit_zero (S := S4096x7168) hz, View.ld_unit_zero (S := S1x7168) hz]

/-! ## The result arrays after the run -/

theorem final6 (c : Dev nD) : (dats m 0 c).arrAt 6 cfg0.N = (hRef (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) : Vec F S1024x7168 .f32) := by
  refine (dats m 0 c).arrAt_eq_of_cover 6 _ (fun t _ => ?_) fun i => ⟨t0_0, flush0_6 _, ?_⟩
  · obtain rfl := fin_N0 t
    show (cfg0.win 6).cut (grid0.coords t0_0) ((dats m 0 c).after 6 t0_0) = _
    rw [after0_6, iblk0, iblk1, iblk2, iblk3, iblk4, iblk5, out6_eq]
    have hz' : (fun a => win0_6.index t0_0 a * main_v0_0.ty.shape.size a) = fun _ => 0 := funext fun a => by fin_cases a <;> decide
    exact (Memref.read_access_unit_zero (Elt F) main_v0_0 hz' (fun a => by rw [congrFun hz' a]; simp) _).symm
  · show i ∈ ((View.whole main_v0_0).slice (win0_6.rect t0_0)).set
    rw [View.set_slice_whole, Rect.mem_set_unit]
    intro a
    have h0 : (i 0 : Nat) < 1024 := (i 0).isLt
    have h1 : (i 1 : Nat) < 7168 := (i 1).isLt
    match a with
    | ⟨0, _⟩ => show win0_6.index t0_0 0 * win0_6.size 0 ≤ (i 0 : Nat) ∧ (i 0 : Nat) < win0_6.index t0_0 0 * win0_6.size 0 + win0_6.xsize (grid0.coords t0_0) 0
                rw [show win0_6.index t0_0 0 * win0_6.size 0 = 0 from by decide +kernel, show win0_6.xsize (grid0.coords t0_0) 0 = 1024 from by decide +kernel]; omega
    | ⟨1, _⟩ => show win0_6.index t0_0 1 * win0_6.size 1 ≤ (i 1 : Nat) ∧ (i 1 : Nat) < win0_6.index t0_0 1 * win0_6.size 1 + win0_6.xsize (grid0.coords t0_0) 1
                rw [show win0_6.index t0_0 1 * win0_6.size 1 = 0 from by decide +kernel, show win0_6.xsize (grid0.coords t0_0) 1 = 7168 from by decide +kernel]; omega

theorem final7 (c : Dev nD) : (dats m 0 c).arrAt 7 cfg0.N = (scaleRef (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) : Vec F S1024x1 .f32) := by
  refine (dats m 0 c).arrAt_eq_of_cover 7 _ (fun t _ => ?_) fun i => ⟨t0_0, flush0_7 _, ?_⟩
  · obtain rfl := fin_N0 t
    show (cfg0.win 7).cut (grid0.coords t0_0) ((dats m 0 c).after 7 t0_0) = _
    rw [after0_7, iblk0, iblk1, iblk2, iblk3, iblk4, iblk5, out7_eq]
    have hz' : (fun a => win0_7.index t0_0 a * main_v0_1.ty.shape.size a) = fun _ => 0 := funext fun a => by fin_cases a <;> decide
    exact (Memref.read_access_unit_zero (Elt F) main_v0_1 hz' (fun a => by rw [congrFun hz' a]; simp) _).symm
  · show i ∈ ((View.whole main_v0_1).slice (win0_7.rect t0_0)).set
    rw [View.set_slice_whole, Rect.mem_set_unit]
    intro a
    have h0 : (i 0 : Nat) < 1024 := (i 0).isLt
    have h1 : (i 1 : Nat) < 1 := (i 1).isLt
    match a with
    | ⟨0, _⟩ => show win0_7.index t0_0 0 * win0_7.size 0 ≤ (i 0 : Nat) ∧ (i 0 : Nat) < win0_7.index t0_0 0 * win0_7.size 0 + win0_7.xsize (grid0.coords t0_0) 0
                rw [show win0_7.index t0_0 0 * win0_7.size 0 = 0 from by decide +kernel, show win0_7.xsize (grid0.coords t0_0) 0 = 1024 from by decide +kernel]; omega
    | ⟨1, _⟩ => show win0_7.index t0_0 1 * win0_7.size 1 ≤ (i 1 : Nat) ∧ (i 1 : Nat) < win0_7.index t0_0 1 * win0_7.size 1 + win0_7.xsize (grid0.coords t0_0) 1
                rw [show win0_7.index t0_0 1 * win0_7.size 1 = 0 from by decide +kernel, show win0_7.xsize (grid0.coords t0_0) 1 = 1 from by decide +kernel]; omega

theorem final8 (c : Dev nD) : (dats m 0 c).arrAt 8 cfg0.N = (denseRef (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) : Vec F S8x128 .f32) := by
  refine (dats m 0 c).arrAt_eq_of_cover 8 _ (fun t _ => ?_) fun i => ⟨t0_0, flush0_8 _, ?_⟩
  · obtain rfl := fin_N0 t
    show (cfg0.win 8).cut (grid0.coords t0_0) ((dats m 0 c).after 8 t0_0) = _
    rw [after0_8, iblk0, iblk1, iblk2, iblk3, iblk4, iblk5, out8_eq]
    have hz' : (fun a => win0_8.index t0_0 a * main_v0_2.ty.shape.size a) = fun _ => 0 := funext fun a => by fin_cases a <;> decide
    exact (Memref.read_access_unit_zero (Elt F) main_v0_2 hz' (fun a => by rw [congrFun hz' a]; simp) _).symm
  · show i ∈ ((View.whole main_v0_2).slice (win0_8.rect t0_0)).set
    rw [View.set_slice_whole, Rect.mem_set_unit]
    intro a
    have h0 : (i 0 : Nat) < 8 := (i 0).isLt
    have h1 : (i 1 : Nat) < 128 := (i 1).isLt
    match a with
    | ⟨0, _⟩ => show win0_8.index t0_0 0 * win0_8.size 0 ≤ (i 0 : Nat) ∧ (i 0 : Nat) < win0_8.index t0_0 0 * win0_8.size 0 + win0_8.xsize (grid0.coords t0_0) 0
                rw [show win0_8.index t0_0 0 * win0_8.size 0 = 0 from by decide +kernel, show win0_8.xsize (grid0.coords t0_0) 0 = 8 from by decide +kernel]; omega
    | ⟨1, _⟩ => show win0_8.index t0_0 1 * win0_8.size 1 ≤ (i 1 : Nat) ∧ (i 1 : Nat) < win0_8.index t0_0 1 * win0_8.size 1 + win0_8.xsize (grid0.coords t0_0) 1
                rw [show win0_8.index t0_0 1 * win0_8.size 1 = 0 from by decide +kernel, show win0_8.xsize (grid0.coords t0_0) 1 = 128 from by decide +kernel]; omega

/-- THE RUN: the three results are the reference's payloads at the arguments, and the arguments are unchanged. -/
theorem run : θ_run defs (onTc (τ := τ) (main (F := F))) ⟨m, fun _ => 0, ρ⟩ fun r => ∀ c : Dev nD,
      r.2.mem ((c : Thread nD τ).loc main_v0_0) = hRef (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ∧ r.2.mem ((c : Thread nD τ).loc main_v0_1) = scaleRef (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ∧ r.2.mem ((c : Thread nD τ).loc main_v0_2) = denseRef (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 6).trans (final6 m c), ((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.GateupRefIdeal.Run

end
-- ==== Proof.Quant.lean ====
/-
  The row quantiser's power-of-two scale, as a function of one extended real number.

  The kernel finds the exponent of `t` by eight comparisons against powers of two it builds from integer bits
  (`field`, `kScale`, `kInv`); the reference counts the powers of two that lie below `t` (`rExp`, `rScale`).
  This module proves that the two agree at every `t ≥ 0`, infinity included (`kScale_eq`).
-/
module

public import Idealize.ShloMosaic.PureOps.Ideal.Laws
public import Idealize.ShloMosaic.Lib.IdealHost
public import Mathlib.Tactic.FinCases
public import Mathlib.Analysis.SpecialFunctions.Pow.Real

@[expose] public section

noncomputable section

open Idealize.ShloMosaic
open scoped BigOperators

namespace Cert.Quant

/-! ## The kernel's side -/

/-- The f32 value whose exponent field is `n` and whose other bits are zero. -/
def bitV (n : BitVec 32) : EReal := Ideal.ofBits .f32 (IntOp.shli .vector n 23#32)

/-- One bisection step: keep the bit `b` if the value it gives is still at most `t`. -/
def step (t : EReal) (n b : BitVec 32) : BitVec 32 :=
  Scalar.select (Ideal.cmp .oge t (bitV (IntOp.addi n b))) (IntOp.addi n b) n

/-- The exponent field of `t`, found bit by bit. -/
def field (t : EReal) : BitVec 32 :=
  step t (step t (step t (step t (step t (step t (step t (step t 0#32 128#32) 64#32) 32#32) 16#32) 8#32) 4#32) 2#32) 1#32

/-- The bits of `2 ^ n`, with underflow to zero and overflow to infinity. -/
def pow2Bits (n : BitVec 32) : BitVec 32 :=
  Scalar.select (IntOp.cmpi .sle (IntOp.addi n 127#32) 0#32) 0#32
    (Scalar.select (IntOp.cmpi .sge (IntOp.addi n 127#32) 255#32) 2139095040#32 (IntOp.shli .vector (IntOp.addi n 127#32) 23#32))

/-- The kernel's `2 ^ n`. -/
def pow2 (n : BitVec 32) : EReal := Ideal.ofBits .f32 (pow2Bits n)

/-- The exponent the kernel chooses from a found field `f` for a row of absolute maximum `a`. -/
def expOf (f : BitVec 32) (a : EReal) : BitVec 32 :=
  Scalar.select (IntOp.ori (IntOp.ori (IntOp.cmpi .eq f 0#32) (IntOp.cmpi .eq f 255#32)) (Ideal.cmp .oeq a (Ideal.ofBits .f32 0x00000000#32)))
    0#32 (IntOp.subi f 126#32)

/-- The kernel's scale of a row whose absolute maximum is `a` and whose maximum over 448 is `t`. -/
def kScale (t a : EReal) : EReal := pow2 (expOf (field t) a)

/-- The kernel's inverse scale of that row. -/
def kInv (t a : EReal) : EReal := pow2 (IntOp.subi 0#32 (expOf (field t) a))

/-! ## The reference's side -/

/-- How many of the powers `2 ^ (k - 126)`, `k < 256`, are at most `t`. -/
def rCount (t : EReal) : EReal :=
  ∑ k : Fin 256, Scalar.select (Ideal.cmp .oge t (Ideal.exp2 ((((BitVec.ofNat 32 k.val).toInt : ℝ) : EReal) - Ideal.ofBits .f32 0x42FC0000#32)))
    (Ideal.ofBits .f32 0x3F800000#32) (Ideal.ofBits .f32 0x00000000#32)

/-- The exponent given by a count `s`: the count less 126, or 0 where `t` is below the least normal number or infinite. -/
def rExpOf (t s : EReal) : EReal :=
  Scalar.select (IntOp.andi (Ideal.cmp .oge t (Ideal.ofBits .f32 0x00800000#32)) (Ideal.cmp .olt t (Ideal.ofBits .f32 0x7F800000#32)))
    (s - Ideal.ofBits .f32 0x42FC0000#32) (Ideal.ofBits .f32 0x00000000#32)

/-- The reference's exponent of `t`. -/
def rExp (t : EReal) : EReal := rExpOf t (rCount t)

/-- The reference's scale from an exponent `e`: `2 ^ e`, infinite where that overflows. -/
def rScaleOf (e : EReal) : EReal :=
  Scalar.select (Ideal.cmp .ogt e (Ideal.ofBits .f32 0x42FE0000#32)) (Ideal.ofBits .f32 0x7F800000#32) (Ideal.exp2 e)

/-- The reference's scale of `t`. -/
def rScale (t : EReal) : EReal := rScaleOf (rExp t)

/-! ## Selections read as propositions -/

theorem select_ofBool {α : Type} (b : Bool) (x y : α) : Scalar.select (BitVec.ofBool b) x y = if b = true then x else y := by
  cases b <;> rfl

theorem select_oge {α : Type} (t v : EReal) (x y : α) : Scalar.select (Ideal.cmp .oge t v) x y = if v ≤ t then x else y := by
  unfold Ideal.cmp; rw [select_ofBool]; simp

theorem select_ogt {α : Type} (t v : EReal) (x y : α) : Scalar.select (Ideal.cmp .ogt t v) x y = if v < t then x else y := by
  unfold Ideal.cmp; rw [select_ofBool]; simp

/-! ## The values the comparisons meet -/

/-- The value with exponent field `j`: zero, `2 ^ (j - 127)`, or infinity. -/
def val (j : ℕ) : EReal := if j = 0 then 0 else if j = 255 then ⊤ else (((2 : ℝ) ^ ((j : ℤ) - 127) : ℝ) : EReal)

theorem field_bits : ∀ j : Fin 256, (IntOp.shli .vector (BitVec.ofNat 32 j.val) 23#32).extractLsb' 31 1 = 0#1
    ∧ ((IntOp.shli .vector (BitVec.ofNat 32 j.val) 23#32).extractLsb' 23 8).toNat = j.val
    ∧ ((IntOp.shli .vector (BitVec.ofNat 32 j.val) 23#32).extractLsb' 0 23).toNat = 0 := by
  decide +kernel

theorem bitV_ofNat (j : ℕ) (hj : j < 256) : bitV (BitVec.ofNat 32 j) = val j := by
  obtain ⟨h1, h2, h3⟩ := field_bits ⟨j, hj⟩
  simp only at h1 h2 h3
  unfold bitV val
  show Ideal.ieee 8 23 _ = _
  unfold Ideal.ieee
  simp only [show 8 + 23 = 31 from rfl, h1, h2, h3]
  by_cases h0 : j = 0
  · subst h0; simp
  · by_cases h255 : j = 255
    · subst h255; simp
    · rw [if_neg (by omega), if_neg h0, if_neg h0, if_neg h255]
      rw [EReal.coe_eq_coe_iff, show ((j : ℤ) - (2 ^ (8 - 1) - 1) - ((23 : ℕ) : ℤ)) = ((j : ℤ) - 127) - 23 by norm_num, zpow_sub₀ (by norm_num : (2 : ℝ) ≠ 0),
        show (if (0#1 == 1#1) = true then (-1 : ℝ) else 1) = 1 from if_neg (by decide)]
      norm_num
      ring

theorem val_zero : val 0 = 0 := by simp [val]
theorem val_top : val 255 = ⊤ := by simp [val]
theorem val_mid (j : ℕ) (h0 : j ≠ 0) (h1 : j ≠ 255) : val j = (((2 : ℝ) ^ ((j : ℤ) - 127) : ℝ) : EReal) := by simp [val, h0, h1]

theorem val_mono {j k : ℕ} (h : j ≤ k) (hk : k ≤ 255) : val j ≤ val k := by
  rcases Nat.eq_zero_or_pos j with h0 | h0
  · subst h0
    rw [val_zero]
    rcases Nat.eq_zero_or_pos k with hk0 | hk0
    · subst hk0; rw [val_zero]
    · rcases Nat.lt_or_ge k 255 with hk1 | hk1
      · rw [val_mid k (by omega) (by omega)]; rw [← EReal.coe_zero, EReal.coe_le_coe_iff]; exact (zpow_pos (by norm_num) _).le
      · rw [show k = 255 by omega, val_top]; exact le_top
  · rcases Nat.lt_or_ge k 255 with hk1 | hk1
    · rw [val_mid k (by omega) (by omega), val_mid j (by omega) (by omega), EReal.coe_le_coe_iff]
      exact zpow_le_zpow_right₀ (by norm_num) (by omega)
    · rw [show k = 255 by omega, val_top]; exact le_top

/-- Every `t ≥ 0` has a greatest exponent field whose value is at most `t`. -/
theorem exists_field {t : EReal} (ht : 0 ≤ t) : ∃ j : ℕ, j ≤ 255 ∧ ∀ k ≤ 255, val k ≤ t ↔ k ≤ j := by
  classical
  refine ⟨Nat.findGreatest (fun k => val k ≤ t) 255, Nat.findGreatest_le _, fun k hk => ⟨fun h => Nat.le_findGreatest hk h, fun h => ?_⟩⟩
  have hs : val (Nat.findGreatest (fun k => val k ≤ t) 255) ≤ t :=
    Nat.findGreatest_spec (P := fun k => val k ≤ t) (m := 0) (Nat.zero_le _) (by rw [val_zero]; exact ht)
  exact (val_mono h (Nat.findGreatest_le _)).trans hs

/-! ## The bisection finds it -/

/-- The bisection step on natural numbers, towards `j`. -/
def natStep (j p q : ℕ) : ℕ := if p + q ≤ j then p + q else p

theorem natStep_le (j p q : ℕ) (h : p + 2 * q ≤ 256) : natStep j p q + q ≤ 256 := by unfold natStep; split_ifs <;> omega

theorem natField : ∀ j : Fin 256, natStep j.val (natStep j.val (natStep j.val (natStep j.val (natStep j.val (natStep j.val (natStep j.val
    (natStep j.val 0 128) 64) 32) 16) 8) 4) 2) 1 = j.val := by decide +kernel

theorem step_eq {t : EReal} {j : ℕ} (hj : ∀ k ≤ 255, val k ≤ t ↔ k ≤ j) (p q : ℕ) (h : p + q ≤ 255) :
    step t (BitVec.ofNat 32 p) (BitVec.ofNat 32 q) = BitVec.ofNat 32 (natStep j p q) := by
  unfold step natStep
  have e : IntOp.addi (BitVec.ofNat 32 p) (BitVec.ofNat 32 q) = BitVec.ofNat 32 (p + q) := by
    unfold IntOp.addi; rw [BitVec.ofNat_add]
  rw [e, select_oge, bitV_ofNat _ (by omega)]
  by_cases hc : p + q ≤ j
  · rw [if_pos ((hj _ h).mpr hc), if_pos hc]
  · rw [if_neg (fun h' => hc ((hj _ h).mp h')), if_neg hc]

theorem field_eq {t : EReal} {j : ℕ} (hj255 : j ≤ 255) (hj : ∀ k ≤ 255, val k ≤ t ↔ k ≤ j) : field t = BitVec.ofNat 32 j := by
  have h1 := natStep_le j 0 128 (by norm_num)
  have h2 := natStep_le j _ 64 h1
  have h3 := natStep_le j _ 32 h2
  have h4 := natStep_le j _ 16 h3
  have h5 := natStep_le j _ 8 h4
  have h6 := natStep_le j _ 4 h5
  have h7 := natStep_le j _ 2 h6
  unfold field
  rw [show (0#32) = BitVec.ofNat 32 0 from rfl, step_eq hj 0 128 (by norm_num), step_eq hj _ 64 (by omega), step_eq hj _ 32 (by omega),
    step_eq hj _ 16 (by omega), step_eq hj _ 8 (by omega), step_eq hj _ 4 (by omega), step_eq hj _ 2 (by omega), step_eq hj _ 1 (by omega),
    natField ⟨j, by omega⟩]

/-- Whether the field's exponent is taken (it is not that of zero, a subnormal or infinity). -/
theorem expOf_eq {a : EReal} (j : ℕ) (h255 : j ≤ 255) (ha : a = 0 → j = 0) :
    expOf (BitVec.ofNat 32 j) a = if j = 0 ∨ j = 255 then 0#32 else IntOp.subi (BitVec.ofNat 32 j) 126#32 := by
  have h0 : ∀ j : Fin 256, IntOp.cmpi .eq (BitVec.ofNat 32 j.val) 0#32 = BitVec.ofBool (decide (j.val = 0)) := by decide +kernel
  have h5 : ∀ j : Fin 256, IntOp.cmpi .eq (BitVec.ofNat 32 j.val) 255#32 = BitVec.ofBool (decide (j.val = 255)) := by decide +kernel
  have hor : ∀ x y z : Bool, IntOp.ori (IntOp.ori (BitVec.ofBool x) (BitVec.ofBool y)) (BitVec.ofBool z) = BitVec.ofBool (x || y || z) := by
    decide
  unfold expOf
  rw [h0 ⟨j, by omega⟩, h5 ⟨j, by omega⟩]
  unfold Ideal.cmp
  dsimp only
  rw [hor, select_ofBool, Ideal.ofBits_zero_f32]
  simp only [Bool.or_eq_true, decide_eq_true_eq]
  by_cases h : j = 0 ∨ j = 255
  · rw [if_pos (Or.inl h), if_pos h]
  · rw [if_neg h, if_neg]
    rintro (h' | h')
    · exact h h'
    · exact h (Or.inl (ha h'))

theorem scale_bits : ∀ j : Fin 256, pow2Bits (if j.val = 0 ∨ j.val = 255 then 0#32 else IntOp.subi (BitVec.ofNat 32 j.val) 126#32)
    = IntOp.shli .vector (BitVec.ofNat 32 (if j.val = 0 ∨ j.val = 255 then 127 else j.val + 1)) 23#32 := by decide +kernel

theorem inv_bits : ∀ j : Fin 256, pow2Bits (IntOp.subi 0#32 (if j.val = 0 ∨ j.val = 255 then 0#32 else IntOp.subi (BitVec.ofNat 32 j.val) 126#32))
    = IntOp.shli .vector (BitVec.ofNat 32 (if j.val = 0 ∨ j.val = 255 then 127 else 253 - j.val)) 23#32 := by decide +kernel

theorem kScale_val {t a : EReal} {j : ℕ} (hj255 : j ≤ 255) (hj : ∀ k ≤ 255, val k ≤ t ↔ k ≤ j) (ha : a = 0 → j = 0) :
    kScale t a = val (if j = 0 ∨ j = 255 then 127 else j + 1) := by
  unfold kScale
  rw [field_eq hj255 hj, expOf_eq j hj255 ha]
  unfold pow2
  rw [scale_bits ⟨j, by omega⟩]
  exact bitV_ofNat _ (by split_ifs <;> omega)

theorem kInv_val {t a : EReal} {j : ℕ} (hj255 : j ≤ 255) (hj : ∀ k ≤ 255, val k ≤ t ↔ k ≤ j) (ha : a = 0 → j = 0) :
    kInv t a = val (if j = 0 ∨ j = 255 then 127 else 253 - j) := by
  unfold kInv
  rw [field_eq hj255 hj, expOf_eq j hj255 ha]
  unfold pow2
  rw [inv_bits ⟨j, by omega⟩]
  exact bitV_ofNat _ (by split_ifs <;> omega)

/-! ## The reference's exponent -/

theorem ofBits_126 : Ideal.ofBits .f32 0x42FC0000#32 = ((126 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_inf : Ideal.ofBits .f32 0x7F800000#32 = ⊤ := by simp [Ideal.ofBits, Ideal.ieee]
theorem ofBits_ninf : Ideal.ofBits .f32 0xFF800000#32 = ⊥ := by simp [Ideal.ofBits, Ideal.ieee]
theorem ofBits_tiny : Ideal.ofBits .f32 0x00800000#32 = val 1 := bitV_ofNat 1 (by norm_num)

theorem exp2_int (n : ℤ) : Ideal.exp2 (((n : ℝ)) : EReal) = (((2 : ℝ) ^ n : ℝ) : EReal) := by
  rw [Ideal.exp2_coe, Real.rpow_eq_pow, Real.rpow_intCast]

theorem toInt_ofNat (k : Fin 256) : ((BitVec.ofNat 32 k.val).toInt : ℤ) = (k.val : ℤ) := by revert k; decide +kernel

theorem power_eq (k : Fin 256) : Ideal.exp2 ((((BitVec.ofNat 32 k.val).toInt : ℝ) : EReal) - Ideal.ofBits .f32 0x42FC0000#32)
    = (((2 : ℝ) ^ ((k.val : ℤ) - 126) : ℝ) : EReal) := by
  rw [ofBits_126, toInt_ofNat, ← EReal.coe_sub, ← exp2_int]
  push_cast; rfl

theorem rCount_eq (t : EReal) :
    rCount t = (((Finset.univ.filter fun k : Fin 256 => (((2 : ℝ) ^ ((k.val : ℤ) - 126) : ℝ) : EReal) ≤ t).card : ℝ) : EReal) := by
  unfold rCount
  have : ∀ k : Fin 256, Scalar.select (Ideal.cmp .oge t (Ideal.exp2 ((((BitVec.ofNat 32 k.val).toInt : ℝ) : EReal) - Ideal.ofBits .f32 0x42FC0000#32)))
      (Ideal.ofBits .f32 0x3F800000#32) (Ideal.ofBits .f32 0x00000000#32)
      = (((if (((2 : ℝ) ^ ((k.val : ℤ) - 126) : ℝ) : EReal) ≤ t then 1 else 0 : ℕ) : ℝ) : EReal) := fun k => by
    rw [power_eq, select_oge, Ideal.ofBits_zero_f32, Ideal.ofBits_one_f32]
    split_ifs <;> simp
  rw [Finset.sum_congr rfl fun k _ => this k, Finset.card_filter]
  push_cast
  rfl

theorem card_below (b : Fin 256) : (Finset.univ.filter fun k : Fin 256 => k < b).card = b.val := by
  rw [show (Finset.univ.filter fun k : Fin 256 => k < b) = Finset.Iio b by ext k; simp, Fin.card_Iio]

/-- Below the top binade the count is the exponent field itself; in it, the count is at least 254. -/
theorem count_eq {t : EReal} {j : ℕ} (hj : ∀ k ≤ 255, val k ≤ t ↔ k ≤ j) (h : j ≤ 253) :
    (Finset.univ.filter fun k : Fin 256 => (((2 : ℝ) ^ ((k.val : ℤ) - 126) : ℝ) : EReal) ≤ t).card = j := by
  have : ∀ k : Fin 256, (((2 : ℝ) ^ ((k.val : ℤ) - 126) : ℝ) : EReal) ≤ t ↔ k.val < j := fun k => by
    rcases Nat.lt_or_ge k.val 254 with hk | hk
    · have := hj (k.val + 1) (by omega)
      rw [val_mid _ (by omega) (by omega), show ((k.val + 1 : ℕ) : ℤ) - 127 = (k.val : ℤ) - 126 by push_cast; ring] at this
      rw [this]; omega
    · refine ⟨fun hle => ?_, fun hlt => by omega⟩
      have h254 : val 254 ≤ t := by
        refine le_trans ?_ hle
        rw [val_mid _ (by omega) (by omega), EReal.coe_le_coe_iff]
        exact zpow_le_zpow_right₀ (by norm_num) (by push_cast; omega)
      have := (hj 254 (by omega)).mp h254
      omega
  rw [Finset.filter_congr fun k _ => this k]
  rw [show (Finset.univ.filter fun k : Fin 256 => k.val < j) = Finset.univ.filter fun k : Fin 256 => k < (⟨j, by omega⟩ : Fin 256) from rfl,
    card_below]

theorem count_ge {t : EReal} {j : ℕ} (hj : ∀ k ≤ 255, val k ≤ t ↔ k ≤ j) (h : 254 ≤ j) :
    254 ≤ (Finset.univ.filter fun k : Fin 256 => (((2 : ℝ) ^ ((k.val : ℤ) - 126) : ℝ) : EReal) ≤ t).card := by
  have hsub : (Finset.univ.filter fun k : Fin 256 => k < (⟨254, by norm_num⟩ : Fin 256))
      ⊆ Finset.univ.filter fun k : Fin 256 => (((2 : ℝ) ^ ((k.val : ℤ) - 126) : ℝ) : EReal) ≤ t := fun k hk => by
    rw [Finset.mem_filter] at hk ⊢
    refine ⟨hk.1, ?_⟩
    have hk2 : k.val < 254 := hk.2
    have := (hj (k.val + 1) (by omega)).mpr (by omega)
    rwa [val_mid _ (by omega) (by omega), show ((k.val + 1 : ℕ) : ℤ) - 127 = (k.val : ℤ) - 126 by push_cast; ring] at this
  have := Finset.card_le_card hsub
  rwa [card_below] at this

/-- The reference's exponent: 0 where the field is that of zero, a subnormal or infinity, else the count less 126. -/
theorem rExp_eq {t : EReal} {j : ℕ} (hj255 : j ≤ 255) (hj : ∀ k ≤ 255, val k ≤ t ↔ k ≤ j) :
    rExp t = if j = 0 ∨ j = 255 then 0
      else ((((Finset.univ.filter fun k : Fin 256 => (((2 : ℝ) ^ ((k.val : ℤ) - 126) : ℝ) : EReal) ≤ t).card : ℝ) - 126 : ℝ) : EReal) := by
  have hand : ∀ x y : Bool, IntOp.andi (BitVec.ofBool x) (BitVec.ofBool y) = BitVec.ofBool (x && y) := by decide
  unfold rExp rExpOf Ideal.cmp
  rw [hand, select_ofBool, ofBits_tiny, ofBits_inf, ofBits_126, Ideal.ofBits_zero_f32, rCount_eq, ← EReal.coe_sub]
  simp only [Bool.and_eq_true, decide_eq_true_eq]
  have h1 := hj 1 (by norm_num)
  have h2 := hj 255 le_rfl
  rw [val_top, top_le_iff] at h2
  simp only [h1, lt_top_iff_ne_top, ne_eq, h2]
  by_cases h : j = 0 ∨ j = 255
  · rw [if_pos h, if_neg (by omega)]
  · rw [if_neg h, if_pos (by omega)]

theorem rScale_val {t : EReal} {j : ℕ} (hj255 : j ≤ 255) (hj : ∀ k ≤ 255, val k ≤ t ↔ k ≤ j) :
    rScale t = val (if j = 0 ∨ j = 255 then 127 else j + 1) := by
  unfold rScale rScaleOf
  rw [rExp_eq hj255 hj, select_ogt, ofBits_127, ofBits_inf]
  by_cases h : j = 0 ∨ j = 255
  · rw [if_pos h, if_pos h, if_neg (by rw [← EReal.coe_zero, EReal.coe_lt_coe_iff]; norm_num), val_mid _ (by omega) (by omega),
      show (0 : EReal) = (((0 : ℤ) : ℝ) : EReal) by simp, exp2_int]
    norm_num
  · rw [if_neg h, if_neg h]
    by_cases h4 : j = 254
    · have hc := count_ge hj h4.ge
      rw [h4, val_top, if_pos]
      rw [EReal.coe_lt_coe_iff]
      have : (254 : ℝ) ≤ ((Finset.univ.filter fun k : Fin 256 => (((2 : ℝ) ^ ((k.val : ℤ) - 126) : ℝ) : EReal) ≤ t).card : ℝ) := by exact_mod_cast hc
      linarith
    · rw [count_eq hj (by omega), if_neg, val_mid _ (by omega) (by omega)]
      · rw [show ((j : ℝ) - 126 : ℝ) = (((j : ℤ) - 126 : ℤ) : ℝ) by push_cast; ring, exp2_int]
        rw [show ((j + 1 : ℕ) : ℤ) - 127 = (j : ℤ) - 126 by push_cast; ring]
      · rw [EReal.coe_lt_coe_iff]
        have : (j : ℝ) ≤ 253 := by exact_mod_cast (by omega : j ≤ 253)
        linarith

/-- THE SCALE: the kernel's, found by bisection, is the reference's, found by counting. -/
theorem kScale_eq {t a : EReal} (ht : 0 ≤ t) (ha : a = 0 → t = 0) : kScale t a = rScale t := by
  obtain ⟨j, hj255, hj⟩ := exists_field ht
  rw [rScale_val hj255 hj, kScale_val hj255 hj]
  intro h0
  by_contra hne
  have h1 : val 1 ≤ t := (hj 1 (by norm_num)).mpr (by omega)
  rw [ha h0, val_mid 1 (by norm_num) (by norm_num), ← EReal.coe_zero, EReal.coe_le_coe_iff] at h1
  exact absurd h1 (not_le.mpr (zpow_pos (by norm_num) _))

end Cert.Quant

end
-- ==== Proof.Row.lean ====
/-
  Reading the vector operations of a row quantiser at one index, at the ideal instance: a row's maximum, a row's sum, a
  product of two matrices into zero, a row or a column broadcast. All at sizes that stay variables.
-/
module

public import proofs.«01_k».proof.Proof.Quant
public import Idealize.ShloMosaic.Lib.MatmulPlain
public import Idealize.ShloMosaic.Lib.ValueIdx
public import Idealize.ShloMosaic.Lib.Pipeline.Value

@[expose] public section

noncomputable section

open Idealize.ShloMosaic Idealize.ShloMosaic.ValueIdx
open scoped BigOperators

namespace Cert.Row

/-- The absolute value the programs take: the greater of a number and its opposite. -/
abbrev ab (x : EReal) : EReal := max x (-x)

theorem ab_nonneg (x : EReal) : 0 ≤ ab x := by
  rcases le_total 0 x with h | h
  · exact h.trans (le_max_left _ _)
  · exact (EReal.neg_nonneg.mpr h).trans (le_max_right _ _)

/-- A vector of `M` numbers written as a column reads the vector. -/
theorem column_apply {α : Type} {M : ℕ} (x : (⟨1, ![M]⟩ : Shape).Idx → α) (hs : (⟨1, ![M]⟩ : Shape).ShapeCasts ⟨2, ![M, 1]⟩) (r : Fin M) (z : Fin 1) :
    shapeCast ⟨2, ![M, 1]⟩ x hs (ix2 r z) = x (ix1 r) := by
  refine shapeCast_apply x hs _ _ ?_
  rw [Shape.rowMajor_val_one, Shape.rowMajor_val_two]
  show r.val = r.val * 1 + z.val
  omega

/-- A row's maximum, as a column: at most `x` exactly when every entry of the row is. -/
theorem rowmax_le {M N : ℕ} (src : FVec Ideal ⟨2, ![M, N]⟩ .f32) (h : (⟨2, ![M, N]⟩ : Shape).Reduces [1] ⟨1, ![M]⟩) (hφ : FKind.Formats .f32)
    (hacc : (0xFF800000#32 : BitVec 32) = FKind.maximumf.neutral .f32 hφ) (hs : (⟨1, ![M]⟩ : Shape).ShapeCasts ⟨2, ![M, 1]⟩) (r : Fin M) (z : Fin 1) (x : EReal) :
    shapeCast ⟨2, ![M, 1]⟩ (multiReduction .maximumf [1] ⟨1, ![M]⟩ src 0xFF800000#32 h hφ hacc) hs (ix2 r z) ≤ x ↔ ∀ l : Fin N, src (ix2 r l) ≤ x := by
  rw [column_apply, Ideal.multiReduction_maximumf_single]
  have hl : ∀ k : Fin N, h.lift (ix1 r) k = ix2 r k := fun k => by
    funext a; apply Fin.ext; fin_cases a <;> rfl
  rw [Finset.fold_max_le]
  rw [show (FloatOps.ofBits (F := Ideal) .f32 0xFF800000#32 : EReal) = ⊥ from Quant.ofBits_ninf]
  constructor
  · intro hh l
    have := hh.2 l (Finset.mem_univ _)
    exact (congrArg src (hl l)).symm.trans_le this
  · intro hh
    refine ⟨bot_le, fun k _ => ?_⟩
    exact (congrArg src (hl k)).trans_le (hh k)

/-- A row's sum, as a column. -/
theorem rowsum_eq {M N : ℕ} (src : FVec Ideal ⟨2, ![M, N]⟩ .f32) (h : (⟨2, ![M, N]⟩ : Shape).Reduces [1] ⟨1, ![M]⟩) (hφ : FKind.Formats .f32)
    (hacc : (0x00000000#32 : BitVec 32) = FKind.add.neutral .f32 hφ) (hs : (⟨1, ![M]⟩ : Shape).ShapeCasts ⟨2, ![M, 1]⟩) (r : Fin M) (z : Fin 1) :
    shapeCast ⟨2, ![M, 1]⟩ (multiReduction .add [1] ⟨1, ![M]⟩ src 0x00000000#32 h hφ hacc) hs (ix2 r z) = ∑ l : Fin N, src (ix2 r l) := by
  rw [column_apply, Ideal.multiReduction_add_single]
  refine Finset.sum_congr rfl fun k _ => congrArg src ?_
  funext a; apply Fin.ext; fin_cases a <;> rfl

/-- A product of two matrices added to zero. -/
theorem matmul_zero {M K N : ℕ} {φ₁ φ₂ : FTy} (a : FVec Ideal ⟨2, ![M, K]⟩ φ₁) (b : FVec Ideal ⟨2, ![K, N]⟩ φ₂) (r : Fin M) (c : Fin N) :
    matmul (DotDims.plain M K N) none a b (constant ⟨2, ![M, N]⟩ .f32 0x00000000#32) (ix2 r c) = ∑ k : Fin K, a (ix2 r k) * b (ix2 k c) := by
  refine (Ideal.matmul_plain_apply none a b _ r c).trans ?_
  rw [show (constant ⟨2, ![M, N]⟩ .f32 0x00000000#32 : FVec Ideal ⟨2, ![M, N]⟩ .f32) (ix2 r c) = 0 from Ideal.ofBits_zero_f32, zero_add]

/-- A column broadcast along rows. -/
theorem bcol_apply {α : Type} {M N : ℕ} (x : (⟨2, ![M, 1]⟩ : Shape).Idx → α) (h : (⟨2, ![M, 1]⟩ : Shape).Broadcasts ⟨2, ![M, N]⟩) (r : Fin M) (c : Fin N) :
    broadcastTo ⟨2, ![M, N]⟩ x h (ix2 r c) = x (ix2 r 0) := by
  unfold broadcastTo
  refine congrArg x ?_
  funext a; apply Fin.ext
  match a with
  | ⟨0, _⟩ =>
    dsimp only
    split_ifs with h1
    · have h1' : M = 1 := h1
      have := r.isLt
      show 0 = r.val
      omega
    · rfl
  | ⟨1, _⟩ => rfl

/-- A row broadcast along columns. -/
theorem brow_apply {α : Type} {M N : ℕ} (x : (⟨2, ![1, N]⟩ : Shape).Idx → α) (h : (⟨2, ![1, N]⟩ : Shape).Broadcasts ⟨2, ![M, N]⟩) (r : Fin M) (c : Fin N) :
    broadcastTo ⟨2, ![M, N]⟩ x h (ix2 r c) = x (ix2 0 c) := by
  unfold broadcastTo
  refine congrArg x ?_
  funext a; apply Fin.ext
  match a with
  | ⟨0, _⟩ => rfl
  | ⟨1, _⟩ =>
    dsimp only
    split_ifs with h1
    · have h1' : N = 1 := h1
      have := c.isLt
      show 0 = c.val
      omega
    · rfl

/-! ## Elementwise operations at an index -/

theorem mulf_at {s : Shape} (x y : FVec Ideal s .f32) (i : s.Idx) : mulf x y i = x i * y i := rfl

theorem splat_at {s : Shape} (b : BitVec 32) (i : s.Idx) : (broadcast s (Scalar.ofBits (F := Ideal) .f32 b) : FVec Ideal s .f32) i = Ideal.ofBits .f32 b := rfl

/-! ## The kernel's exponent search and the reference's count, lane by lane -/

/-- One step of a kernel's exponent search on vectors: keep bit `b` of `n` where the value it gives is at most `t`. -/
def vstep {s : Shape} (t : FVec Ideal s .f32) (n : IVec s 32) (b : BitVec 32) : IVec s 32 :=
  select (cmpf .oge t (bitcastToFloat .f32 (shli (addi n (broadcast s b)) (broadcast s 23#32)))) (addi n (broadcast s b)) n

theorem vstep_at {s : Shape} (t : FVec Ideal s .f32) (n : IVec s 32) (b : BitVec 32) (i : s.Idx) : vstep t n b i = Quant.step (t i) (n i) b := rfl

/-- The whole search, from zero. -/
theorem vfield_at {s : Shape} (t : FVec Ideal s .f32) (i : s.Idx) :
    vstep t (vstep t (vstep t (vstep t (vstep t (vstep t (vstep t (vstep t (broadcast s 0#32) 128#32) 64#32) 32#32) 16#32) 8#32) 4#32) 2#32) 1#32 i
      = Quant.field (t i) := by
  simp only [vstep_at]
  unfold Quant.field
  rfl

/-- The powers of two a reference compares its column `t` with: lane `k` of a row is 1 where `2 ^ (k - 126)` is at most the row's `t`. -/
abbrev refMask {M : ℕ} (t : FVec Ideal ⟨2, ![M, 1]⟩ .f32) (hb : (⟨2, ![M, 1]⟩ : Shape).Broadcasts ⟨2, ![M, 256]⟩)
    (hi : (⟨2, ![M, 256]⟩ : Shape).Iotas .tc 32 [1]) : FVec Ideal ⟨2, ![M, 256]⟩ .f32 :=
  select (cmpf .oge (broadcastTo ⟨2, ![M, 256]⟩ t hb)
      (exp2 (subf (sitofp .f32 (iota .tc ⟨2, ![M, 256]⟩ 32 [1] hi)) (broadcast ⟨2, ![M, 256]⟩ (Scalar.ofBits .f32 0x42FC0000#32)))))
    (broadcast ⟨2, ![M, 256]⟩ (Scalar.ofBits .f32 0x3F800000#32)) (broadcast ⟨2, ![M, 256]⟩ (Scalar.ofBits .f32 0x00000000#32))

theorem refMask_at {M : ℕ} (t : FVec Ideal ⟨2, ![M, 1]⟩ .f32) (hb : (⟨2, ![M, 1]⟩ : Shape).Broadcasts ⟨2, ![M, 256]⟩)
    (hi : (⟨2, ![M, 256]⟩ : Shape).Iotas .tc 32 [1]) (r : Fin M) (k : Fin 256) :
    refMask t hb hi (ix2 r k) = Scalar.select (Ideal.cmp .oge (t (ix2 r 0))
        (Ideal.exp2 ((((BitVec.ofNat 32 k.val).toInt : ℝ) : EReal) - Ideal.ofBits .f32 0x42FC0000#32)))
        (Ideal.ofBits .f32 0x3F800000#32) (Ideal.ofBits .f32 0x00000000#32) := by
  rw [← bcol_apply t hb r k, show BitVec.ofNat 32 k.val = iota .tc ⟨2, ![M, 256]⟩ 32 [1] hi (ix2 r k) from
    congrArg (BitVec.ofNat 32) (by show k.val = 0 * 256 + k.val; omega)]
  rfl

/-- The reference's exponents of its column `t`. -/
abbrev refExpVec {M : ℕ} (t : FVec Ideal ⟨2, ![M, 1]⟩ .f32) (n : FVec Ideal ⟨2, ![M, 256]⟩ .f32) (h : (⟨2, ![M, 256]⟩ : Shape).Reduces [1] ⟨1, ![M]⟩)
    (hs : (⟨1, ![M]⟩ : Shape).ShapeCasts ⟨2, ![M, 1]⟩) : FVec Ideal ⟨2, ![M, 1]⟩ .f32 :=
  select (andi (cmpf .oge t (broadcast ⟨2, ![M, 1]⟩ (Scalar.ofBits .f32 0x00800000#32))) (cmpf .olt t (broadcast ⟨2, ![M, 1]⟩ (Scalar.ofBits .f32 0x7F800000#32))))
    (subf (shapeCast ⟨2, ![M, 1]⟩ (multiReduction .add [1] ⟨1, ![M]⟩ n 0x00000000#32 h (.inl rfl) rfl) hs)
      (broadcast ⟨2, ![M, 1]⟩ (Scalar.ofBits .f32 0x42FC0000#32)))
    (broadcast ⟨2, ![M, 1]⟩ (Scalar.ofBits .f32 0x00000000#32))

theorem refExpVec_at {M : ℕ} (t : FVec Ideal ⟨2, ![M, 1]⟩ .f32) (hb : (⟨2, ![M, 1]⟩ : Shape).Broadcasts ⟨2, ![M, 256]⟩)
    (hi : (⟨2, ![M, 256]⟩ : Shape).Iotas .tc 32 [1]) (h : (⟨2, ![M, 256]⟩ : Shape).Reduces [1] ⟨1, ![M]⟩)
    (hs : (⟨1, ![M]⟩ : Shape).ShapeCasts ⟨2, ![M, 1]⟩) (r : Fin M) :
    refExpVec t (refMask t hb hi) h hs (ix2 r 0) = Quant.rExp (t (ix2 r 0)) := by
  have e : ∀ n : FVec Ideal ⟨2, ![M, 256]⟩ .f32, refExpVec t n h hs (ix2 r 0)
      = Quant.rExpOf (t (ix2 r 0)) (shapeCast ⟨2, ![M, 1]⟩ (multiReduction .add [1] ⟨1, ![M]⟩ n 0x00000000#32 h (.inl rfl) rfl) hs (ix2 r 0)) := fun _ => rfl
  rw [e]
  unfold Quant.rExp Quant.rCount
  refine congrArg (Quant.rExpOf (t (ix2 r 0))) ?_
  refine (rowsum_eq _ _ _ _ _ r 0).trans ?_
  exact Finset.sum_congr rfl fun k _ => refMask_at t hb hi r k

/-- The reference's scales from its exponents. -/
abbrev refScaleVec {s : Shape} (e : FVec Ideal s .f32) : FVec Ideal s .f32 :=
  select (cmpf .ogt e (broadcast s (Scalar.ofBits .f32 0x42FE0000#32))) (broadcast s (Scalar.ofBits .f32 0x7F800000#32)) (exp2 e)

theorem refScaleVec_at {s : Shape} (e : FVec Ideal s .f32) (i : s.Idx) : refScaleVec e i = Quant.rScaleOf (e i) := rfl

/-- `1/448` rounded to f32 is not negative. -/
theorem recip_nonneg : 0 ≤ Ideal.ofBits .f32 0x3B124925#32 := by
  have : Ideal.ofBits .f32 0x3B124925#32 = ((9586981 * (2 : ℝ) ^ (-32 : ℤ) : ℝ) : EReal) := by
    simp [Ideal.ofBits, Ideal.ieee, -EReal.coe_mul]
  rw [this, ← EReal.coe_zero, EReal.coe_le_coe_iff]
  positivity

/-- The two scales of a row of absolute maximum `a ≥ 0`. -/
theorem scale_row {a : EReal} (ha : 0 ≤ a) :
    Quant.kScale (a * Ideal.ofBits .f32 0x3B124925#32) a = Quant.rScale (a * Ideal.ofBits .f32 0x3B124925#32) :=
  Quant.kScale_eq (mul_nonneg ha recip_nonneg) fun h => by rw [h, zero_mul]

end Cert.Row

end
-- ==== Proof.GateupEntries.lean ====
/-
  The gate/up programs' payloads read at one index, at the ideal instance.

  `gate` is the one number both programs compute at a row and a column; the kernel's block payload and the reference's
  whole-array payload are `gate` of the same kind of sums. The row scales of both are the scales of Quant.lean at the
  row's maximum absolute value.
-/
module

public import proofs.«01_k».proof.Proof.GateupBlock
public import proofs.«01_k».proof.Proof.GateupRefRun
public import proofs.«01_k».proof.Proof.Row
public import Idealize.ShloMosaic.Lib.ValueLayout

@[expose] public section

noncomputable section

open Idealize.ShloMosaic Idealize.ShloMosaic.ValueIdx
open scoped BigOperators

namespace Cert.Gateup.Entries

/-- Gate product `g` and up product `u`, row scale `s`, column scales `p` and `q`: `silu (g s p) · (u s q)`. -/
def gate (g u s p q : EReal) : EReal := g * s * p * Ideal.logistic (g * s * p) * (u * s * q)

/-- The kernel's output block at a row and a column. -/
theorem blk_apply (v0 : Vec Ideal GateupIdeal.S1024x4096 .fp8e4m3) (v1 : Vec Ideal GateupIdeal.S1024x1 .f32) (v2 : Vec Ideal GateupIdeal.S4096x512 .fp8e4m3)
    (v6 : Vec Ideal GateupIdeal.S1x512 .f32) (v9 : Vec Ideal GateupIdeal.S4096x512 .fp8e4m3) (v13 : Vec Ideal GateupIdeal.S1x512 .f32) (r : Fin 1024) (c : Fin 512) :
    GateupIdeal.Gen.k0_pay9 v0 v1 v2 v6 v9 v13 (ix2 r c)
      = gate (∑ k : Fin 4096, v0 (ix2 r k) * v2 (ix2 k c)) (∑ k : Fin 4096, v0 (ix2 r k) * v9 (ix2 k c)) (v1 (ix2 r 0)) (v6 (ix2 0 c)) (v13 (ix2 0 c)) := by
  rw [← Row.matmul_zero v0 v2 r c, ← Row.matmul_zero v0 v9 r c, ← Row.bcol_apply v1 GateupIdeal.Gen.facts.broadcasts_S1024x1_S1024x512 r c,
    ← Row.brow_apply v6 GateupIdeal.Gen.facts.broadcasts_S1x512_S1024x512 r c, ← Row.brow_apply v13 GateupIdeal.Gen.facts.broadcasts_S1x512_S1024x512 r c]
  rfl

/-- The reference's product at a row and a column. -/
theorem ref_apply (a0 : Vec Ideal GateupRefIdeal.S1024x4096 .fp8e4m3) (a1 : Vec Ideal GateupRefIdeal.S1024x1 .f32)
    (a2 a3 : Vec Ideal GateupRefIdeal.S4096x7168 .fp8e4m3) (a4 a5 : Vec Ideal GateupRefIdeal.S1x7168 .f32) (r : Fin 1024) (c : Fin 7168) :
    GateupRefIdeal.Run.hRef a0 a1 a2 a3 a4 a5 (ix2 r c)
      = gate (∑ k : Fin 4096, a0 (ix2 r k) * a2 (ix2 k c)) (∑ k : Fin 4096, a0 (ix2 r k) * a3 (ix2 k c)) (a1 (ix2 r 0)) (a4 (ix2 0 c)) (a5 (ix2 0 c)) := by
  rw [← Row.matmul_zero a0 a2 r c, ← Row.matmul_zero a0 a3 r c, ← Row.bcol_apply a1 GateupRefIdeal.Gen.facts.broadcasts_S1024x1_S1024x7168 r c,
    ← Row.brow_apply a4 GateupRefIdeal.Gen.facts.broadcasts_S1x7168_S1024x7168 r c, ← Row.brow_apply a5 GateupRefIdeal.Gen.facts.broadcasts_S1x7168_S1024x7168 r c]
  rfl

/-- The kernel's folded block is at most `x` at a lane exactly when the four lanes folded into it are. -/
theorem fold_le (v0 : Vec Ideal GateupIdeal.S1024x4096 .fp8e4m3) (v1 : Vec Ideal GateupIdeal.S1024x1 .f32) (v2 : Vec Ideal GateupIdeal.S4096x512 .fp8e4m3)
    (v6 : Vec Ideal GateupIdeal.S1x512 .f32) (v9 : Vec Ideal GateupIdeal.S4096x512 .fp8e4m3) (v13 : Vec Ideal GateupIdeal.S1x512 .f32) (r : Fin 1024) (l : Fin 128) (x : EReal) :
    GateupIdeal.Gen.k0_pay10 v0 v1 v2 v6 v9 v13 (ix2 r l) ≤ x
      ↔ ∀ g : Fin 4, Row.ab (GateupIdeal.Gen.k0_pay9 v0 v1 v2 v6 v9 v13 (ix2 r ⟨128 * g.val + l.val, by omega⟩)) ≤ x := by
  have e : GateupIdeal.Gen.k0_pay10 v0 v1 v2 v6 v9 v13 (ix2 r l)
      = max (max (max
          (extractStridedSlice GateupIdeal.S1024x128 ![0, 0] (absf (GateupIdeal.Gen.k0_pay9 v0 v1 v2 v6 v9 v13)) GateupIdeal.Gen.facts.slices_S1024x512_o0_0_S1024x128 (ix2 r l))
          (extractStridedSlice GateupIdeal.S1024x128 ![0, 128] (absf (GateupIdeal.Gen.k0_pay9 v0 v1 v2 v6 v9 v13)) GateupIdeal.Gen.facts.slices_S1024x512_o0_128_S1024x128 (ix2 r l)))
          (extractStridedSlice GateupIdeal.S1024x128 ![0, 256] (absf (GateupIdeal.Gen.k0_pay9 v0 v1 v2 v6 v9 v13)) GateupIdeal.Gen.facts.slices_S1024x512_o0_256_S1024x128 (ix2 r l)))
          (extractStridedSlice GateupIdeal.S1024x128 ![0, 384] (absf (GateupIdeal.Gen.k0_pay9 v0 v1 v2 v6 v9 v13)) GateupIdeal.Gen.facts.slices_S1024x512_o0_384_S1024x128 (ix2 r l)) := rfl
  rw [e, slice2_axis1_apply 0 _ _ r l ⟨128 * 0 + l.val, by omega⟩ (by simp), slice2_axis1_apply 128 _ _ r l ⟨128 * 1 + l.val, by omega⟩ (by simp),
    slice2_axis1_apply 256 _ _ r l ⟨128 * 2 + l.val, by omega⟩ (by simp), slice2_axis1_apply 384 _ _ r l ⟨128 * 3 + l.val, by omega⟩ (by simp),
    max_le_iff, max_le_iff, max_le_iff]
  constructor
  · rintro ⟨⟨⟨h0, h1⟩, h2⟩, h3⟩ g
    match g with
    | ⟨0, _⟩ => exact h0
    | ⟨1, _⟩ => exact h1
    | ⟨2, _⟩ => exact h2
    | ⟨3, _⟩ => exact h3
  · exact fun h => ⟨⟨⟨h 0, h 1⟩, h 2⟩, h 3⟩

/-- The kernel's row maximum at most `x`: every lane of the carried maximum is. -/
theorem rowmax_le (v : Vec Ideal GateupIdeal.S1024x128 .f32) (r : Fin 1024) (x : EReal) :
    GateupIdeal.Gen.k0_pay3 v (ix2 r 0) ≤ x ↔ ∀ l : Fin 128, v (ix2 r l) ≤ x := Row.rowmax_le v _ _ _ _ r 0 x

/-- The first four steps of the kernel's exponent search. -/
theorem search_hi (v : Vec Ideal GateupIdeal.S1024x128 .f32) :
    GateupIdeal.Gen.k0_pay5 v = Row.vstep (GateupIdeal.Gen.k0_pay4 v) (Row.vstep (GateupIdeal.Gen.k0_pay4 v) (Row.vstep (GateupIdeal.Gen.k0_pay4 v)
      (Row.vstep (GateupIdeal.Gen.k0_pay4 v) (broadcast GateupIdeal.S1024x1 0#32) 128#32) 64#32) 32#32) 16#32 := by
  unfold GateupIdeal.Gen.k0_pay5 Row.vstep
  rfl

/-- The last four steps of the search. -/
theorem search_lo (t : FVec Ideal GateupIdeal.S1024x1 .f32) (n : IVec GateupIdeal.S1024x1 32) :
    GateupIdeal.Gen.k0_pay6 t n 8#32 = Row.vstep t (Row.vstep t (Row.vstep t (Row.vstep t n 8#32) 4#32) 2#32) 1#32 := by
  unfold GateupIdeal.Gen.k0_pay6 Row.vstep
  rfl

/-- The scale from a found field. -/
theorem scale_of_field (f : IVec GateupIdeal.S1024x1 32) (t a : FVec Ideal GateupIdeal.S1024x1 .f32) (n : IVec GateupIdeal.S1024x1 32) (i : GateupIdeal.S1024x1.Idx) :
    GateupIdeal.Gen.k0_pay1 (F := Ideal) f (GateupIdeal.Gen.k0_pay7 a t n 8#32) GateupIdeal.Gen.k0_pay8 i
      = Quant.pow2 (Scalar.select (IntOp.ori (IntOp.ori (IntOp.cmpi .eq (GateupIdeal.Gen.k0_pay6 t n 8#32 i) 0#32)
          (IntOp.cmpi .eq (GateupIdeal.Gen.k0_pay6 t n 8#32 i) 255#32)) (Ideal.cmp .oeq (a i) (Ideal.ofBits .f32 0x00000000#32)))
          0#32 (IntOp.subi (f i) 126#32)) := by
  unfold GateupIdeal.Gen.k0_pay7
  generalize GateupIdeal.Gen.k0_pay6 t n 8#32 = w
  rfl

/-- The kernel's scale of a row is Quant.lean's at the row maximum, in each lane. -/
theorem scale_apply (v : Vec Ideal GateupIdeal.S1024x128 .f32) (i : GateupIdeal.S1024x1.Idx) :
    GateupIdeal.Block.scaleOf (F := Ideal) v i
      = Quant.kScale (GateupIdeal.Gen.k0_pay3 v i * Ideal.ofBits .f32 0x3B124925#32) (GateupIdeal.Gen.k0_pay3 v i) := by
  have hf : GateupIdeal.Gen.k0_pay6 (GateupIdeal.Gen.k0_pay4 v) (GateupIdeal.Gen.k0_pay5 v) 8#32 i = Quant.field (GateupIdeal.Gen.k0_pay4 v i) := by
    rw [search_lo, search_hi]; exact Row.vfield_at _ i
  refine (scale_of_field _ _ _ _ i).trans ?_
  rw [hf]
  unfold Quant.kScale Quant.expOf
  rfl

/-- The reference's row maximum at most `x`: every entry of the row is, in absolute value. -/
theorem ref_rowmax (h : FVec Ideal GateupRefIdeal.S1024x7168 .f32) (r : Fin 1024) (x : EReal) :
    shapeCast GateupRefIdeal.S1024x1 (multiReduction .maximumf [1] GateupRefIdeal.S1024 (absf h) 0xFF800000#32 GateupRefIdeal.Gen.facts.reduces_S1024x7168_S1024 (.inl rfl) rfl)
        GateupRefIdeal.Gen.facts.shapeCasts_S1024_S1024x1 (ix2 r 0) ≤ x
      ↔ ∀ c : Fin 7168, Row.ab (h (ix2 r c)) ≤ x := Row.rowmax_le (absf h) _ _ _ _ r 0 x

/-- The reference's scale of a row is Quant.lean's at the row maximum. -/
theorem ref_scale_apply (a0 : Vec Ideal GateupRefIdeal.S1024x4096 .fp8e4m3) (a1 : Vec Ideal GateupRefIdeal.S1024x1 .f32)
    (a2 a3 : Vec Ideal GateupRefIdeal.S4096x7168 .fp8e4m3) (a4 a5 : Vec Ideal GateupRefIdeal.S1x7168 .f32) (r : Fin 1024) :
    GateupRefIdeal.Run.scaleRef a0 a1 a2 a3 a4 a5 (ix2 r 0) = Quant.rScale
      (shapeCast GateupRefIdeal.S1024x1 (multiReduction .maximumf [1] GateupRefIdeal.S1024 (absf (GateupRefIdeal.Run.hRef a0 a1 a2 a3 a4 a5)) 0xFF800000#32
        GateupRefIdeal.Gen.facts.reduces_S1024x7168_S1024 (.inl rfl) rfl) GateupRefIdeal.Gen.facts.shapeCasts_S1024_S1024x1 (ix2 r 0)
        * Ideal.ofBits .f32 0x3B124925#32) := by
  have e : GateupRefIdeal.Run.scaleRef a0 a1 a2 a3 a4 a5 = Row.refScaleVec (Row.refExpVec (GateupRefIdeal.Gen.k0_pay4 a0 a1 a2 a4 a0 a1 a3 a5)
      (Row.refMask (GateupRefIdeal.Gen.k0_pay4 a0 a1 a2 a4 a0 a1 a3 a5) GateupRefIdeal.Gen.facts.broadcasts_S1024x1_S1024x256 GateupRefIdeal.Gen.facts.iota_S1024x256_d1_w32)
      GateupRefIdeal.Gen.facts.reduces_S1024x256_S1024 GateupRefIdeal.Gen.facts.shapeCasts_S1024_S1024x1) := by
    unfold GateupRefIdeal.Run.scaleRef GateupRefIdeal.Gen.k0_pay1 GateupRefIdeal.Gen.k0_pay5
    rfl
  refine (congrFun e _).trans ((Row.refScaleVec_at _ _).trans ?_)
  rw [Row.refExpVec_at]
  unfold Quant.rScale
  refine congrArg (fun t => Quant.rScaleOf (Quant.rExp t)) ?_
  unfold GateupRefIdeal.Gen.k0_pay4
  exact Row.mulf_at _ _ _

end Cert.Gateup.Entries

end
-- ==== Proof.GateupEq.lean ====
/-
  The gate/up kernel's three results are the reference's, as functions of the six arguments.

  `hblk_apply`: entry (r, j) of point `t`'s block is entry (r, 512 t + j) of the reference's product `H`.
  `carry_le`: after point `n` the carried maximum bounds exactly the columns the points so far have computed.
  `amax_eq`: after the last point its row maximum is therefore the row maximum of all 7168 columns.
  `G6_eq`, `G7_eq`, `G8_eq`: the three arrays.
-/
module

public import proofs.«01_k».proof.Proof.GateupEntries

@[expose] public section

noncomputable section

open Idealize.ShloMosaic Idealize.ShloMosaic.TcCoe Idealize.ShloMosaic.ValueIdx
open scoped BigOperators

namespace Cert.Gateup.Equation

open Cert.GateupIdeal Cert.GateupIdeal.Gen Cert.GateupIdeal.Value Cert.GateupIdeal.Block

variable (m : (ℓ : Loc nD τ sig) → Buf (Elt Ideal) ℓ) (c : Dev nD)

/-- The reference's product of the kernel's arguments. -/
abbrev H : FVec Ideal Cert.GateupRefIdeal.S1024x7168 .f32 :=
  Cert.GateupRefIdeal.Run.hRef (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The blocks of the arguments -/

theorem still : ∀ t : Fin cfg0.N, (win0_0.index t 0 = 0 ∧ win0_0.index t 1 = 0) ∧ win0_1.index t 0 = 0 ∧ win0_1.index t 1 = 0 := by decide +kernel

theorem moves : ∀ t : Fin cfg0.N, (win0_2.index t 0 = 0 ∧ win0_2.index t 1 = t.val) ∧ (win0_3.index t 0 = 0 ∧ win0_3.index t 1 = t.val)
    ∧ (win0_4.index t 0 = 0 ∧ win0_4.index t 1 = t.val) ∧ win0_5.index t 0 = 0 ∧ win0_5.index t 1 = t.val := by decide +kernel

theorem lt14 (t : Fin cfg0.N) : t.val < 14 := lt_of_lt_of_eq t.isLt N_0

/-- Column `j` of block `t`, as a column of the array. -/
abbrev col (t : Fin cfg0.N) (j : Fin 512) : Fin 7168 := ⟨512 * t.val + j.val, by have := lt14 t; omega⟩

theorem codes_apply (t : Fin cfg0.N) (r : Fin 1024) (k : Fin 4096) :
    (iblk m c 0 t : Vec Ideal S1024x4096 .fp8e4m3) (ix2 r k) = (m ((c : Thread nD τ).loc main_arg0) : Vec Ideal S1024x4096 .fp8e4m3) (ix2 r k) := by
  obtain ⟨⟨h0, h1⟩, -⟩ := still t
  unfold iblk
  rw [View.read_apply]
  refine congrArg (m ((c : Thread nD τ).loc main_arg0)) ?_
  funext a; apply Fin.ext
  match a with
  | ⟨0, _⟩ => show win0_0.index t 0 * 1024 + 1 * r.val = r.val; rw [h0]; omega
  | ⟨1, _⟩ => show win0_0.index t 1 * 4096 + 1 * k.val = k.val; rw [h1]; omega

theorem cscale_apply (t : Fin cfg0.N) (r : Fin 1024) :
    (iblk m c 1 t : Vec Ideal S1024x1 .f32) (ix2 r 0) = (m ((c : Thread nD τ).loc main_arg1) : Vec Ideal S1024x1 .f32) (ix2 r 0) := by
  obtain ⟨-, h0, h1⟩ := still t
  unfold iblk
  rw [View.read_apply]
  refine congrArg (m ((c : Thread nD τ).loc main_arg1)) ?_
  funext a; apply Fin.ext
  match a with
  | ⟨0, _⟩ => show win0_1.index t 0 * 1024 + 1 * r.val = r.val; rw [h0]; omega
  | ⟨1, _⟩ => show win0_1.index t 1 * 1 + 1 * 0 = 0; rw [h1]

theorem gatew_apply (t : Fin cfg0.N) (k : Fin 4096) (j : Fin 512) :
    (iblk m c 2 t : Vec Ideal S4096x512 .fp8e4m3) (ix2 k j) = (m ((c : Thread nD τ).loc main_arg2) : Vec Ideal S4096x7168 .fp8e4m3) (ix2 k (col t j)) := by
  obtain ⟨⟨h0, h1⟩, -⟩ := moves t
  unfold iblk
  rw [View.read_apply]
  refine congrArg (m ((c : Thread nD τ).loc main_arg2)) ?_
  funext a; apply Fin.ext
  match a with
  | ⟨0, _⟩ => show win0_2.index t 0 * 4096 + 1 * k.val = k.val; rw [h0]; omega
  | ⟨1, _⟩ => show win0_2.index t 1 * 512 + 1 * j.val = 512 * t.val + j.val; rw [h1]; omega

theorem upw_apply (t : Fin cfg0.N) (k : Fin 4096) (j : Fin 512) :
    (iblk m c 3 t : Vec Ideal S4096x512 .fp8e4m3) (ix2 k j) = (m ((c : Thread nD τ).loc main_arg3) : Vec Ideal S4096x7168 .fp8e4m3) (ix2 k (col t j)) := by
  obtain ⟨-, ⟨h0, h1⟩, -⟩ := moves t
  unfold iblk
  rw [View.read_apply]
  refine congrArg (m ((c : Thread nD τ).loc main_arg3)) ?_
  funext a; apply Fin.ext
  match a with
  | ⟨0, _⟩ => show win0_3.index t 0 * 4096 + 1 * k.val = k.val; rw [h0]; omega
  | ⟨1, _⟩ => show win0_3.index t 1 * 512 + 1 * j.val = 512 * t.val + j.val; rw [h1]; omega

theorem gates_apply (t : Fin cfg0.N) (j : Fin 512) :
    (iblk m c 4 t : Vec Ideal S1x512 .f32) (ix2 0 j) = (m ((c : Thread nD τ).loc main_arg4) : Vec Ideal S1x7168 .f32) (ix2 0 (col t j)) := by
  obtain ⟨-, -, ⟨h0, h1⟩, -⟩ := moves t
  unfold iblk
  rw [View.read_apply]
  refine congrArg (m ((c : Thread nD τ).loc main_arg4)) ?_
  funext a; apply Fin.ext
  match a with
  | ⟨0, _⟩ => show win0_4.index t 0 * 1 + 1 * 0 = 0; rw [h0]
  | ⟨1, _⟩ => show win0_4.index t 1 * 512 + 1 * j.val = 512 * t.val + j.val; rw [h1]; omega

theorem ups_apply (t : Fin cfg0.N) (j : Fin 512) :
    (iblk m c 5 t : Vec Ideal S1x512 .f32) (ix2 0 j) = (m ((c : Thread nD τ).loc main_arg5) : Vec Ideal S1x7168 .f32) (ix2 0 (col t j)) := by
  obtain ⟨-, -, -, h0, h1⟩ := moves t
  unfold iblk
  rw [View.read_apply]
  refine congrArg (m ((c : Thread nD τ).loc main_arg5)) ?_
  funext a; apply Fin.ext
  match a with
  | ⟨0, _⟩ => show win0_5.index t 0 * 1 + 1 * 0 = 0; rw [h0]
  | ⟨1, _⟩ => show win0_5.index t 1 * 512 + 1 * j.val = 512 * t.val + j.val; rw [h1]; omega

/-! ## One block -/

/-- A point's block is the reference's product at the point's columns. -/
theorem hblk_apply (t : Fin cfg0.N) (r : Fin 1024) (j : Fin 512) : hblk m c t (ix2 r j) = H m c (ix2 r (col t j)) := by
  refine (Entries.blk_apply _ _ _ _ _ _ r j).trans (Eq.trans ?_ (Entries.ref_apply _ _ _ _ _ _ r (col t j)).symm)
  rw [cscale_apply, gates_apply, ups_apply]
  simp only [codes_apply, gatew_apply, upw_apply]

/-! ## The carried maximum -/

/-- The state after point `n`. -/
abbrev st (n : ℕ) (h : n < 14) := Pipeline.accAt (fun n h => stAt0 m c n h junk0) (stAt0 m c) 0 n (lt_of_lt_of_eq (by omega) N_0.symm)

/-- After point `n` the output block is that point's. -/
theorem st_out (n : ℕ) (h : n < 14) : (st m c n h).1 = hblk m c ⟨n, lt_of_lt_of_eq h N_0.symm⟩ := by
  match n, h with
  | 0, h => exact out_A m c ⟨0, lt_of_lt_of_eq h N_0.symm⟩ junk0 rfl (by simp) (by simp)
  | n + 1, h =>
    have e : st m c (n + 1) h = stAt0 m c (n + 1) (lt_of_lt_of_eq h N_0.symm) (st m c n (by omega)) := by
      refine (Pipeline.accAt_succ _ _ 0 n _).trans ?_
      simp only [Nat.zero_add]
    rw [e]
    by_cases h13 : (n + 1) % 14 = 13
    · exact out_C m c ⟨n + 1, lt_of_lt_of_eq h N_0.symm⟩ _ (by dsimp only; omega) (by dsimp only; omega) h13
    · exact out_B m c ⟨n + 1, lt_of_lt_of_eq h N_0.symm⟩ _ (by dsimp only; omega) (by dsimp only; omega) h13

/-- What a point's own block contributes to lane `l`. -/
theorem pblk_le (t : Fin cfg0.N) (r : Fin 1024) (l : Fin 128) (x : EReal) :
    pblk m c t (ix2 r l) ≤ x ↔ ∀ g : Fin 4, Row.ab (H m c (ix2 r (col t ⟨128 * g.val + l.val, by omega⟩))) ≤ x := by
  refine (Entries.fold_le _ _ _ _ _ _ r l x).trans (forall_congr' fun g => ?_)
  rw [← hblk_apply]

/-- What is carried after the points before the last. -/
theorem carry_le (n : ℕ) (h : n < 13) (r : Fin 1024) (l : Fin 128) (x : EReal) :
    (st m c n (by omega)).2.2.2 (ix2 r l) ≤ x
      ↔ ∀ t : Fin cfg0.N, t.val ≤ n → ∀ g : Fin 4, Row.ab (H m c (ix2 r (col t ⟨128 * g.val + l.val, by omega⟩))) ≤ x := by
  induction n with
  | zero =>
    have e : (st m c 0 (by omega)).2.2.2 = pblk m c ⟨0, lt_of_lt_of_eq (by norm_num) N_0.symm⟩ :=
      carry_A m c ⟨0, lt_of_lt_of_eq (by norm_num) N_0.symm⟩ junk0 rfl (by simp) (by simp)
    rw [e, pblk_le]
    constructor
    · intro hh t ht
      obtain rfl : t = ⟨0, lt_of_lt_of_eq (by norm_num) N_0.symm⟩ := Fin.ext (by simpa using ht)
      exact hh
    · exact fun hh => hh _ le_rfl
  | succ n ih =>
    have e : (st m c (n + 1) (by omega)).2.2.2 = maximumf (st m c n (by omega)).2.2.2 (pblk m c ⟨n + 1, lt_of_lt_of_eq (by omega) N_0.symm⟩) := by
      have e' : st m c (n + 1) (by omega) = stAt0 m c (n + 1) (lt_of_lt_of_eq (by omega) N_0.symm) (st m c n (by omega)) := by
        refine (Pipeline.accAt_succ _ _ 0 n _).trans ?_
        simp only [Nat.zero_add]
      rw [e']
      exact carry_B m c ⟨n + 1, lt_of_lt_of_eq (by omega) N_0.symm⟩ _ (by dsimp only; omega) (by dsimp only; omega) (by dsimp only; omega)
    rw [e]
    refine (max_le_iff (a := (st m c n (by omega)).2.2.2 (ix2 r l)) (b := pblk m c ⟨n + 1, lt_of_lt_of_eq (by omega) N_0.symm⟩ (ix2 r l))).trans ?_
    refine (and_congr (ih (by omega)) (pblk_le m c _ r l x)).trans ?_
    constructor
    · rintro ⟨h1, h2⟩ t ht
      rcases Nat.lt_or_ge t.val (n + 1) with hlt | hge
      · exact h1 t (by omega)
      · have et : t = ⟨n + 1, lt_of_lt_of_eq (by omega) N_0.symm⟩ := Fin.ext (le_antisymm ht hge)
        rw [et]
        exact h2
    · exact fun hh => ⟨fun t ht => hh t (by omega), hh _ le_rfl⟩

/-- The carried maximum with the last point's block taken in. -/
abbrev last : FVec Ideal S1024x128 .f32 := maximumf (st m c 12 (by omega)).2.2.2 (pblk m c ⟨13, lt_of_lt_of_eq (by norm_num) N_0.symm⟩)

theorem last_le (r : Fin 1024) (l : Fin 128) (x : EReal) : last m c (ix2 r l) ≤ x
    ↔ ∀ t : Fin cfg0.N, ∀ g : Fin 4, Row.ab (H m c (ix2 r (col t ⟨128 * g.val + l.val, by omega⟩))) ≤ x := by
  refine (max_le_iff (a := (st m c 12 (by omega)).2.2.2 (ix2 r l)) (b := pblk m c ⟨13, lt_of_lt_of_eq (by norm_num) N_0.symm⟩ (ix2 r l))).trans ?_
  rw [carry_le m c 12 (by omega) r l x]
  rw [pblk_le]
  constructor
  · rintro ⟨h1, h2⟩ t
    rcases Nat.lt_or_ge t.val 13 with hlt | hge
    · exact h1 t (by omega)
    · obtain rfl : t = ⟨13, lt_of_lt_of_eq (by norm_num) N_0.symm⟩ := Fin.ext (by have := lt14 t; show t.val = 13; omega)
      exact h2
  · exact fun hh => ⟨fun t _ => hh t, hh _⟩

/-- The reference's row maximum. -/
abbrev refMax (r : Fin 1024) : EReal :=
  shapeCast Cert.GateupRefIdeal.S1024x1 (multiReduction .maximumf [1] Cert.GateupRefIdeal.S1024 (absf (H m c)) 0xFF800000#32
    Cert.GateupRefIdeal.Gen.facts.reduces_S1024x7168_S1024 (.inl rfl) rfl) Cert.GateupRefIdeal.Gen.facts.shapeCasts_S1024_S1024x1 (ix2 r 0)

/-- THE MAXIMUM: the kernel's row maximum of 128 carried lanes is the reference's over 7168 columns. -/
theorem amax_eq (r : Fin 1024) : k0_pay3 (F := Ideal) (last m c) (ix2 r 0) = refMax m c r := by
  refine eq_of_forall_ge_iff fun x => ?_
  rw [Entries.rowmax_le, Entries.ref_rowmax]
  constructor
  · intro hh j
    have hj := j.isLt
    have := (last_le m c r ⟨j.val % 128, Nat.mod_lt _ (by norm_num)⟩ x).mp (hh _)
      ⟨j.val / 512, lt_of_lt_of_eq (by omega) N_0.symm⟩ ⟨j.val % 512 / 128, by omega⟩
    rwa [show col ⟨j.val / 512, lt_of_lt_of_eq (by omega) N_0.symm⟩ ⟨128 * (j.val % 512 / 128) + j.val % 128, by omega⟩ = j from
      Fin.ext (by show 512 * (j.val / 512) + (128 * (j.val % 512 / 128) + j.val % 128) = j.val; omega)] at this
  · exact fun hh l => (last_le m c r l x).mpr fun t g => hh _

theorem refMax_nonneg (r : Fin 1024) : 0 ≤ refMax m c r :=
  (Row.ab_nonneg _).trans ((Entries.ref_rowmax (H m c) r (refMax m c r)).mp le_rfl 0)

/-! ## The three results -/

/-- The product. -/
theorem G6_eq : G6 m c = H m c := by
  funext i
  obtain ⟨r, j, rfl⟩ : ∃ (r : Fin 1024) (j : Fin 7168), i = ix2 r j := ⟨i 0, i 1, (eq_ix2 i)⟩
  have hj := j.isLt
  have hr := r.isLt
  have hp : pt6Of (ix2 r j) = j.val / 512 := by
    show 14 * (r.val / 1024 - 0) + 1 * (j.val / 512 - 0) = _
    omega
  have hl : loc6Of (ix2 r j) = ix2 r ⟨j.val % 512, Nat.mod_lt _ (by norm_num)⟩ := by
    funext a; apply Fin.ext
    match a with
    | ⟨0, _⟩ => show r.val % 1024 = r.val; omega
    | ⟨1, _⟩ => rfl
  unfold G6
  rw [dif_pos (by rw [hp]; exact lt_of_lt_of_eq (by omega) N_0.symm), hl, fold0_congr m c _ _ _ (lt_of_lt_of_eq (by omega) N_0.symm) hp]
  refine (congrFun (st_out m c (j.val / 512) (by omega)) _).trans ((hblk_apply m c _ r _).trans ?_)
  refine congrArg (fun q => H m c (ix2 r q)) (Fin.ext ?_)
  show 512 * (j.val / 512) + j.val % 512 = j.val
  omega

theorem st_last : st m c 13 (by omega) = stAt0 m c 13 (lt_of_lt_of_eq (by omega) N_0.symm) (st m c 12 (by omega)) :=
  Pipeline.accAt_succ _ _ 0 12 _

/-- The kernel's scales, from the carried maximum, are the reference's. -/
theorem scale_eq : scaleOf (last m c) = Cert.GateupRefIdeal.Run.scaleRef (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  funext i
  obtain ⟨r, z, rfl⟩ : ∃ (r : Fin 1024) (z : Fin 1), i = ix2 r z := ⟨i 0, i 1, (eq_ix2 i)⟩
  obtain rfl : z = 0 := Subsingleton.elim _ _
  rw [Entries.scale_apply, amax_eq, Entries.ref_scale_apply]
  exact Row.scale_row (refMax_nonneg m c r)

/-- The scales. -/
theorem G7_eq : G7 m c = Cert.GateupRefIdeal.Run.scaleRef (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  rw [G7_last, ← scale_eq]
  refine (congrArg (fun s => s.2.1) (st_last m c)).trans ?_
  exact scale_C m c ⟨13, lt_of_lt_of_eq (by norm_num) N_0.symm⟩ _ (by dsimp only; omega) (by dsimp only; omega) rfl

/-- The scales laid out as 8x128. -/
theorem G8_eq : G8 m c = Cert.GateupRefIdeal.Run.denseRef (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  rw [G8_last]
  refine (congrArg (fun s => s.2.2.1) (st_last m c)).trans ?_
  refine (dense_C m c ⟨13, lt_of_lt_of_eq (by norm_num) N_0.symm⟩ _ (by dsimp only; omega) (by dsimp only; omega) rfl).trans ?_
  refine Eq.trans ?_ (congrArg (fun s => shapeCast Cert.GateupRefIdeal.S8x128 s Cert.GateupRefIdeal.Gen.facts.shapeCasts_S1024x1_S8x128) (scale_eq m c))
  rfl

end Cert.Gateup.Equation

end
-- ==== Proof.GateupClaim.lean ====
/-
  The gate/up call's value claim: run on the same six arguments, the kernel and the reference leave the same three arrays.
-/
module

public import proofs.«01_k».proof.Defs
public import proofs.«01_k».proof.Proof.GateupEq

@[expose] public section

noncomputable section

open Idealize.ShloMosaic Idealize.ShloMosaic.TcCoe Idealize.SL.Sem

namespace Cert.Gateup.Equation

/-- Both programs leave the product `h`, its rows' scales, and the scales laid out as 8x128. -/
theorem algebraic : Cert.algebraic_GateupIdeal_GateupRefIdeal (hGateupIdeal := Cert.GateupIdeal.Gen.facts) (hGateupRefIdeal := Cert.GateupRefIdeal.Gen.facts) := by
  intro m g m' g' _ hargs
  refine ⟨fun c => Cert.GateupIdeal.Value.G6 m c, fun c => Cert.GateupIdeal.Value.G7 m c, fun c => Cert.GateupIdeal.Value.G8 m c,
    Cert.GateupIdeal.Value.run m g, ?_⟩
  refine θ_run_mono (Cert.GateupRefIdeal.Run.run m' g') fun r hr c => ?_
  obtain ⟨h0, h1, h2, hk⟩ := hr c
  obtain ⟨e0, e1, e2, e3, e4, e5⟩ := hargs c
  refine ⟨h0.trans ?_, h1.trans ?_, h2.trans ?_, hk⟩
  · rw [e0, e1, e2, e3, e4, e5]
    exact (G6_eq m c).symm
  · rw [e0, e1, e2, e3, e4, e5]
    exact (G7_eq m c).symm
  · rw [e0, e1, e2, e3, e4, e5]
    exact (G8_eq m c).symm

end Cert.Gateup.Equation

end
-- ==== Proof.Inverse.lean ====
/-
  The inverse of a row's power-of-two scale, as a function of one extended real number.

  `kInv_eq`: the inverse the kernel derives with the scale, from a row's maximum, is the reference's.
  `kInvOf_eq`: the inverse the kernel derives from a scale alone is the reference's, at every extended real number.
-/
module

public import proofs.«01_k».proof.Proof.Quant

@[expose] public section

noncomputable section

open Idealize.ShloMosaic
open scoped BigOperators

namespace Cert.Quant

/-- The reference's `2 ^ -e`: zero where that is below the least normal number. -/
def rInvOf (e : EReal) : EReal :=
  Scalar.select (Ideal.cmp .ogt e (Ideal.ofBits .f32 0x42FC0000#32)) (Ideal.ofBits .f32 0x00000000#32) (Ideal.exp2 (Ideal.ofBits .f32 0x00000000#32 - e))

/-- The reference's inverse scale of `t`. -/
def rInv (t : EReal) : EReal := rInvOf (rExp t)

/-- The kernel's inverse of a scale `s`, from its exponent field alone. -/
def kInvOf (s : EReal) : EReal := pow2 (IntOp.subi 127#32 (field s))

/-- The reference's inverse of a scale `s`, from the count of powers of two up to it. -/
def rInvOfScale (s : EReal) : EReal := rInvOf (rCount s - Ideal.ofBits .f32 0x42FE0000#32)

theorem rInvOf_coe (x : ℝ) : rInvOf (x : EReal) = if 126 < x then 0 else Ideal.exp2 (((-x : ℝ)) : EReal) := by
  unfold rInvOf
  rw [select_ogt, ofBits_126, Ideal.ofBits_zero_f32, zero_sub, ← EReal.coe_neg]
  simp only [EReal.coe_lt_coe_iff]

theorem rInvOf_int (n : ℤ) (h : n ≤ 126) : rInvOf ((n : ℝ) : EReal) = (((2 : ℝ) ^ (-n) : ℝ) : EReal) := by
  rw [rInvOf_coe, if_neg (by have : (n : ℝ) ≤ 126 := by exact_mod_cast h
                             linarith), show (-(n : ℝ)) = ((-n : ℤ) : ℝ) by push_cast; rfl, exp2_int]

theorem rInv_val {t : EReal} {j : ℕ} (hj255 : j ≤ 255) (hj : ∀ k ≤ 255, val k ≤ t ↔ k ≤ j) :
    rInv t = val (if j = 0 ∨ j = 255 then 127 else 253 - j) := by
  unfold rInv
  rw [rExp_eq hj255 hj]
  by_cases h : j = 0 ∨ j = 255
  · rw [if_pos h, if_pos h, show (0 : EReal) = (((0 : ℤ) : ℝ) : EReal) by simp, rInvOf_int _ (by norm_num), val_mid _ (by omega) (by omega)]
    norm_num
  · rw [if_neg h, if_neg h]
    by_cases h4 : j = 254
    · have hc := count_ge hj h4.ge
      have : (254 : ℝ) ≤ ((Finset.univ.filter fun k : Fin 256 => (((2 : ℝ) ^ ((k.val : ℤ) - 126) : ℝ) : EReal) ≤ t).card : ℝ) := by exact_mod_cast hc
      rw [h4, rInvOf_coe, if_pos (by linarith)]
      exact val_zero.symm
    · rw [count_eq hj (by omega)]
      by_cases h3 : j = 253
      · rw [h3, rInvOf_coe, if_pos (by norm_num)]
        exact val_zero.symm
      · rw [show ((j : ℝ) - 126 : ℝ) = (((j : ℤ) - 126 : ℤ) : ℝ) by push_cast; ring, rInvOf_int _ (by omega), val_mid _ (by omega) (by omega)]
        rw [show ((253 - j : ℕ) : ℤ) - 127 = -((j : ℤ) - 126) by omega]

/-- THE INVERSE WITH THE SCALE: the kernel's is the reference's. -/
theorem kInv_eq {t a : EReal} (ht : 0 ≤ t) (ha : a = 0 → t = 0) : kInv t a = rInv t := by
  obtain ⟨j, hj255, hj⟩ := exists_field ht
  rw [rInv_val hj255 hj, kInv_val hj255 hj]
  intro h0
  by_contra hne
  have h1 : val 1 ≤ t := (hj 1 (by norm_num)).mpr (by omega)
  rw [ha h0, val_mid 1 (by norm_num) (by norm_num), ← EReal.coe_zero, EReal.coe_le_coe_iff] at h1
  exact absurd h1 (not_le.mpr (zpow_pos (by norm_num) _))

/-! ## The inverse of a given scale -/

theorem invOf_bits : ∀ j : Fin 256, pow2Bits (IntOp.subi 127#32 (BitVec.ofNat 32 j.val)) = IntOp.shli .vector (BitVec.ofNat 32 (254 - j.val)) 23#32 := by
  decide +kernel

/-- Below zero nothing is kept, so the field is zero. -/
theorem step_neg {t : EReal} (ht : t < 0) (q : ℕ) (hq : q ≤ 255) : step t 0#32 (BitVec.ofNat 32 q) = 0#32 := by
  unfold step
  have e : IntOp.addi 0#32 (BitVec.ofNat 32 q) = BitVec.ofNat 32 q := by unfold IntOp.addi; simp
  rw [e, bitV_ofNat q (by omega), select_oge, if_neg]
  have := val_mono (Nat.zero_le q) hq
  rw [val_zero] at this
  exact not_le.mpr (ht.trans_le this)

theorem field_neg {t : EReal} (ht : t < 0) : field t = 0#32 := by
  unfold field
  simp only [step_neg ht 128 (by norm_num), step_neg ht 64 (by norm_num), step_neg ht 32 (by norm_num), step_neg ht 16 (by norm_num),
    step_neg ht 8 (by norm_num), step_neg ht 4 (by norm_num), step_neg ht 2 (by norm_num), step_neg ht 1 (by norm_num)]

theorem rCount_neg {t : EReal} (ht : t < 0) : rCount t = 0 := by
  rw [rCount_eq, Finset.filter_false_of_mem]
  · simp
  · intro k _ h
    have h0 : (0 : EReal) ≤ (((2 : ℝ) ^ ((k.val : ℤ) - 126) : ℝ) : EReal) := by
      rw [← EReal.coe_zero, EReal.coe_le_coe_iff]; positivity
    exact absurd (h0.trans h) (not_le.mpr ht)

/-- THE INVERSE OF A SCALE: the kernel's, from the field found by bisection, is the reference's, from the count. -/
theorem kInvOf_eq (s : EReal) : kInvOf s = rInvOfScale s := by
  have hval : ∀ j : ℕ, j ≤ 255 → pow2 (IntOp.subi 127#32 (BitVec.ofNat 32 j)) = val (254 - j) := fun j hj => by
    unfold pow2
    rw [invOf_bits ⟨j, by omega⟩]
    exact bitV_ofNat _ (by omega)
  have hsmall : ∀ j : ℕ, j ≤ 253 → rInvOf ((((j : ℝ) : EReal)) - Ideal.ofBits .f32 0x42FE0000#32) = val (254 - j) := fun j hj => by
    rw [ofBits_127, ← EReal.coe_sub, show ((j : ℝ) - 127 : ℝ) = (((j : ℤ) - 127 : ℤ) : ℝ) by push_cast; ring, rInvOf_int _ (by omega),
      val_mid _ (by omega) (by omega), show ((254 - j : ℕ) : ℤ) - 127 = -((j : ℤ) - 127) by omega]
  unfold kInvOf rInvOfScale
  rcases lt_or_ge s 0 with hs | hs
  · rw [field_neg hs, rCount_neg hs]
    have := hsmall 0 (by norm_num)
    simp only [Nat.cast_zero, EReal.coe_zero] at this
    rw [this]
    exact hval 0 (by norm_num)
  · obtain ⟨j, hj255, hj⟩ := exists_field hs
    rw [field_eq hj255 hj, hval j hj255, rCount_eq]
    by_cases h4 : 254 ≤ j
    · have hc := count_ge hj h4
      have : (254 : ℝ) ≤ ((Finset.univ.filter fun k : Fin 256 => (((2 : ℝ) ^ ((k.val : ℤ) - 126) : ℝ) : EReal) ≤ s).card : ℝ) := by exact_mod_cast hc
      rw [ofBits_127, ← EReal.coe_sub, rInvOf_coe, if_pos (by linarith), show 254 - j = 0 by omega, val_zero]
    · rw [count_eq hj (by omega)]
      exact (hsmall j (by omega)).symm

end Cert.Quant

end
-- ==== Proof.Codes.lean ====
/-
  The quantiser's codes at one index, at the ideal instance: a row's entries times the row's inverse scale, clipped to ±448;
  and the vectors in which the programs compute those inverses. All at sizes that stay variables.
-/
module

public import proofs.«01_k».proof.Proof.Row
public import proofs.«01_k».proof.Proof.Inverse

@[expose] public section

noncomputable section

open Idealize.ShloMosaic Idealize.ShloMosaic.ValueIdx
open scoped BigOperators

namespace Cert.Codes

/-- Clipping to fp8's range. -/
def clip (x : EReal) : EReal := min (Ideal.ofBits .f32 0x43E00000#32) (max (Ideal.ofBits .f32 0xC3E00000#32) x)

/-- The codes of rows `v` with the rows' inverse scales in the column `inv`. -/
abbrev codeVec {M N : ℕ} (v : FVec Ideal ⟨2, ![M, N]⟩ .f32) (inv : FVec Ideal ⟨2, ![M, 1]⟩ .f32)
    (hb : (⟨2, ![M, 1]⟩ : Shape).Broadcasts ⟨2, ![M, N]⟩) (hφ : FTy.bits .fp8e4m3 < FTy.bits .f32) : FVec Ideal ⟨2, ![M, N]⟩ .fp8e4m3 :=
  truncf .fp8e4m3 (minimumf (broadcast ⟨2, ![M, N]⟩ (Scalar.ofBits .f32 0x43E00000#32))
    (maximumf (broadcast ⟨2, ![M, N]⟩ (Scalar.ofBits .f32 0xC3E00000#32)) (mulf v (broadcastTo ⟨2, ![M, N]⟩ inv hb)))) hφ

theorem codeVec_at {M N : ℕ} (v : FVec Ideal ⟨2, ![M, N]⟩ .f32) (inv : FVec Ideal ⟨2, ![M, 1]⟩ .f32)
    (hb : (⟨2, ![M, 1]⟩ : Shape).Broadcasts ⟨2, ![M, N]⟩) (hφ : FTy.bits .fp8e4m3 < FTy.bits .f32) (r : Fin M) (c : Fin N) :
    codeVec v inv hb hφ (ix2 r c) = clip (v (ix2 r c) * inv (ix2 r 0)) := by
  rw [← Row.bcol_apply inv hb r c]
  rfl

/-- The kernel's `2 ^ n` on vectors, from the biased exponent `b`. -/
abbrev pow2Vec {s : Shape} (b : IVec s 32) : FVec Ideal s .f32 :=
  bitcastToFloat .f32 (select (cmpi .sle b (broadcast s 0#32)) (broadcast s 0#32)
    (select (cmpi .sge b (broadcast s 255#32)) (broadcast s 2139095040#32) (shli b (broadcast s 23#32))))

theorem pow2Vec_at {s : Shape} (n : IVec s 32) (i : s.Idx) : pow2Vec (addi n (broadcast s 127#32)) i = Quant.pow2 (n i) := rfl

/-- The reference's `2 ^ -e` on vectors. -/
abbrev refInvVec {s : Shape} (e : FVec Ideal s .f32) : FVec Ideal s .f32 :=
  select (cmpf .ogt e (broadcast s (Scalar.ofBits .f32 0x42FC0000#32))) (broadcast s (Scalar.ofBits .f32 0x00000000#32))
    (exp2 (subf (broadcast s (Scalar.ofBits .f32 0x00000000#32)) e))

theorem refInvVec_at {s : Shape} (e : FVec Ideal s .f32) (i : s.Idx) : refInvVec e i = Quant.rInvOf (e i) := rfl

/-- The count of powers of two up to each row's number, less 127. -/
abbrev refFloorVec {M : ℕ} (n : FVec Ideal ⟨2, ![M, 256]⟩ .f32) (h : (⟨2, ![M, 256]⟩ : Shape).Reduces [1] ⟨1, ![M]⟩)
    (hs : (⟨1, ![M]⟩ : Shape).ShapeCasts ⟨2, ![M, 1]⟩) : FVec Ideal ⟨2, ![M, 1]⟩ .f32 :=
  subf (shapeCast ⟨2, ![M, 1]⟩ (multiReduction .add [1] ⟨1, ![M]⟩ n 0x00000000#32 h (.inl rfl) rfl) hs)
    (broadcast ⟨2, ![M, 1]⟩ (Scalar.ofBits .f32 0x42FE0000#32))

/-- The reference's inverse of a column of given scales. -/
theorem refInverse_at {M : ℕ} (t : FVec Ideal ⟨2, ![M, 1]⟩ .f32) (hb : (⟨2, ![M, 1]⟩ : Shape).Broadcasts ⟨2, ![M, 256]⟩)
    (hi : (⟨2, ![M, 256]⟩ : Shape).Iotas .tc 32 [1]) (h : (⟨2, ![M, 256]⟩ : Shape).Reduces [1] ⟨1, ![M]⟩)
    (hs : (⟨1, ![M]⟩ : Shape).ShapeCasts ⟨2, ![M, 1]⟩) (r : Fin M) :
    refInvVec (refFloorVec (Row.refMask t hb hi) h hs) (ix2 r 0) = Quant.rInvOfScale (t (ix2 r 0)) := by
  rw [refInvVec_at]
  have e : ∀ n : FVec Ideal ⟨2, ![M, 256]⟩ .f32, refFloorVec n h hs (ix2 r 0)
      = shapeCast ⟨2, ![M, 1]⟩ (multiReduction .add [1] ⟨1, ![M]⟩ n 0x00000000#32 h (.inl rfl) rfl) hs (ix2 r 0) - Ideal.ofBits .f32 0x42FE0000#32 := fun _ => rfl
  rw [e]
  unfold Quant.rInvOfScale Quant.rCount
  refine congrArg (fun x => Quant.rInvOf (x - Ideal.ofBits .f32 0x42FE0000#32)) ?_
  refine (Row.rowsum_eq _ _ _ _ _ r 0).trans ?_
  exact Finset.sum_congr rfl fun k _ => Row.refMask_at t hb hi r k

end Cert.Codes

end
-- ==== Proof.DownBlock.lean ====
/-
  What one grid point of the down kernel leaves in its two output blocks and in the carried sum, over its input blocks.

  The grid is 2 row blocks by 7 inner blocks. At the first inner block (case A) the carried sum starts from zero, at the last
  (case C) the output is written, in between (case B) the sum takes the block's product in. The codes are written at every point.
-/
module

public import proofs.«01_k».proof.Proof.Gen.DownIdeal.Value

@[expose] public section

noncomputable section

namespace Cert.DownIdeal.Block

open Cert.DownIdeal Cert.DownIdeal.Gen Cert.DownIdeal.Value Idealize.ShloMosaic Idealize.ShloMosaic.TcCoe Idealize.SL.Sem

variable {F : FTy → Type} [FloatOps F]

/-- The codes of a block `h` of rows with scales `s`. -/
abbrev codesOf (h : Vec F S512x1024 .f32) (s : Vec F S512x1 .f32) : FVec F S512x1024 .fp8e4m3 :=
  k0_pay1 h (k0_pay7 s (k0_pay5 s) k0_pay6) (k0_pay8 s (k0_pay5 s) k0_pay6) (k0_pay9 s (k0_pay5 s) k0_pay6) k0_pay10

/-- The sum `v` with the product of the block's codes and its weights `w` added. -/
abbrev accOf (h : Vec F S512x1024 .f32) (s : Vec F S512x1 .f32) (v : Vec F S512x4096 .f32) (w : Vec F S1024x4096 .fp8e4m3) : FVec F S512x4096 .f32 :=
  k0_pay3 h (k0_pay7 s (k0_pay5 s) k0_pay6) (k0_pay8 s (k0_pay5 s) k0_pay6) (k0_pay9 s (k0_pay5 s) k0_pay6) k0_pay10 v w

theorem hz : (![0, 0] : Fin 2 → Nat) = fun _ => 0 := funext fun a => by fin_cases a <;> rfl

theorem hz3 : (![0, 0, 0] : Fin 3 → Nat) = fun _ => 0 := funext fun a => by fin_cases a <;> rfl

variable (m : (ℓ : Loc nD τ sig) → Buf (Elt F) ℓ) (c : Dev nD) (t : Fin cfg0.N)
  (acc : Vec F S1x512x4096 .bf16 × Vec F S512x1024 .fp8e4m3 × Vec F S512x4096 .f32)

/-- The codes at the first inner block. -/
theorem codes_A (h0 : t.val % 7 = 0) (h1 : ¬t.val % 7 = 6) : (stAt0 m c t.val t.isLt acc).2.1 = codesOf (iblk m c 0 t) (iblk m c 1 t) := by
  rw [stAt0_A m c t acc h0 h1]
  dsimp only
  unfold out0_A_6
  rw [View.read_writes_eq_canon _ _ _ (cover0_A_6 _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, View.ld_unit_zero (S := S512x1024) hz, View.ld_unit_zero (S := S512x1) hz]

/-- The codes at a middle inner block. -/
theorem codes_B (h0 : ¬t.val % 7 = 0) (h1 : ¬t.val % 7 = 6) :
    (stAt0 m c t.val t.isLt acc).2.1 = codesOf (iblk m c 0 t) (iblk m c 1 t) := by
  rw [stAt0_B m c t acc h0 h1]
  dsimp only
  unfold out0_B_6
  rw [View.read_writes_eq_canon _ _ _ (cover0_B_6 _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, View.ld_unit_zero (S := S512x1024) hz, View.ld_unit_zero (S := S512x1) hz]

/-- The codes at the last inner block. -/
theorem codes_C (h0 : ¬t.val % 7 = 0) (h1 : t.val % 7 = 6) :
    (stAt0 m c t.val t.isLt acc).2.1 = codesOf (iblk m c 0 t) (iblk m c 1 t) := by
  rw [stAt0_C m c t acc h0 h1]
  dsimp only
  unfold out0_C_6
  rw [View.read_writes_eq_canon _ _ _ (cover0_C_6 _ _ _ _ _ _ _ _ _ _ _ _ _ _ _ _ _ _ _ _ _ _ _ _ _ _)]
  unfold kernelRun0_C
  dsimp only
  sl_unfold_words
  rw [View.canon_unit_zero hz]
  simp only [View.readAt_eq_ld, (hs0_0 t).read_unread, (hs0_1 t).read_unread, View.ld_unit_zero (S := S512x1024) hz, View.ld_unit_zero (S := S512x1) hz]

/-- At the first inner block the sum is the block's product added to zero. -/
theorem carry_A (h0 : t.val % 7 = 0) (h1 : ¬t.val % 7 = 6) :
    (stAt0 m c t.val t.isLt acc).2.2 = accOf (iblk m c 0 t) (iblk m c 1 t) k0_pay2 (iblk m c 2 t) := by
  rw [stAt0_A m c t acc h0 h1]
  dsimp only
  unfold sout0_A_0
  rw [View.read_writes_eq_canon _ _ _ (scover0_A_0 _ _ _ _ _ _ _ _ _ _ _ _ _ _ _ _ _ _ _ _ _ _ _ _ _)]
  unfold kernelRun0_A
  dsimp only
  sl_unfold_words
  rw [View.canon_cons_unit_zero hz]
  simp only [View.readCov_unit_zero (S := S512x4096) _ hz, View.readAt_eq_ld, (hs0_0 t).read_unread, (hs0_1 t).read_unread, (hs0_2 t).read_unread,
    View.ld_unit_zero (S := S512x1024) hz, View.ld_unit_zero (S := S512x1) hz, View.ld_unit_zero (S := S1024x4096) hz]

/-- At a middle inner block the sum takes the block's product in. -/
theorem carry_B (h0 : ¬t.val % 7 = 0) (h1 : ¬t.val % 7 = 6) :
    (stAt0 m c t.val t.isLt acc).2.2 = accOf (iblk m c 0 t) (iblk m c 1 t) acc.2.2 (iblk m c 2 t) := by
  rw [stAt0_B m c t acc h0 h1]
  dsimp only
  unfold sout0_B_0
  rw [View.read_writes_eq_canon _ _ _ (scover0_B_0 _ _ _ _ _ _ _ _ _ _ _ _ _ _ _ _ _ _ _ _ _ _ _ _ _ _)]
  unfold kernelRun0_B
  dsimp only
  sl_unfold_words
  rw [View.canon_unit_zero hz]
  simp only [View.readAt_eq_ld, (hs0_0 t).read_unread, (hs0_1 t).read_unread, (hs0_2 t).read_unread,
    View.ld_unit_zero (S := S512x1024) hz, View.ld_unit_zero (S := S512x1) hz, View.ld_unit_zero (S := S1024x4096) hz,
    (Memref.isWhole_whole _).read_unread, View.ld_unit_zero (S := S512x4096) hz]

/-- At the last inner block the output is written from the residual and the whole sum. -/
theorem out_C (h0 : ¬t.val % 7 = 0) (h1 : t.val % 7 = 6) :
    (stAt0 m c t.val t.isLt acc).1 = k0_pay4 (iblk m c 1 t) (iblk m c 4 t) (accOf (iblk m c 0 t) (iblk m c 1 t) acc.2.2 (iblk m c 2 t)) (iblk m c 3 t) := by
  rw [stAt0_C m c t acc h0 h1]
  dsimp only
  unfold out0_C_5
  rw [View.read_writes_eq_canon _ _ _ (cover0_C_5 _ _ _ _ _ _ _ _ _ _ _ _ _ _ _ _ _ _ _ _ _ _ _ _ _ _)]
  unfold kernelRun0_C
  dsimp only
  sl_unfold_words
  rw [View.canon_unit_zero hz3]
  simp only [View.readCov_unit_zero (S := S512x4096) _ hz, View.readAt_eq_ld, (hs0_0 t).read_unread, (hs0_1 t).read_unread, (hs0_2 t).read_unread,
    View.ld_unit_zero (S := S512x1024) hz, View.ld_unit_zero (S := S512x1) hz, View.ld_unit_zero (S := S1024x4096) hz,
    (hs0_3 t).read_unread, (hs0_4 t).read_unread, (Memref.isWhole_whole _).read_unread, View.ld_unit_zero (S := S512x4096) hz,
    View.ld_unit_zero (S := S1x4096) hz]

end Cert.DownIdeal.Block

end
-- ==== Proof.DownEntries.lean ====
/-
  The down kernel's blocks and the reference's arrays at one index, at the ideal instance.
-/
module

public import proofs.«01_k».proof.Proof.Codes
public import proofs.«01_k».proof.Proof.DownBlock
public import proofs.«01_k».proof.Proof.Gen.DownRefIdeal.Value
public import Idealize.ShloMosaic.Lib.ValueLayout

@[expose] public section

noncomputable section

open Idealize.ShloMosaic Idealize.ShloMosaic.ValueIdx
open scoped BigOperators

namespace Cert.Down.Entries

open Cert.DownIdeal Cert.DownIdeal.Gen Cert.DownIdeal.Block

/-- The first four steps of the exponent search. -/
theorem search_hi (s : Vec Ideal S512x1 .f32) :
    k0_pay5 s = Row.vstep s (Row.vstep s (Row.vstep s (Row.vstep s (broadcast S512x1 0#32) 128#32) 64#32) 32#32) 16#32 := by
  unfold k0_pay5 Row.vstep
  rfl

/-- The last four steps, and the biased exponent of the inverse. -/
theorem search_lo (s : Vec Ideal S512x1 .f32) (n : IVec S512x1 32) :
    k0_pay7 s n k0_pay6 = addi (subi (broadcast S512x1 127#32) (Row.vstep s (Row.vstep s (Row.vstep s (Row.vstep s n 8#32) 4#32) 2#32) 1#32))
      (broadcast S512x1 127#32) := by
  unfold k0_pay7 Row.vstep
  rfl

/-- The codes from a biased exponent. -/
theorem codes_of_biased (h : Vec Ideal S512x1024 .f32) (b : IVec S512x1 32) :
    k0_pay1 h b (cmpi .sle b (broadcast S512x1 0#32)) (cmpi .sge b (broadcast S512x1 255#32)) k0_pay10
      = Codes.codeVec h (Codes.pow2Vec b) broadcasts_S512x1_S512x1024 bitsLt_fp8e4m3_f32 := by
  unfold k0_pay1 k0_pay10
  rfl

/-- A block's codes: entries times the inverse of the row's scale, clipped. -/
theorem codesOf_apply (h : Vec Ideal S512x1024 .f32) (s : Vec Ideal S512x1 .f32) (r : Fin 512) (c : Fin 1024) :
    codesOf (F := Ideal) h s (ix2 r c) = Codes.clip (h (ix2 r c) * Quant.kInvOf (s (ix2 r 0))) := by
  refine (congrFun (codes_of_biased h (k0_pay7 s (k0_pay5 s) k0_pay6)) (ix2 r c)).trans ?_
  rw [Codes.codeVec_at, search_lo, Codes.pow2Vec_at, search_hi]
  refine congrArg (fun f => Codes.clip (h (ix2 r c) * Quant.pow2 (IntOp.subi 127#32 f))) ?_
  exact Row.vfield_at s (ix2 r 0)

/-- The sum takes in the product of the codes and the weights. -/
theorem accOf_apply (h : Vec Ideal S512x1024 .f32) (s : Vec Ideal S512x1 .f32) (v : Vec Ideal S512x4096 .f32) (w : Vec Ideal S1024x4096 .fp8e4m3)
    (r : Fin 512) (c : Fin 4096) :
    accOf (F := Ideal) h s v w (ix2 r c) = v (ix2 r c) + ∑ k : Fin 1024, codesOf (F := Ideal) h s (ix2 r k) * w (ix2 k c) := by
  unfold accOf k0_pay3
  rw [shapeCast_self]
  refine congrArg (v (ix2 r c) + ·) ?_
  exact Row.matmul_zero _ _ r c

/-- The sum starts from zero. -/
theorem zero_apply (i : S512x4096.Idx) : k0_pay2 (F := Ideal) i = 0 := by
  unfold k0_pay2
  rw [shapeCast_self]
  exact Ideal.ofBits_zero_f32

/-- One output entry: residual `x`, sum `a`, row scale `s`, column scale `p`. -/
def outEntry (x a s p : EReal) : EReal := x + a * s * p

/-- A matrix given a leading axis of one. -/
theorem lead_apply {α : Type} {M N : ℕ} (x : (⟨2, ![M, N]⟩ : Shape).Idx → α) (hs : (⟨2, ![M, N]⟩ : Shape).ShapeCasts ⟨3, ![1, M, N]⟩) (r : Fin M) (c : Fin N) :
    shapeCast ⟨3, ![1, M, N]⟩ x hs (ix3 0 r c) = x (ix2 r c) := by
  refine shapeCast_apply x hs _ _ ?_
  rw [Shape.rowMajor_val_two, Shape.rowMajor_val_three]
  show r.val * N + c.val = (0 * M + r.val) * N + c.val
  rw [Nat.zero_mul, Nat.zero_add]

/-- The output block from the residual and the whole sum. -/
theorem out_apply (s : Vec Ideal S512x1 .f32) (x a : Vec Ideal S512x4096 .f32) (p : Vec Ideal S1x4096 .f32) (r : Fin 512) (c : Fin 4096) :
    k0_pay4 s x a p (ix3 0 r c) = outEntry (x (ix2 r c)) (a (ix2 r c)) (s (ix2 r 0)) (p (ix2 0 c)) := by
  unfold k0_pay4
  refine (lead_apply _ _ r c).trans ?_
  rw [← Row.bcol_apply s broadcasts_S512x1_S512x4096 r c, ← Row.brow_apply p broadcasts_S1x4096_S512x4096 r c]
  rfl

/-- The reference's codes. -/
theorem ref_codes (h : Vec Ideal DownRefIdeal.S1024x7168 .f32) (s : Vec Ideal DownRefIdeal.S1024x1 .f32) (r : Fin 1024) (c : Fin 7168) :
    DownRefIdeal.Gen.k0_pay2 h s (ix2 r c) = Codes.clip (h (ix2 r c) * Quant.rInvOfScale (s (ix2 r 0))) := by
  have e : DownRefIdeal.Gen.k0_pay2 h s = Codes.codeVec h (Codes.refInvVec (Codes.refFloorVec
      (Row.refMask s DownRefIdeal.Gen.facts.broadcasts_S1024x1_S1024x256 DownRefIdeal.Gen.facts.iota_S1024x256_d1_w32)
      DownRefIdeal.Gen.facts.reduces_S1024x256_S1024 DownRefIdeal.Gen.facts.shapeCasts_S1024_S1024x1))
      DownRefIdeal.Gen.facts.broadcasts_S1024x1_S1024x7168 DownRefIdeal.Gen.facts.bitsLt_fp8e4m3_f32 := by
    unfold DownRefIdeal.Gen.k0_pay2
    rfl
  rw [e, Codes.codeVec_at, Codes.refInverse_at]

/-- The reference's output. -/
theorem ref_out (a0 : Vec Ideal DownRefIdeal.S1024x7168 .f32) (a1 : Vec Ideal DownRefIdeal.S1024x1 .f32) (a2 : Vec Ideal DownRefIdeal.S7168x4096 .fp8e4m3)
    (a3 : Vec Ideal DownRefIdeal.S1x4096 .f32) (a4 : Vec Ideal DownRefIdeal.S1024x4096 .f32) (r : Fin 1024) (c : Fin 4096) :
    DownRefIdeal.Value.G5 a0 a1 a2 a3 a4 (ix3 0 r c) = outEntry (a4 (ix2 r c))
      (∑ k : Fin 7168, DownRefIdeal.Gen.k0_pay2 a0 a1 (ix2 r k) * a2 (ix2 k c)) (a1 (ix2 r 0)) (a3 (ix2 0 c)) := by
  unfold DownRefIdeal.Value.G5 DownRefIdeal.Gen.k0_pay1 DownRefIdeal.Gen.k0_pay3
  refine (lead_apply _ _ r c).trans ?_
  rw [← Row.bcol_apply a1 DownRefIdeal.Gen.facts.broadcasts_S1024x1_S1024x4096 r c, ← Row.brow_apply a3 DownRefIdeal.Gen.facts.broadcasts_S1x4096_S1024x4096 r c,
    ← Row.matmul_zero (DownRefIdeal.Gen.k0_pay2 a0 a1) a2 r c]
  generalize DownRefIdeal.Gen.k0_pay2 a0 a1 = v
  rfl

end Cert.Down.Entries

end
-- ==== Proof.DownEq.lean ====
/-
  The down kernel's two results are the reference's, as functions of the five arguments.

  `blkcodes_apply`: the codes of point `t`'s block are the reference's codes of the point's rows and columns.
  `carry_eq`: before the last inner block the carried sum is the product's sum over the columns the points so far have covered.
  `G5_eq`, `G6_eq`: the two arrays.
-/
module

public import proofs.«01_k».proof.Proof.DownEntries

@[expose] public section

noncomputable section

open Idealize.ShloMosaic Idealize.ShloMosaic.TcCoe Idealize.ShloMosaic.ValueIdx
open scoped BigOperators

namespace Cert.Down.Equation

open Cert.DownIdeal Cert.DownIdeal.Gen Cert.DownIdeal.Value Cert.DownIdeal.Block

variable (m : (ℓ : Loc nD τ sig) → Buf (Elt Ideal) ℓ) (c : Dev nD)

/-- The rows' values. -/
abbrev aH : Vec Ideal S1024x7168 .f32 := m ((c : Thread nD τ).loc main_arg0)

/-- The rows' scales. -/
abbrev aS : Vec Ideal S1024x1 .f32 := m ((c : Thread nD τ).loc main_arg1)

/-- The weights. -/
abbrev aW : Vec Ideal S7168x4096 .fp8e4m3 := m ((c : Thread nD τ).loc main_arg2)

/-- The weights' scales. -/
abbrev aP : Vec Ideal S1x4096 .f32 := m ((c : Thread nD τ).loc main_arg3)

/-- The residual. -/
abbrev aX : Vec Ideal S1024x4096 .f32 := m ((c : Thread nD τ).loc main_arg4)

/-- The reference's codes of the kernel's arguments. -/
abbrev Q : FVec Ideal Cert.DownRefIdeal.S1024x7168 .fp8e4m3 := Cert.DownRefIdeal.Gen.k0_pay2 (F := Ideal) (aH m c) (aS m c)

/-! ## The blocks of the arguments -/

theorem rows : ∀ t : Fin cfg0.N, (win0_0.index t 0 = t.val / 7 ∧ win0_0.index t 1 = t.val % 7) ∧ (win0_1.index t 0 = t.val / 7 ∧ win0_1.index t 1 = 0)
    ∧ win0_4.index t 0 = t.val / 7 ∧ win0_4.index t 1 = 0 := by decide +kernel

theorem cols : ∀ t : Fin cfg0.N, (win0_2.index t 0 = t.val % 7 ∧ win0_2.index t 1 = 0) ∧ win0_3.index t 0 = 0 ∧ win0_3.index t 1 = 0 := by decide +kernel

theorem lt14 (t : Fin cfg0.N) : t.val < 14 := lt_of_lt_of_eq t.isLt N_0

/-- Row `r` of the row block of point `n`, as a row of the array. -/
abbrev row (n : ℕ) (h : n < 14) (r : Fin 512) : Fin 1024 := ⟨512 * (n / 7) + r.val, by omega⟩

/-- Column `k` of the inner block of point `n`, as a column of the array. -/
abbrev col (n : ℕ) (k : Fin 1024) : Fin 7168 := ⟨1024 * (n % 7) + k.val, by omega⟩

theorem h_apply (t : Fin cfg0.N) (r : Fin 512) (k : Fin 1024) :
    (iblk m c 0 t : Vec Ideal S512x1024 .f32) (ix2 r k) = aH m c (ix2 (row t.val (lt14 t) r) (col t.val k)) := by
  obtain ⟨⟨h0, h1⟩, -⟩ := rows t
  unfold iblk
  rw [View.read_apply]
  refine congrArg (m ((c : Thread nD τ).loc main_arg0)) ?_
  funext a; apply Fin.ext
  match a with
  | ⟨0, _⟩ => show win0_0.index t 0 * 512 + 1 * r.val = 512 * (t.val / 7) + r.val; rw [h0]; omega
  | ⟨1, _⟩ => show win0_0.index t 1 * 1024 + 1 * k.val = 1024 * (t.val % 7) + k.val; rw [h1]; omega

theorem s_apply (t : Fin cfg0.N) (r : Fin 512) :
    (iblk m c 1 t : Vec Ideal S512x1 .f32) (ix2 r 0) = aS m c (ix2 (row t.val (lt14 t) r) 0) := by
  obtain ⟨-, ⟨h0, h1⟩, -⟩ := rows t
  unfold iblk
  rw [View.read_apply]
  refine congrArg (m ((c : Thread nD τ).loc main_arg1)) ?_
  funext a; apply Fin.ext
  match a with
  | ⟨0, _⟩ => show win0_1.index t 0 * 512 + 1 * r.val = 512 * (t.val / 7) + r.val; rw [h0]; omega
  | ⟨1, _⟩ => show win0_1.index t 1 * 1 + 1 * 0 = 0; rw [h1]

theorem w_apply (t : Fin cfg0.N) (k : Fin 1024) (j : Fin 4096) :
    (iblk m c 2 t : Vec Ideal S1024x4096 .fp8e4m3) (ix2 k j) = aW m c (ix2 (col t.val k) j) := by
  obtain ⟨⟨h0, h1⟩, -⟩ := cols t
  unfold iblk
  rw [View.read_apply]
  refine congrArg (m ((c : Thread nD τ).loc main_arg2)) ?_
  funext a; apply Fin.ext
  match a with
  | ⟨0, _⟩ => show win0_2.index t 0 * 1024 + 1 * k.val = 1024 * (t.val % 7) + k.val; rw [h0]; omega
  | ⟨1, _⟩ => show win0_2.index t 1 * 4096 + 1 * j.val = j.val; rw [h1]; omega

theorem p_apply (t : Fin cfg0.N) (j : Fin 4096) :
    (iblk m c 3 t : Vec Ideal S1x4096 .f32) (ix2 0 j) = aP m c (ix2 0 j) := by
  obtain ⟨-, h0, h1⟩ := cols t
  unfold iblk
  rw [View.read_apply]
  refine congrArg (m ((c : Thread nD τ).loc main_arg3)) ?_
  funext a; apply Fin.ext
  match a with
  | ⟨0, _⟩ => show win0_3.index t 0 * 1 + 1 * 0 = 0; rw [h0]
  | ⟨1, _⟩ => show win0_3.index t 1 * 4096 + 1 * j.val = j.val; rw [h1]; omega

theorem x_apply (t : Fin cfg0.N) (r : Fin 512) (j : Fin 4096) :
    (iblk m c 4 t : Vec Ideal S512x4096 .f32) (ix2 r j) = aX m c (ix2 (row t.val (lt14 t) r) j) := by
  obtain ⟨-, -, h0, h1⟩ := rows t
  unfold iblk
  rw [View.read_apply]
  refine congrArg (m ((c : Thread nD τ).loc main_arg4)) ?_
  funext a; apply Fin.ext
  match a with
  | ⟨0, _⟩ => show win0_4.index t 0 * 512 + 1 * r.val = 512 * (t.val / 7) + r.val; rw [h0]; omega
  | ⟨1, _⟩ => show win0_4.index t 1 * 4096 + 1 * j.val = j.val; rw [h1]; omega

/-! ## One block -/

/-- A point's codes are the reference's at the point's rows and columns. -/
theorem blkcodes_apply (t : Fin cfg0.N) (r : Fin 512) (k : Fin 1024) :
    codesOf (F := Ideal) (iblk m c 0 t) (iblk m c 1 t) (ix2 r k) = Q m c (ix2 (row t.val (lt14 t) r) (col t.val k)) := by
  refine Eq.trans ?_ (Entries.ref_codes (aH m c) (aS m c) (row t.val (lt14 t) r) (col t.val k)).symm
  rw [Entries.codesOf_apply, h_apply, s_apply, Quant.kInvOf_eq]

/-- Term `n` of the product's entry (r, j), zero past the last column. -/
def term (r : Fin 1024) (j : Fin 4096) (n : ℕ) : EReal :=
  if h : n < 7168 then Q m c (ix2 r ⟨n, h⟩) * aW m c (ix2 ⟨n, h⟩ j) else 0

theorem sum_term (r : Fin 1024) (j : Fin 4096) :
    ∑ n ∈ Finset.range 7168, term m c r j n = ∑ k : Fin 7168, Q m c (ix2 r k) * aW m c (ix2 k j) := by
  rw [Finset.sum_range]
  exact Finset.sum_congr rfl fun k _ => dif_pos k.isLt

/-- A point adds to a sum the terms of its columns. -/
theorem acc_step (t : Fin cfg0.N) (v : Vec Ideal S512x4096 .f32) (r : Fin 512) (j : Fin 4096)
    (hv : v (ix2 r j) = ∑ n ∈ Finset.range (1024 * (t.val % 7)), term m c (row t.val (lt14 t) r) j n) :
    accOf (F := Ideal) (iblk m c 0 t) (iblk m c 1 t) v (iblk m c 2 t) (ix2 r j)
      = ∑ n ∈ Finset.range (1024 * (t.val % 7 + 1)), term m c (row t.val (lt14 t) r) j n := by
  rw [Entries.accOf_apply, hv, Nat.mul_succ, Finset.sum_range_add, Finset.sum_range (n := 1024)]
  refine congrArg _ (Finset.sum_congr rfl fun k _ => ?_)
  rw [blkcodes_apply, w_apply]
  unfold term
  rw [dif_pos (col t.val k).isLt]

/-! ## The carried sum -/

/-- The state after point `n`. -/
abbrev st (n : ℕ) (h : n < 14) := Pipeline.accAt (fun n h => stAt0 m c n h junk0) (stAt0 m c) 0 n (lt_of_lt_of_eq (by omega) N_0.symm)

theorem st_succ (n : ℕ) (h : n + 1 < 14) : st m c (n + 1) h = stAt0 m c (n + 1) (lt_of_lt_of_eq h N_0.symm) (st m c n (by omega)) := by
  refine (Pipeline.accAt_succ _ _ 0 n _).trans ?_
  simp only [Nat.zero_add]

/-- At a first inner block the sum starts over, from whatever state. -/
theorem carry_first (t : Fin cfg0.N) (acc : Vec Ideal S1x512x4096 .bf16 × Vec Ideal S512x1024 .fp8e4m3 × Vec Ideal S512x4096 .f32)
    (h0 : t.val % 7 = 0) (r : Fin 512) (j : Fin 4096) :
    (stAt0 m c t.val t.isLt acc).2.2 (ix2 r j) = ∑ n ∈ Finset.range (1024 * (t.val % 7 + 1)), term m c (row t.val (lt14 t) r) j n := by
  rw [carry_A m c t acc h0 (by omega)]
  refine acc_step m c t _ r j ?_
  rw [Entries.zero_apply, h0, Nat.mul_zero, Finset.sum_range_zero]

/-- Before a row block's last point, the carried sum covers the columns so far. -/
theorem carry_eq (n : ℕ) (h : n < 14) (h6 : ¬n % 7 = 6) (r : Fin 512) (j : Fin 4096) :
    (st m c n h).2.2 (ix2 r j) = ∑ k ∈ Finset.range (1024 * (n % 7 + 1)), term m c (row n h r) j k := by
  induction n with
  | zero => exact carry_first m c ⟨0, lt_of_lt_of_eq h N_0.symm⟩ junk0 rfl r j
  | succ n ih =>
    rw [st_succ m c n h]
    by_cases h0 : (n + 1) % 7 = 0
    · exact carry_first m c ⟨n + 1, lt_of_lt_of_eq h N_0.symm⟩ _ h0 r j
    · rw [carry_B m c ⟨n + 1, lt_of_lt_of_eq h N_0.symm⟩ _ h0 h6]
      refine acc_step m c ⟨n + 1, lt_of_lt_of_eq h N_0.symm⟩ _ r j ((ih (by omega) (by omega)).trans ?_)
      have hm : (n + 1) % 7 = n % 7 + 1 := by omega
      have hr : row n (by omega) r = row (n + 1) h r := Fin.ext (by show 512 * (n / 7) + r.val = 512 * ((n + 1) / 7) + r.val; omega)
      dsimp only
      rw [hm, hr]

/-- After any point the code block is that point's. -/
theorem st_codes (n : ℕ) (h : n < 14) :
    (st m c n h).2.1 = codesOf (F := Ideal) (iblk m c 0 ⟨n, lt_of_lt_of_eq h N_0.symm⟩) (iblk m c 1 ⟨n, lt_of_lt_of_eq h N_0.symm⟩) := by
  match n, h with
  | 0, h => exact codes_A m c ⟨0, lt_of_lt_of_eq h N_0.symm⟩ junk0 rfl (by simp)
  | n + 1, h =>
    rw [st_succ m c n h]
    by_cases h0 : (n + 1) % 7 = 0
    · exact codes_A m c ⟨n + 1, lt_of_lt_of_eq h N_0.symm⟩ _ h0 (by dsimp only; omega)
    · by_cases h6 : (n + 1) % 7 = 6
      · exact codes_C m c ⟨n + 1, lt_of_lt_of_eq h N_0.symm⟩ _ h0 h6
      · exact codes_B m c ⟨n + 1, lt_of_lt_of_eq h N_0.symm⟩ _ h0 h6

/-- After a row block's last point the output block is the finished one. -/
theorem st_out (n : ℕ) (h : n + 1 < 14) (h6 : (n + 1) % 7 = 6) (r : Fin 512) (j : Fin 4096) :
    (st m c (n + 1) h).1 (ix3 0 r j) = Entries.outEntry (aX m c (ix2 (row (n + 1) h r) j))
      (∑ k : Fin 7168, Q m c (ix2 (row (n + 1) h r) k) * aW m c (ix2 k j)) (aS m c (ix2 (row (n + 1) h r) 0)) (aP m c (ix2 0 j)) := by
  rw [st_succ m c n h, out_C m c ⟨n + 1, lt_of_lt_of_eq h N_0.symm⟩ _ (by dsimp only; omega) h6, Entries.out_apply, x_apply, s_apply, p_apply,
    acc_step m c ⟨n + 1, lt_of_lt_of_eq h N_0.symm⟩ _ r j (by
      refine (carry_eq m c n (by omega) (by omega) r j).trans ?_
      have hm : (n + 1) % 7 = n % 7 + 1 := by omega
      have hr : row n (by omega) r = row (n + 1) h r := Fin.ext (by show 512 * (n / 7) + r.val = 512 * ((n + 1) / 7) + r.val; omega)
      dsimp only
      rw [hm, hr])]
  dsimp only
  rw [h6, sum_term]

/-! ## The two results -/

/-- The output. -/
theorem G5_eq : G5 m c = Cert.DownRefIdeal.Value.G5 (F := Ideal) (aH m c) (aS m c) (aW m c) (aP m c) (aX m c) := by
  funext i
  obtain ⟨z, r, j, rfl⟩ : ∃ (z : Fin 1) (r : Fin 1024) (j : Fin 4096), i = ix3 z r j := ⟨i 0, i 1, i 2, (eq_ix3 i)⟩
  obtain rfl : z = 0 := Subsingleton.elim _ _
  have hj := j.isLt
  have hr := r.isLt
  have hp : pt5Of (ix3 0 r j) = 7 * (r.val / 512) + 5 + 1 := by
    show 7 * (2 * (0 / 1 - 0) + 1 * (r.val / 512 - 0) + 1 * (j.val / 4096 - 0)) + 6 = _
    omega
  have hl : loc5Of (ix3 0 r j) = ix3 0 ⟨r.val % 512, Nat.mod_lt _ (by norm_num)⟩ j := by
    funext a; apply Fin.ext
    match a with
    | ⟨0, _⟩ => rfl
    | ⟨1, _⟩ => rfl
    | ⟨2, _⟩ => show j.val % 4096 = j.val; omega
  have hrow : row (7 * (r.val / 512) + 5 + 1) (by omega) ⟨r.val % 512, Nat.mod_lt _ (by norm_num)⟩ = r :=
    Fin.ext (by show 512 * ((7 * (r.val / 512) + 5 + 1) / 7) + r.val % 512 = r.val; omega)
  unfold G5
  rw [dif_pos (by rw [hp]; exact lt_of_lt_of_eq (by omega) N_0.symm), hl, fold0_congr m c _ _ _ (lt_of_lt_of_eq (by omega) N_0.symm) hp]
  refine (st_out m c (7 * (r.val / 512) + 5) (by omega) (by omega) _ j).trans ?_
  rw [hrow]
  exact (Entries.ref_out _ _ _ _ _ r j).symm

/-- The codes. -/
theorem G6_eq : G6 m c = Q m c := by
  funext i
  obtain ⟨r, j, rfl⟩ : ∃ (r : Fin 1024) (j : Fin 7168), i = ix2 r j := ⟨i 0, i 1, (eq_ix2 i)⟩
  have hj := j.isLt
  have hr := r.isLt
  have hp : pt6Of (ix2 r j) = 7 * (r.val / 512) + j.val / 1024 := by
    show 7 * (r.val / 512 - 0) + 1 * (j.val / 1024 - 0) = _
    omega
  have hl : loc6Of (ix2 r j) = ix2 ⟨r.val % 512, Nat.mod_lt _ (by norm_num)⟩ ⟨j.val % 1024, Nat.mod_lt _ (by norm_num)⟩ := by
    funext a; apply Fin.ext
    match a with
    | ⟨0, _⟩ => rfl
    | ⟨1, _⟩ => rfl
  unfold G6
  rw [dif_pos (by rw [hp]; exact lt_of_lt_of_eq (by omega) N_0.symm), hl, fold0_congr m c _ _ _ (lt_of_lt_of_eq (by omega) N_0.symm) hp]
  refine (congrFun (st_codes m c (7 * (r.val / 512) + j.val / 1024) (by omega)) _).trans ((blkcodes_apply m c _ _ _).trans ?_)
  refine congrArg₂ (fun p q => Q m c (ix2 p q)) (Fin.ext ?_) (Fin.ext ?_)
  · show 512 * ((7 * (r.val / 512) + j.val / 1024) / 7) + r.val % 512 = r.val
    omega
  · show 1024 * ((7 * (r.val / 512) + j.val / 1024) % 7) + j.val % 1024 = j.val
    omega

end Cert.Down.Equation

end
-- ==== Proof.DownClaim.lean ====
/-
  The down call's value claim: run on the same five arguments, the kernel and the reference leave the same two arrays.
-/
module

public import proofs.«01_k».proof.Defs
public import proofs.«01_k».proof.Proof.DownEq

@[expose] public section

noncomputable section

open Idealize.ShloMosaic Idealize.ShloMosaic.TcCoe Idealize.SL.Sem

namespace Cert.Down.Equation

/-- Both programs leave the output `y` and the codes of `h`. -/
theorem algebraic : Cert.algebraic_DownIdeal_DownRefIdeal (hDownIdeal := Cert.DownIdeal.Gen.facts) (hDownRefIdeal := Cert.DownRefIdeal.Gen.facts) := by
  intro m g m' g' _ hargs
  refine ⟨fun c => Cert.DownIdeal.Value.G5 m c, fun c => Cert.DownIdeal.Value.G6 m c, Cert.DownIdeal.Value.run m g, ?_⟩
  refine θ_run_mono (Cert.DownRefIdeal.Value.run m' g') fun r hr c => ?_
  obtain ⟨h0, h1, hk⟩ := hr c
  obtain ⟨e0, e1, e2, e3, e4⟩ := hargs c
  refine ⟨h0.trans ?_, h1.trans ?_, hk⟩
  · rw [e0, e1, e2, e3, e4]
    exact (G5_eq m c).symm
  · rw [e0, e1, e2, e3, e4]
    exact (G6_eq m c).symm

end Cert.Down.Equation

end
-- ==== Proof.OprojBody.lean ====
/-
  The attention output projection's kernel body, run once: what it leaves in each output window's block, as functions of the input
  blocks, and its triple.

  `hidden`: the new residual stream. `normed`: its rows over their root mean squares. `gain`: the norm's weights in every row.
  `scale`, `codes`: the quantised rows. `dense`: the scales as the two rows of the packed array that the point owns.
-/
module

public import proofs.«01_k».proof.Proof.Gen.OprojIdeal.Frame
public import proofs.«01_k».proof.Proof.Gen.OprojIdeal.Skeleton
public import Idealize.ShloMosaic.Lib.Pipeline.Frame
public import Idealize.ShloMosaic.Lib.Pipeline.FrameBody
public import Idealize.ShloMosaic.Lib.Pipeline.DatRel
public import Idealize.ShloMosaic.Lib.VecWindow
public import Idealize.ShloMosaic.Lib.Tactic

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

/-! ## What the body computes -/

/-- The residual stream plus the projection. -/
def hidden (x0 : Vec F S256x2048 .fp8e4m3) (x1 : Vec F S256x1 .f32) (x2 : Vec F S2048x4096 .fp8e4m3) (x3 : Vec F S1x4096 .f32) (x4 : Vec F S256x4096 .bf16) : FVec F S256x4096 .f32 :=
  k0_pay2 x4 x0 x2 x1 x3

/-- The rows of `hidden` over their root mean squares. -/
def normed (x0 : Vec F S256x2048 .fp8e4m3) (x1 : Vec F S256x1 .f32) (x2 : Vec F S2048x4096 .fp8e4m3) (x3 : Vec F S1x4096 .f32) (x4 : Vec F S256x4096 .bf16) : FVec F S256x4096 .f32 :=
  k0_pay40 (hidden x0 x1 x2 x3 x4) (k0_pay32 (k0_pay29 x4 x0 x2 x1 x3)) (k0_pay33 (k0_pay30 x4 x0 x2 x1 x3)) (k0_pay34 (k0_pay31 x4 x0 x2 x1 x3))
    (k0_pay35 (hidden x0 x1 x2 x3 x4)) (k0_pay36 (hidden x0 x1 x2 x3 x4)) (k0_pay37 (hidden x0 x1 x2 x3 x4)) (k0_pay38 (hidden x0 x1 x2 x3 x4))
    (k0_pay39 (k0_pay4 x4 x0 x2 x1 x3) (k0_pay5 x4 x0 x2 x1 x3) (k0_pay6 x4 x0 x2 x1 x3) (k0_pay7 x4 x0 x2 x1 x3) (k0_pay8 x4 x0 x2 x1 x3) (k0_pay9 x4 x0 x2 x1 x3) (k0_pay10 x4 x0 x2 x1 x3) (k0_pay11 x4 x0 x2 x1 x3) (k0_pay12 x4 x0 x2 x1 x3) (k0_pay13 x4 x0 x2 x1 x3) (k0_pay14 x4 x0 x2 x1 x3) (k0_pay15 x4 x0 x2 x1 x3) (k0_pay16 x4 x0 x2 x1 x3) (k0_pay17 x4 x0 x2 x1 x3) (k0_pay18 x4 x0 x2 x1 x3) (k0_pay19 x4 x0 x2 x1 x3) (k0_pay20 x4 x0 x2 x1 x3) (k0_pay21 x4 x0 x2 x1 x3) (k0_pay22 x4 x0 x2 x1 x3) (k0_pay23 x4 x0 x2 x1 x3) (k0_pay24 x4 x0 x2 x1 x3) (k0_pay25 x4 x0 x2 x1 x3) (k0_pay26 x4 x0 x2 x1 x3) (k0_pay27 x4 x0 x2 x1 x3) (k0_pay28 x4 x0 x2 x1 x3))

/-- The norm's weights, in every row. -/
def gain (x5 : Vec F S1x4096 .bf16) : FVec F S256x4096 .f32 := k0_pay41 (k0_pay3 x5)

/-- Where the scale is one. -/
def isOne (x0 : Vec F S256x2048 .fp8e4m3) (x1 : Vec F S256x1 .f32) (x2 : Vec F S2048x4096 .fp8e4m3) (x3 : Vec F S1x4096 .f32) (x4 : Vec F S256x4096 .bf16) (x5 : Vec F S1x4096 .bf16) : IVec S256x1 1 :=
  k0_pay48 (k0_pay43 (normed x0 x1 x2 x3 x4) (gain x5)) (k0_pay44 (normed x0 x1 x2 x3 x4) (gain x5)) (k0_pay45 (normed x0 x1 x2 x3 x4) (gain x5)) k0_pay46

/-- The exponents of the scales. -/
def expo (x0 : Vec F S256x2048 .fp8e4m3) (x1 : Vec F S256x1 .f32) (x2 : Vec F S2048x4096 .fp8e4m3) (x3 : Vec F S1x4096 .f32) (x4 : Vec F S256x4096 .bf16) (x5 : Vec F S1x4096 .bf16) : IVec S256x1 32 :=
  k0_pay49 (k0_pay44 (normed x0 x1 x2 x3 x4) (gain x5)) (k0_pay45 (normed x0 x1 x2 x3 x4) (gain x5)) k0_pay46

/-- The rows' scales. -/
def scale (x0 : Vec F S256x2048 .fp8e4m3) (x1 : Vec F S256x1 .f32) (x2 : Vec F S2048x4096 .fp8e4m3) (x3 : Vec F S1x4096 .f32) (x4 : Vec F S256x4096 .bf16) (x5 : Vec F S1x4096 .bf16) : FVec F S256x1 .f32 := k0_pay51 (isOne x0 x1 x2 x3 x4 x5) (expo x0 x1 x2 x3 x4 x5)

/-- The codes. -/
def codes (x0 : Vec F S256x2048 .fp8e4m3) (x1 : Vec F S256x1 .f32) (x2 : Vec F S2048x4096 .fp8e4m3) (x3 : Vec F S1x4096 .f32) (x4 : Vec F S256x4096 .bf16) (x5 : Vec F S1x4096 .bf16) : FVec F S256x4096 .fp8e4m3 :=
  k0_pay52 (k0_pay42 (normed x0 x1 x2 x3 x4) (gain x5)) (isOne x0 x1 x2 x3 x4 x5) (expo x0 x1 x2 x3 x4 x5)

/-- The scales packed as two rows. -/
def dense (x0 : Vec F S256x2048 .fp8e4m3) (x1 : Vec F S256x1 .f32) (x2 : Vec F S2048x4096 .fp8e4m3) (x3 : Vec F S1x4096 .f32) (x4 : Vec F S256x4096 .bf16) (x5 : Vec F S1x4096 .bf16) : FVec F S2x128 .f32 := k0_pay1 (scale x0 x1 x2 x3 x4 x5)

/-! ## The body's triple -/

set_option maxHeartbeats 2000000 in
/-- The body on whole staging memrefs, the inputs' at read contents `xW`, three outputs' at anything and the packed scales' at `x9`, runs to
    the continuation holding the inputs' as they were, the three outputs' at the values above, and the packed scales with the point's two rows put in. -/
theorem sound_kernel (c : Dev nD) (E : Set ℕ) (i : grid0.Coords) (arg1 : Memref sig .tc .vmem S256x2048 .fp8e4m3) (harg1 : arg1.IsWhole) (arg2 : Memref sig .tc .vmem S256x1 .f32) (harg2 : arg2.IsWhole) (arg3 : Memref sig .tc .vmem S2048x4096 .fp8e4m3) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S1x4096 .bf16) (harg6 : arg6.IsWhole) (arg7 : Memref sig .tc .vmem S256x4096 .f32) (harg7 : arg7.IsWhole) (arg8 : Memref sig .tc .vmem S256x4096 .fp8e4m3) (harg8 : arg8.IsWhole) (arg9 : Memref sig .tc .vmem S256x1 .f32) (harg9 : arg9.IsWhole) (arg10 : Memref sig .tc .vmem S8x128 .f32) (harg10 : arg10.IsWhole)
    (x0 : Vec F S256x2048 .fp8e4m3) (x1 : Vec F S256x1 .f32) (x2 : Vec F S2048x4096 .fp8e4m3) (x3 : Vec F S1x4096 .f32) (x4 : Vec F S256x4096 .bf16) (x5 : Vec F S1x4096 .bf16) (x9 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare x9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (hidden x0 x1 x2 x3 x4) ∗ owns (c : Thread nD τ) arg8 fullShare (codes x0 x1 x2 x3 x4 x5) ∗ owns (c : Thread nD τ) arg9 fullShare (scale x0 x1 x2 x3 x4 x5) ∗ owns (c : Thread nD τ) arg10 fullShare (VecWindow.put x9 (k0_off1 i) S2x128.size (dense x0 x1 x2 x3 x4 x5))) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10) K := by
  simp only [cc0_oproj_eq_skeleton]; unfold cc0_oproj_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  subst hf0 hf1 hf2 hf3 hf4 hf5 hf9
  sl_exec
  sl_step
  iapply Hk
  have e0 : View.readAt (Elt F) arg1.view (Rect.unit (s := S256x2048) ![0, 0] S256x2048.size inb_S256x2048_S256x2048_0_0).toLoadRect f0 = View.read (Elt F) arg1.view f0 := View.readAt_full _ _ _
  have e1 : View.readAt (Elt F) arg2.view (Rect.unit (s := S256x1) ![0, 0] S256x1.size inb_S256x1_S256x1_0_0).toLoadRect f1 = View.read (Elt F) arg2.view f1 := View.readAt_full _ _ _
  have e2 : View.readAt (Elt F) arg3.view (Rect.unit (s := S2048x4096) ![0, 0] S2048x4096.size inb_S2048x4096_S2048x4096_0_0).toLoadRect f2 = View.read (Elt F) arg3.view f2 := View.readAt_full _ _ _
  have e3 : View.readAt (Elt F) arg4.view (Rect.unit (s := S1x4096) ![0, 0] S1x4096.size inb_S1x4096_S1x4096_0_0).toLoadRect f3 = View.read (Elt F) arg4.view f3 := View.readAt_full _ _ _
  have e4 : View.readAt (Elt F) arg5.view (Rect.unit (s := S256x4096) ![0, 0] S256x4096.size inb_S256x4096_S256x4096_0_0).toLoadRect f4 = View.read (Elt F) arg5.view f4 := View.readAt_full _ _ _
  have e5 : View.readAt (Elt F) arg6.view (Rect.unit (s := S1x4096) ![0, 0] S1x4096.size inb_S1x4096_S1x4096_0_0).toLoadRect f5 = View.read (Elt F) arg6.view f5 := View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_full _ _ _ _ _).trans ?_
    rw [← e0, ← e1, ← e2, ← e3, ← e4]; rfl
  isplitl [H7]
  · iexists _; isplitr
    swap; · iexact H7
    ipureintro
    refine (View.read_writes_full _ _ _ _ _).trans ?_
    rw [← e0, ← e1, ← e2, ← e3, ← e4, ← e5]; rfl
  isplitl [H8]
  · iexists _; isplitr
    swap; · iexact H8
    ipureintro
    refine (View.read_writes_full _ _ _ _ _).trans ?_
    rw [← e0, ← e1, ← e2, ← e3, ← e4, ← e5]; rfl
  iexists _; isplitr
  swap; · iexact H9
  ipureintro
  refine (View.read_writes_cons_put _ _ _ _ _ rfl).trans ?_
  rw [← e0, ← e1, ← e2, ← e3, ← e4, ← e5]; rfl

end Cert.OprojIdeal.Hand

end
-- ==== Proof.OprojRun.lean ====
/-
  The attention output projection's run: the pipeline's proof data, the body obligation, the launch, and the frame.

  The packed scales' window keeps its buffer through all four points, each of which fills two rows, so before the last point the buffer's other
  rows are whatever it held at first: of that window the obligation says which rows are right (`Rows`), and the buffer that is written back,
  after the last point, is right at every row.
-/
module

public import proofs.«01_k».proof.Proof.OprojBody
public import Idealize.ShloMosaic.Lib.Pipeline.ArrRel
public import Idealize.ShloMosaic.Lib.Claim
public import Idealize.ShloMosaic.Lib.ValueIdx

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two rows of packed scales that point `t` computes. -/
abbrev rowsAt (c : Dev nD) (t : Fin cfg0.N) : FVec F S2x128 .f32 := dense (iblk m c 0 t) (iblk m c 1 t) (iblk m c 2 t) (iblk m c 3 t) (iblk m c 4 t) (iblk m c 5 t)

/-- The point that owns a row of the packed scales. -/
abbrev ownerOf (y : S8x128.Idx) : Fin cfg0.N := ⟨(y 0).val / 2, lt_of_lt_of_eq (by have := (y 0).isLt; have h : S8x128.size 0 = 8 := rfl; omega) N_0.symm⟩

/-- All the packed scales: row `y` is row `y % 2` of its owner's two. -/
def packed (c : Dev nD) : Vec F S8x128 .f32 := fun y => rowsAt m c (ownerOf y) (ix2 ⟨(y 0).val % 2, Nat.mod_lt _ (by norm_num)⟩ (y 1))

/-- A buffer of packed scales is right at the rows of the points up to `t`. -/
def Rows (c : Dev nD) (t : Fin cfg0.N) (X : Vec F S8x128 .f32) : Prop := ∀ y : S8x128.Idx, (y 0).val < 2 * (t.val + 1) → X y = packed m c y

/-- The proof data: the arrays as the region finds them; after the body at point `t` each input's buffer at its block, each output's at the body's
    values of the input blocks, and the packed scales' at `packed`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidden (iblk m c 0 t) (iblk m c 1 t) (iblk m c 2 t) (iblk m c 3 t) (iblk m c 4 t)
    | ⟨7, _⟩ => codes (iblk m c 0 t) (iblk m c 1 t) (iblk m c 2 t) (iblk m c 3 t) (iblk m c 4 t) (iblk m c 5 t)
    | ⟨8, _⟩ => scale (iblk m c 0 t) (iblk m c 1 t) (iblk m c 2 t) (iblk m c 3 t) (iblk m c 4 t) (iblk m c 5 t)
    | ⟨9, _⟩ => packed m c
  Φ _ := Pipeline.ΦA spec0 c
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d

/-- The packed scales' window is the one held to a predicate. -/
def marked : Fin cfg0.W → Bool := fun w => match w with | ⟨9, _⟩ => true | _ => false

theorem marked_iff : ∀ w : Fin 10, marked w = true → w = 9 := by decide

/-- The predicate. -/
def held (c : Dev nD) (w : Fin cfg0.W) (t : Fin cfg0.N) : ((cfg0.win w).block.Idx → Elt F (cfg0.win w).elt) → Prop :=
  match w with | ⟨9, _⟩ => fun X => Rows m c t X | _ => fun _ => True

/-- The relational data. -/
abbrev rdat (c : Dev nD) : RDat τ (Elt F) Unit ℕ (UR sig nD τ) ℕ cfg0 c := (dats m 0 c).toRRel marked (held m c)

/-! ## The packed scales from point to point -/

theorem off_eq : ∀ t : Fin cfg0.N, k0_off1 (grid0.coords t) = ![2 * t.val, 0] :=
  (by decide +kernel : ∀ t : Fin grid0.N, k0_off1 (grid0.coords t) = ![2 * t.val, 0])

theorem noflush9 (t : Fin cfg0.N) (h : t.val + 1 < 4) : (cfg0.win 9).flush t = false := by
  rcases hf : (cfg0.win 9).flush t with _ | _
  · rfl
  · have := (flush0_9 t).mp hf; omega

/-- What the body finds at a point is right at the rows of the points before it. -/
theorem found (c : Dev nD) (t : Fin cfg0.N) (Y : Vec F S8x128 .f32) (h : (rdat m c).Finds 9 t Y) (y : S8x128.Idx) (hy : (y 0).val < 2 * t.val) : Y y = packed m c y := by
  have hN : t.val < 4 := lt_of_lt_of_eq t.isLt N_0
  have ht : t.val ≠ 0 := by omega
  rcases ((rdat m c).finds_of_pos (w := 9) rfl ht Y).mp h with h | h
  · rw [noflush9 _ (by show t.val - 1 + 1 < 4; omega)] at h; exact absurd h Bool.false_ne_true
  · have hR : Rows m c ⟨t.val - 1, _⟩ Y := (dats m 0 c).toRRel_leaves (w := 9) rfl h
    exact hR y (by show (y 0).val < 2 * (t.val - 1 + 1); omega)

/-- The point's two rows put in, it is right at the rows of the points up to it. -/
theorem put_rows (c : Dev nD) (t : Fin cfg0.N) (Y : Vec F S8x128 .f32) (h : (rdat m c).Finds 9 t Y) :
    Rows m c t (VecWindow.put Y (k0_off1 (grid0.coords t)) S2x128.size (rowsAt m c t)) := by
  intro y hy
  rw [off_eq t]
  unfold VecWindow.put
  have h1 : (y 1).val < 128 := (y 1).isLt
  by_cases hlo : (y 0).val < 2 * t.val
  · rw [dif_neg (fun hall => by have h0 : 2 * t.val ≤ (y 0).val := (hall (0 : Fin 2)).1; omega)]
    exact found m c t Y h y hlo
  · have hmem : ∀ a : Fin 2, (![2 * t.val, 0] : Fin 2 → ℕ) a ≤ (y a).val ∧ (y a).val < (![2 * t.val, 0] : Fin 2 → ℕ) a + S2x128.size a := by
      intro a
      match a with
      | ⟨0, _⟩ => show 2 * t.val ≤ (y 0).val ∧ (y 0).val < 2 * t.val + 2; omega
      | ⟨1, _⟩ => show 0 ≤ (y 1).val ∧ (y 1).val < 0 + 128; omega
    rw [dif_pos hmem]
    unfold packed
    have ho : ownerOf y = t := Fin.ext (by show (y 0).val / 2 = t.val; omega)
    rw [ho]
    refine congrArg (rowsAt m c t) ?_
    funext a; apply Fin.ext
    match a with
    | ⟨0, _⟩ => show (y 0).val - 2 * t.val = (y 0).val % 2; omega
    | ⟨1, _⟩ => show (y 1).val - 0 = (y 1).val; omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d))
    ∗ (∃ Y, ⌜(rdat m c).Finds 9 t Y⌝ ∗ owns (c : Thread nD τ) (st0_9 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t)
    ∗ (∃ X, ⌜held m c 9 t X⌝ ∗ owns (c : Thread nD τ) (st0_9 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) Y _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitr
  swap; · iexact H9
  ipureintro
  exact put_rows m c t Y hY

theorem defs₀_row (t : Fin cfg0.N) : defs₀ (F := F) .tc cfg0.body (cfg0.bodyArgs t (cfg0.slots t)) = bodyAt0 t := by
  unfold defs₀; rw [Defs.onTc_tc]

/-- The library's body obligation, the packed scales held to `Rows`. -/
theorem body_obligation (c : Dev nD) : BodyObligationRel (dats (F := F) m 0 c) (defs₀ (F := F)) Variants.none () Set.univ marked (held m c) := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- The launch, with the packed scales held to `Rows`. -/
theorem run_rel : θ_run defs (onTc (τ := τ) (main (F := F))) (s₀ m ρ)
    (fun r => RDat.FramePost (cfgs 0) (fun c => (dats m 0 c).toRRel marked (held m c)) (V m) r ∧ r.2.sem = fun _ => 0) :=
  Pipeline.RDat.θ_run_frame (Q' := _) cfgs (0 : Fin 1) launch0 defs₀ Variants.none (fun c => (dats m 0 c).toRRel marked (held m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- What the body leaves at a point that writes back is what the proof data say. -/
theorem leaves_eq (c : Dev nD) (w : Fin cfg0.W) (t : Fin cfg0.N) (hf : (cfg0.win w).flush t = true) (X : (cfg0.win w).block.Idx → Elt F (cfg0.win w).elt)
    (h : (rdat m c).Leaves w t X) : (dats m 0 c).after w t = X := by
  rcases hm : marked w with _ | _
  · obtain ⟨Y, -, hX⟩ := h
    rw [(dats m 0 c).toRRel_after_of_eq_false hm] at hX
    have hX' : (dats m 0 c).Leaves w t X := hX
    exact hX'.symm
  · obtain rfl : w = 9 := marked_iff w hm
    have hR : Rows m c t X := (dats m 0 c).toRRel_leaves (w := 9) rfl h
    have h3 := (flush0_9 t).mp hf
    funext y
    have hy : (y 0).val < 8 := (y 0).isLt
    exact (hR y (by omega)).symm

/-- The launch: every final state has every array of the pipeline at what the library computes from the proof data, every other unscoped buffer
    as the region found it, and every semaphore counter at zero. -/
theorem run_main_quiescent : θ_run defs (onTc (τ := τ) (main (F := F))) (s₀ m ρ)
    (fun r => (Pipeline.FramePost cfgs (dats m) 0 (V m)) r ∧ r.2.sem = fun _ => 0) :=
  (θ_run defs _ _).mono (fun r h => ⟨fun c => ⟨fun w => by
      obtain ⟨X, hX, hA⟩ := ((h.1 c).1 w).exists_exact
      exact hA (dats m 0 c).after fun u hu hfu => leaves_eq m c w u hfu (X u) (hX u hu hfu), (h.1 c).2⟩, h.2⟩) (run_rel m ρ)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.OprojIdeal.Hand

end
-- ==== Proof.OprojFrame.lean ====
/-
  The frame of the attention output projection as printed. The program and its idealization, which rewrites nothing, are one program printed
  under two names: their buffers, their entries and their kernels are equal, so the frame of the one is the frame of the other.
-/
module

public import proofs.«01_k».proof.Defs
public import proofs.«01_k».proof.Proof.OprojRun
public import proofs.«01_k».proof.Proof.Gen.Oproj

@[expose] public section

set_option maxRecDepth 65536

noncomputable section

open Idealize.ShloMosaic Idealize.ShloMosaic.TcCoe Idealize.SL.Sem

namespace Cert.Oproj.Hand

/-- The kernel is the idealization's. -/
theorem body_eq : @cc0_oproj Bits _ _ = @Cert.OprojIdeal.cc0_oproj Bits _ _ := rfl

/-- So are the bodies' table, -/
theorem defs₀_eq : defs₀ (F := Bits) = Cert.OprojIdeal.defs₀ (F := Bits) := by
  unfold defs₀ Cert.OprojIdeal.defs₀
  refine congrArg Defs.onTc ?_
  funext l x
  match l, x with
  | 0, (t, s) => rfl
  | ⟨_ + 1, h⟩, _ => exact absurd h (Nat.not_lt.2 (Nat.le_add_left _ _))

/-- the definitions, -/
theorem defs_eq : defs (F := Bits) = Cert.OprojIdeal.defs (F := Bits) := congrArg (Pipeline.defs Cert.OprojIdeal.pcfgs) defs₀_eq

/-- and the entry. -/
theorem main_eq : main (F := Bits) = Cert.OprojIdeal.main (F := Bits) := rfl

/-- The frame. -/
theorem frame : Cert.quiescent_Oproj (hOproj := Cert.Oproj.Gen.facts) := by
  intro m ρ _
  have h := Cert.OprojIdeal.Hand.frame (F := Bits) m ρ
  have h' := defs_eq ▸ h
  exact h'

end Cert.Oproj.Hand

end
-- ==== Proof.OprojFinal.lean ====
/-
  The arrays that the attention output projection leaves: each row's results are the body's values at the point that owns the row.

  `rowOf`, `ptOf`: a row of the arrays as a row of a point's block. `G6`, `G7`, `G8`: the new residual stream, the codes, the scales.
  `run`: every run leaves those and the packed scales, and the arguments as they were.
-/
module

public import proofs.«01_k».proof.Proof.OprojRun

@[expose] public section

set_option maxRecDepth 16384

noncomputable section

namespace Cert.OprojIdeal.Hand

open Cert.OprojIdeal Cert.OprojIdeal.Gen
open Idealize.ShloMosaic Idealize.ShloMosaic.TcCoe Idealize.SL.Sem
open Idealize.ShloMosaic.ValueIdx
open Idealize.ShloMosaic.Pipeline (Dat RDat Cfg Window)

variable {F : FTy → Type} [FloatOps F]

variable (m : (ℓ : Loc nD τ sig) → Buf (Elt F) ℓ) (ρ : Dev nD → PrngReg)

/-- The point that owns row `r`. -/
abbrev ptOf (r : Fin 1024) : Fin cfg0.N := ⟨r.val / 256, lt_of_lt_of_eq (by omega) N_0.symm⟩

/-- Row `r`'s place in its point's block. -/
abbrev rowOf (r : Fin 1024) : Fin 256 := ⟨r.val % 256, Nat.mod_lt _ (by norm_num)⟩

/-- The new residual stream. -/
def G6 (c : Dev nD) : Vec F S1024x4096 .f32 := fun i =>
  hidden (iblk m c 0 (ptOf (i 0))) (iblk m c 1 (ptOf (i 0))) (iblk m c 2 (ptOf (i 0))) (iblk m c 3 (ptOf (i 0))) (iblk m c 4 (ptOf (i 0)))
    (ix2 (rowOf (i 0)) (i 1))

/-- The codes. -/
def G7 (c : Dev nD) : Vec F S1024x4096 .fp8e4m3 := fun i =>
  codes (iblk m c 0 (ptOf (i 0))) (iblk m c 1 (ptOf (i 0))) (iblk m c 2 (ptOf (i 0))) (iblk m c 3 (ptOf (i 0))) (iblk m c 4 (ptOf (i 0)))
    (iblk m c 5 (ptOf (i 0))) (ix2 (rowOf (i 0)) (i 1))

/-- The scales. -/
def G8 (c : Dev nD) : Vec F S1024x1 .f32 := fun i =>
  scale (iblk m c 0 (ptOf (i 0))) (iblk m c 1 (ptOf (i 0))) (iblk m c 2 (ptOf (i 0))) (iblk m c 3 (ptOf (i 0))) (iblk m c 4 (ptOf (i 0)))
    (iblk m c 5 (ptOf (i 0))) (ix2 (rowOf (i 0)) (i 1))

/-! ## The blocks of the results -/

theorem out_rows : ∀ t : Fin cfg0.N, (win0_6.index t 0 = t.val ∧ win0_6.index t 1 = 0) ∧ (win0_7.index t 0 = t.val ∧ win0_7.index t 1 = 0)
    ∧ (win0_8.index t 0 = t.val ∧ win0_8.index t 1 = 0) ∧ win0_9.index t 0 = 0 ∧ win0_9.index t 1 = 0 := by decide +kernel

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne
    ((by decide +kernel : ∀ t t' : Fin grid0.N, win0_6.index t = win0_6.index t' → t = t') t t' h)

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne
    ((by decide +kernel : ∀ t t' : Fin grid0.N, win0_7.index t = win0_7.index t' → t = t') t t' h)

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne
    ((by decide +kernel : ∀ t t' : Fin grid0.N, win0_8.index t = win0_8.index t' → t = t') t t' h)

theorem disjoint9 : ∀ t t' : Fin cfg0.N, (cfg0.win 9).flush t = true → (cfg0.win 9).flush t' = true → t ≠ t' →
    Disjoint ((cfg0.win 9).blk t).view.set ((cfg0.win 9).blk t').view.set := fun t t' h h' hne => by
  have e := (flush0_9 t).mp h
  have e' := (flush0_9 t').mp h'
  have l : t.val < 4 := lt_of_lt_of_eq t.isLt N_0
  have l' : t'.val < 4 := lt_of_lt_of_eq t'.isLt N_0
  exact absurd (Fin.ext (by omega)) hne

theorem final6 (c : Dev nD) : (dats m 0 c).arrAt 6 cfg0.N = G6 m c := by
  funext i
  obtain ⟨⟨h0, h1⟩, -⟩ := out_rows (ptOf (i 0))
  have h := congrFun ((dats m 0 c).read_blk_arrAt_eq_flushed 6 disjoint6 cfg0.N (ptOf (i 0)) (ptOf (i 0)).isLt (flush0_6 _)) (ix2 (rowOf (i 0)) (i 1))
  rw [View.read_apply] at h
  refine Eq.trans (congrArg ((dats m 0 c).arrAt 6 cfg0.N) ?_) h
  funext a; apply Fin.ext
  match a with
  | ⟨0, _⟩ => show (i 0).val = win0_6.index (ptOf (i 0)) 0 * 256 + 1 * ((i 0).val % 256); rw [h0]; show (i 0).val = (i 0).val / 256 * 256 + 1 * ((i 0).val % 256); omega
  | ⟨1, _⟩ => show (i 1).val = win0_6.index (ptOf (i 0)) 1 * 4096 + 1 * (i 1).val; rw [h1]; omega

theorem final7 (c : Dev nD) : (dats m 0 c).arrAt 7 cfg0.N = G7 m c := by
  funext i
  obtain ⟨-, ⟨h0, h1⟩, -⟩ := out_rows (ptOf (i 0))
  have h := congrFun ((dats m 0 c).read_blk_arrAt_eq_flushed 7 disjoint7 cfg0.N (ptOf (i 0)) (ptOf (i 0)).isLt (flush0_7 _)) (ix2 (rowOf (i 0)) (i 1))
  rw [View.read_apply] at h
  refine Eq.trans (congrArg ((dats m 0 c).arrAt 7 cfg0.N) ?_) h
  funext a; apply Fin.ext
  match a with
  | ⟨0, _⟩ => show (i 0).val = win0_7.index (ptOf (i 0)) 0 * 256 + 1 * ((i 0).val % 256); rw [h0]; show (i 0).val = (i 0).val / 256 * 256 + 1 * ((i 0).val % 256); omega
  | ⟨1, _⟩ => show (i 1).val = win0_7.index (ptOf (i 0)) 1 * 4096 + 1 * (i 1).val; rw [h1]; omega

theorem final8 (c : Dev nD) : (dats m 0 c).arrAt 8 cfg0.N = G8 m c := by
  funext i
  obtain ⟨-, -, ⟨h0, h1⟩, -⟩ := out_rows (ptOf (i 0))
  have h := congrFun ((dats m 0 c).read_blk_arrAt_eq_flushed 8 disjoint8 cfg0.N (ptOf (i 0)) (ptOf (i 0)).isLt (flush0_8 _)) (ix2 (rowOf (i 0)) (i 1))
  rw [View.read_apply] at h
  refine Eq.trans (congrArg ((dats m 0 c).arrAt 8 cfg0.N) ?_) h
  funext a; apply Fin.ext
  match a with
  | ⟨0, _⟩ => show (i 0).val = win0_8.index (ptOf (i 0)) 0 * 256 + 1 * ((i 0).val % 256); rw [h0]; show (i 0).val = (i 0).val / 256 * 256 + 1 * ((i 0).val % 256); omega
  | ⟨1, _⟩ => show (i 1).val = win0_8.index (ptOf (i 0)) 1 * 1 + 1 * (i 1).val; rw [h1]; omega

theorem final9 (c : Dev nD) : (dats m 0 c).arrAt 9 cfg0.N = packed m c := by
  funext i
  have l : 3 < cfg0.N := lt_of_lt_of_eq (by norm_num) N_0.symm
  obtain ⟨-, -, -, h0, h1⟩ := out_rows ⟨3, l⟩
  have h := congrFun ((dats m 0 c).read_blk_arrAt_eq_flushed 9 disjoint9 cfg0.N ⟨3, l⟩ l ((flush0_9 _).mpr rfl)) i
  rw [View.read_apply] at h
  refine Eq.trans (congrArg ((dats m 0 c).arrAt 9 cfg0.N) ?_) h
  funext a; apply Fin.ext
  match a with
  | ⟨0, _⟩ => show (i 0).val = win0_9.index ⟨3, l⟩ 0 * 8 + 1 * (i 0).val; rw [h0]; omega
  | ⟨1, _⟩ => show (i 1).val = win0_9.index ⟨3, l⟩ 1 * 128 + 1 * (i 1).val; rw [h1]; omega

/-! ## The run -/

/-- Every run leaves the four results and the arguments as they were. -/
theorem run : θ_run defs (onTc (τ := τ) (main (F := F))) ⟨m, fun _ => 0, ρ⟩ fun r => ∀ c : Dev nD,
      r.2.mem ((c : Thread nD τ).loc main_v0_0) = G6 m c
      ∧ r.2.mem ((c : Thread nD τ).loc main_v0_1) = G7 m c
      ∧ r.2.mem ((c : Thread nD τ).loc main_v0_2) = G8 m c
      ∧ r.2.mem ((c : Thread nD τ).loc main_v0_3) = packed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 6).trans (final6 m c), ((h.1 c).1 7).trans (final7 m c), ((h.1 c).1 8).trans (final8 m c),
      ((h.1 c).1 9).trans (final9 m c), h.2.1 c⟩)
    (θ_run_and (run_main m ρ) (frame m ρ))

end Cert.OprojIdeal.Hand

end
-- ==== Proof.RowTree.lean ====
/-
  A row's sum of squares, taken by lanes, sublanes and rotations, at the ideal instance.

  A block of `M` rows by 4096 columns is squared and its 32 groups of 128 lanes are added (`lanes`); the transposed 128 x `M` sums are added in 16
  groups of 8 sublanes (`sublanes`); and three rotations add up the eight that are left (`rolls_apply`). Each of the 4096 squares of a row is in the
  result once (`total_eq`), and addition on the extended reals does not depend on the order.
-/
module

public import proofs.«01_k».proof.Proof.Row
public import Idealize.ShloMosaic.Lib.ValueLayout
public import Idealize.ShloMosaic.Lib.KernelVsHost

@[expose] public section

noncomputable section

open Idealize.ShloMosaic Idealize.ShloMosaic.ValueIdx
open scoped BigOperators

namespace Cert.RowTree

/-- A sum over `a * b` numbers in `a` groups of `b`. -/
theorem sum_groups (f : ℕ → EReal) (a b : ℕ) :
    ∑ j ∈ Finset.range (a * b), f j = ∑ g ∈ Finset.range a, ∑ l ∈ Finset.range b, f (b * g + l) := by
  induction a with
  | zero => simp
  | succ a ih => rw [Nat.succ_mul, Finset.sum_range_add, ih, Finset.sum_range_succ, Nat.mul_comm a b]

variable {M : ℕ}

/-- The squares of 128 columns of `v`, from column `o` on. -/
def sq (v : FVec Ideal ⟨2, ![M, 4096]⟩ .f32) (o : ℕ) : FVec Ideal ⟨2, ![M, 128]⟩ .f32 := fun i =>
  v (ix2 (i 0) ⟨(o + (i 1).val) % 4096, Nat.mod_lt _ (by norm_num)⟩) * v (ix2 (i 0) ⟨(o + (i 1).val) % 4096, Nat.mod_lt _ (by norm_num)⟩)

theorem sq_eq (v : FVec Ideal ⟨2, ![M, 4096]⟩ .f32) (o : ℕ) (h : (⟨2, ![M, 4096]⟩ : Shape).Slices ![0, o] ⟨2, ![M, 128]⟩) :
    mulf (extractStridedSlice ⟨2, ![M, 128]⟩ ![0, o] v h) (extractStridedSlice ⟨2, ![M, 128]⟩ ![0, o] v h) = sq v o := by
  funext i
  obtain ⟨r, l, rfl⟩ : ∃ (r : Fin M) (l : Fin 128), i = ix2 r l := ⟨i 0, i 1, (eq_ix2 i)⟩
  have hb : o + 128 ≤ 4096 := h.2 1
  rw [Row.mulf_at, slice2_axis1_apply o v h r l ⟨(o + l.val) % 4096, Nat.mod_lt _ (by norm_num)⟩ (Nat.mod_eq_of_lt (by omega))]
  rfl

/-- The 32 groups of lanes added. -/
def lanes (v : FVec Ideal ⟨2, ![M, 4096]⟩ .f32) : FVec Ideal ⟨2, ![M, 128]⟩ .f32 := fun i => ∑ g ∈ Finset.range 32, sq v (128 * g) i

/-- Eight lanes of `w` as sublanes, from lane `o` on. -/
def sub (w : FVec Ideal ⟨2, ![M, 128]⟩ .f32) (o : ℕ) : FVec Ideal ⟨2, ![8, M]⟩ .f32 := fun i =>
  w (ix2 (i 1) ⟨(o + (i 0).val) % 128, Nat.mod_lt _ (by norm_num)⟩)

theorem sub_eq (w : FVec Ideal ⟨2, ![M, 128]⟩ .f32) (o : ℕ) (ht : (⟨2, ![M, 128]⟩ : Shape).Transposes [1, 0] ⟨2, ![128, M]⟩)
    (h : (⟨2, ![128, M]⟩ : Shape).Slices ![o, 0] ⟨2, ![8, M]⟩) :
    extractStridedSlice ⟨2, ![8, M]⟩ ![o, 0] (transpose ⟨2, ![128, M]⟩ [1, 0] w ht) h = sub w o := by
  funext i
  obtain ⟨s, r, rfl⟩ : ∃ (s : Fin 8) (r : Fin M), i = ix2 s r := ⟨i 0, i 1, (eq_ix2 i)⟩
  have hb : o + 8 ≤ 128 := h.2 0
  rw [slice2_axis0_apply o _ h s r ⟨(o + s.val) % 128, Nat.mod_lt _ (by norm_num)⟩ (Nat.mod_eq_of_lt (by omega)), transpose_ix2_apply]
  rfl

/-- The 16 groups of sublanes added. -/
def sublanes (w : FVec Ideal ⟨2, ![M, 128]⟩ .f32) : FVec Ideal ⟨2, ![8, M]⟩ .f32 := fun i => ∑ k ∈ Finset.range 16, sub w (8 * k) i

/-- A rotation of the eight sublanes by `n`. -/
theorem rot_apply (n : ℕ) (hn : n < 8) (x : FVec Ideal ⟨2, ![8, M]⟩ .f32) (h : (⟨2, ![8, M]⟩ : Shape).Rotates 0 none) (s : Fin 8) (r : Fin M) :
    dynamicRotate 0 (BitVec.ofNat 32 n) none x h (ix2 s r) = x (ix2 ⟨(s.val + 8 - n) % 8, Nat.mod_lt _ (by norm_num)⟩ r) := by
  refine dynamicRotate_apply 0 _ x h _ _ fun b => ?_
  match b with
  | ⟨0, _⟩ =>
    show (s.val + 8 - n) % 8 = (s.val + 8 - (n % 2 ^ 32) % 8) % 8
    rw [Nat.mod_eq_of_lt (show n < 2 ^ 32 by omega), Nat.mod_eq_of_lt hn]
  | ⟨1, _⟩ => rfl

/-- Three rotations and additions leave in sublane 0 the sum of all eight. -/
theorem rolls_apply (x : FVec Ideal ⟨2, ![8, M]⟩ .f32) (h : (⟨2, ![8, M]⟩ : Shape).Rotates 0 none) (r : Fin M) :
    addf (addf (addf x (dynamicRotate 0 4#32 none x h)) (dynamicRotate 0 2#32 none (addf x (dynamicRotate 0 4#32 none x h)) h))
        (dynamicRotate 0 1#32 none (addf (addf x (dynamicRotate 0 4#32 none x h)) (dynamicRotate 0 2#32 none (addf x (dynamicRotate 0 4#32 none x h)) h)) h)
        (ix2 0 r)
      = ∑ s : Fin 8, x (ix2 s r) := by
  have a4 : ∀ s : Fin 8, addf x (dynamicRotate 0 4#32 none x h) (ix2 s r) = x (ix2 s r) + x (ix2 ⟨(s.val + 8 - 4) % 8, Nat.mod_lt _ (by norm_num)⟩ r) :=
    fun s => congrArg (x (ix2 s r) + ·) (rot_apply 4 (by norm_num) x h s r)
  generalize addf x (dynamicRotate 0 4#32 none x h) = y at a4
  have a2 : ∀ s : Fin 8, addf y (dynamicRotate 0 2#32 none y h) (ix2 s r) = y (ix2 s r) + y (ix2 ⟨(s.val + 8 - 2) % 8, Nat.mod_lt _ (by norm_num)⟩ r) :=
    fun s => congrArg (y (ix2 s r) + ·) (rot_apply 2 (by norm_num) y h s r)
  generalize addf y (dynamicRotate 0 2#32 none y h) = z at a2
  have a1 : ∀ s : Fin 8, addf z (dynamicRotate 0 1#32 none z h) (ix2 s r) = z (ix2 s r) + z (ix2 ⟨(s.val + 8 - 1) % 8, Nat.mod_lt _ (by norm_num)⟩ r) :=
    fun s => congrArg (z (ix2 s r) + ·) (rot_apply 1 (by norm_num) z h s r)
  rw [a1 0, a2, a2, a4, a4, a4, a4, Fin.sum_univ_eight]
  show x (ix2 0 r) + x (ix2 4 r) + (x (ix2 6 r) + x (ix2 2 r)) + (x (ix2 7 r) + x (ix2 3 r) + (x (ix2 5 r) + x (ix2 1 r))) = _
  abel

/-- All together: each square of the row is added once. -/
theorem total_eq (v : FVec Ideal ⟨2, ![M, 4096]⟩ .f32) (r : Fin M) :
    ∑ s : Fin 8, sublanes (lanes v) (ix2 s r) = ∑ j : Fin 4096, v (ix2 r j) * v (ix2 r j) := by
  let f : ℕ → EReal := fun j => v (ix2 r ⟨j % 4096, Nat.mod_lt _ (by norm_num)⟩) * v (ix2 r ⟨j % 4096, Nat.mod_lt _ (by norm_num)⟩)
  have e1 : ∀ s : Fin 8, sublanes (lanes v) (ix2 s r) = ∑ k ∈ Finset.range 16, ∑ g ∈ Finset.range 32, f (128 * g + (8 * k + s.val)) := fun s => by
    unfold sublanes
    refine Finset.sum_congr rfl fun k hk => ?_
    have hk' := Finset.mem_range.mp hk
    have hs := s.isLt
    show ∑ g ∈ Finset.range 32, f (128 * g + (8 * k + s.val) % 128) = _
    rw [Nat.mod_eq_of_lt (by omega)]
  have e2 : ∑ j : Fin 4096, v (ix2 r j) * v (ix2 r j) = ∑ j ∈ Finset.range (32 * 128), f j := by
    refine Eq.trans ?_ (Fin.sum_univ_eq_sum_range f 4096)
    refine Finset.sum_congr rfl fun j _ => ?_
    have : (⟨j.val % 4096, Nat.mod_lt _ (by norm_num)⟩ : Fin 4096) = j := Fin.ext (Nat.mod_eq_of_lt j.isLt)
    show _ = v (ix2 r ⟨j.val % 4096, _⟩) * v (ix2 r ⟨j.val % 4096, _⟩)
    rw [this]
  rw [e2, sum_groups f 32 128, Finset.sum_congr rfl fun s _ => e1 s]
  rw [Fin.sum_univ_eq_sum_range (fun s => ∑ k ∈ Finset.range 16, ∑ g ∈ Finset.range 32, f (128 * g + (8 * k + s))) 8]
  rw [Finset.sum_comm]
  rw [← sum_groups (fun l => ∑ g ∈ Finset.range 32, f (128 * g + l)) 16 8]
  exact Finset.sum_comm

end Cert.RowTree

end
-- ==== Proof.OprojEntries.lean ====
/-
  The attention output projection's payloads read at one index, at the ideal instance.

  `hid` is the one number both programs compute at a row and a column of the new residual stream. `normed_apply`: the kernel's normalised row divides by
  the root of the mean of all 4096 squares.
-/
module

public import proofs.«01_k».proof.Proof.OprojFinal
public import proofs.«01_k».proof.Proof.RowTree
public import proofs.«01_k».proof.Proof.Codes
public import proofs.«01_k».proof.Proof.Gen.OprojRefIdeal.Value

@[expose] public section

set_option maxRecDepth 16384

noncomputable section

open Idealize.ShloMosaic Idealize.ShloMosaic.ValueIdx
open scoped BigOperators

namespace Cert.Oproj.Entries

open Cert.OprojIdeal Cert.OprojIdeal.Gen Cert.OprojIdeal.Hand

/-! ## The residual stream -/

/-- The old residual plus the projection's product times the row's and the column's scale. -/
def hid (x p s w : EReal) : EReal := x + p * s * w

section Kernel

variable (x0 : Vec Ideal S256x2048 .fp8e4m3) (x1 : Vec Ideal S256x1 .f32) (x2 : Vec Ideal S2048x4096 .fp8e4m3) (x3 : Vec Ideal S1x4096 .f32)
  (x4 : Vec Ideal S256x4096 .bf16) (x5 : Vec Ideal S1x4096 .bf16)

/-- The kernel's new residual stream at a row and a column of the block. -/
theorem hidden_apply (r : Fin 256) (j : Fin 4096) :
    hidden (F := Ideal) x0 x1 x2 x3 x4 (ix2 r j) = hid (x4 (ix2 r j)) (∑ k : Fin 2048, x0 (ix2 r k) * x2 (ix2 k j)) (x1 (ix2 r 0)) (x3 (ix2 0 j)) := by
  rw [← Row.matmul_zero x0 x2 r j, ← Row.bcol_apply x1 facts.broadcasts_S256x1_S256x4096 r j,
    ← Row.brow_apply x3 facts.broadcasts_S1x4096_S256x4096 r j]
  rfl

/-- The root mean square's inverse, from the eight sublanes' sums. -/
abbrev inverseRms (x : FVec Ideal S8x256 .f32) : FVec Ideal S256x1 .f32 :=
  rsqrt (addf (mulf (extractStridedSlice S256x1 ![0, 0] (transpose S256x8 [1, 0]
    (addf (addf (addf x (dynamicRotate 0 4#32 none x facts.rotates_S8x256_d0)) (dynamicRotate 0 2#32 none (addf x (dynamicRotate 0 4#32 none x facts.rotates_S8x256_d0)) facts.rotates_S8x256_d0))
        (dynamicRotate 0 1#32 none (addf (addf x (dynamicRotate 0 4#32 none x facts.rotates_S8x256_d0)) (dynamicRotate 0 2#32 none (addf x (dynamicRotate 0 4#32 none x facts.rotates_S8x256_d0)) facts.rotates_S8x256_d0)) facts.rotates_S8x256_d0))
      facts.transposes_S8x256_p1_0_S256x8) facts.slices_S256x8_o0_0_S256x1) (broadcast S256x1 (Scalar.ofBits .f32 0x39800000#32)))
    (broadcast S256x1 (Scalar.ofBits .f32 0x3727C5AC#32)))

/-- Eight sublanes of the transposed sums. -/
theorem sub_at (w : FVec Ideal S256x128 .f32) (o : ℕ) (h : S128x256.Slices ![o, 0] S8x256) :
    extractStridedSlice S8x256 ![o, 0] (transpose S128x256 [1, 0] w facts.transposes_S256x128_p1_0_S128x256) h = RowTree.sub w o := RowTree.sub_eq w o _ h

/-- The rows over their root mean squares, from the sums of lanes. -/
theorem pay40_eq (v : FVec Ideal S256x4096 .f32) (a b c d e f g w : FVec Ideal S256x128 .f32) :
    k0_pay40 v a b c d e f g w = mulf v (broadcastTo S256x4096 (inverseRms (RowTree.sublanes (addf (addf (addf (addf (addf (addf (addf w a) b) c) d) e) f) g)))
      facts.broadcasts_S256x1_S256x4096) := by
  unfold k0_pay40
  have h : ∀ u : FVec Ideal S256x128 .f32, addf (addf (addf (addf (addf (addf (addf (addf (addf (addf (addf (addf (addf (addf (addf (RowTree.sub u 0) (RowTree.sub u 8)) (RowTree.sub u 16)) (RowTree.sub u 24))
      (RowTree.sub u 32)) (RowTree.sub u 40)) (RowTree.sub u 48)) (RowTree.sub u 56)) (RowTree.sub u 64)) (RowTree.sub u 72)) (RowTree.sub u 80)) (RowTree.sub u 88))
      (RowTree.sub u 96)) (RowTree.sub u 104)) (RowTree.sub u 112)) (RowTree.sub u 120) = RowTree.sublanes u := by
    intro u
    funext i
    unfold RowTree.sublanes
    simp only [Finset.sum_range_succ, Finset.sum_range_zero, zero_add]
    rfl
  dsimp only
  rw [sub_at _ 0, sub_at _ 8, sub_at _ 16, sub_at _ 24, sub_at _ 32, sub_at _ 40, sub_at _ 48, sub_at _ 56, sub_at _ 64, sub_at _ 72, sub_at _ 80, sub_at _ 88, sub_at _ 96, sub_at _ 104, sub_at _ 112, sub_at _ 120, h]

/-- The sums of lanes. -/
theorem lanes_eq : addf (addf (addf (addf (addf (addf (addf
      (k0_pay39 (k0_pay4 x4 x0 x2 x1 x3) (k0_pay5 x4 x0 x2 x1 x3) (k0_pay6 x4 x0 x2 x1 x3) (k0_pay7 x4 x0 x2 x1 x3) (k0_pay8 x4 x0 x2 x1 x3) (k0_pay9 x4 x0 x2 x1 x3)
        (k0_pay10 x4 x0 x2 x1 x3) (k0_pay11 x4 x0 x2 x1 x3) (k0_pay12 x4 x0 x2 x1 x3) (k0_pay13 x4 x0 x2 x1 x3) (k0_pay14 x4 x0 x2 x1 x3) (k0_pay15 x4 x0 x2 x1 x3)
        (k0_pay16 x4 x0 x2 x1 x3) (k0_pay17 x4 x0 x2 x1 x3) (k0_pay18 x4 x0 x2 x1 x3) (k0_pay19 x4 x0 x2 x1 x3) (k0_pay20 x4 x0 x2 x1 x3) (k0_pay21 x4 x0 x2 x1 x3)
        (k0_pay22 x4 x0 x2 x1 x3) (k0_pay23 x4 x0 x2 x1 x3) (k0_pay24 x4 x0 x2 x1 x3) (k0_pay25 x4 x0 x2 x1 x3) (k0_pay26 x4 x0 x2 x1 x3) (k0_pay27 x4 x0 x2 x1 x3)
        (k0_pay28 x4 x0 x2 x1 x3))
      (k0_pay32 (k0_pay29 x4 x0 x2 x1 x3))) (k0_pay33 (k0_pay30 x4 x0 x2 x1 x3))) (k0_pay34 (k0_pay31 x4 x0 x2 x1 x3)))
      (k0_pay35 (hidden x0 x1 x2 x3 x4))) (k0_pay36 (hidden x0 x1 x2 x3 x4))) (k0_pay37 (hidden x0 x1 x2 x3 x4))) (k0_pay38 (hidden x0 x1 x2 x3 x4))
    = RowTree.lanes (hidden (F := Ideal) x0 x1 x2 x3 x4) := by
  unfold k0_pay39 k0_pay4 k0_pay5 k0_pay6 k0_pay7 k0_pay8 k0_pay9 k0_pay10 k0_pay11 k0_pay12 k0_pay13 k0_pay14 k0_pay15 k0_pay16 k0_pay17 k0_pay18 k0_pay19 k0_pay20
    k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 Cert.OprojIdeal.Hand.hidden
  generalize k0_pay2 (F := Ideal) x4 x0 x2 x1 x3 = v
  simp only [RowTree.sq_eq]
  funext i
  unfold RowTree.lanes
  simp only [Finset.sum_range_succ, Finset.sum_range_zero, zero_add]
  rfl

/-- The normalised rows. -/
theorem normed_apply (r : Fin 256) (j : Fin 4096) :
    normed (F := Ideal) x0 x1 x2 x3 x4 (ix2 r j) = hidden (F := Ideal) x0 x1 x2 x3 x4 (ix2 r j)
      * Ideal.rsqrt ((∑ k : Fin 4096, hidden (F := Ideal) x0 x1 x2 x3 x4 (ix2 r k) * hidden (F := Ideal) x0 x1 x2 x3 x4 (ix2 r k))
          * Ideal.ofBits .f32 0x39800000#32 + Ideal.ofBits .f32 0x3727C5AC#32) := by
  unfold normed
  rw [pay40_eq, lanes_eq, Row.mulf_at, Row.bcol_apply]
  generalize hidden (F := Ideal) x0 x1 x2 x3 x4 = v
  rw [← RowTree.total_eq v r, ← RowTree.rolls_apply (RowTree.sublanes (RowTree.lanes v)) facts.rotates_S8x256_d0 r]
  generalize RowTree.sublanes (RowTree.lanes v) = x
  have e : ∀ y : FVec Ideal S8x256 .f32, extractStridedSlice S256x1 ![0, 0] (transpose S256x8 [1, 0] y facts.transposes_S8x256_p1_0_S256x8)
      facts.slices_S256x8_o0_0_S256x1 (ix2 r 0) = y (ix2 0 r) := fun y =>
    (slice2_axis1_apply 0 _ facts.slices_S256x8_o0_0_S256x1 r 0 0 rfl).trans (transpose_ix2_apply y facts.transposes_S8x256_p1_0_S256x8 r 0)
  refine Eq.trans ?_ (congrArg (fun q => v (ix2 r j) * Ideal.rsqrt (q * Ideal.ofBits .f32 0x39800000#32 + Ideal.ofBits .f32 0x3727C5AC#32)) (e _))
  rfl

end Kernel

end Cert.Oproj.Entries

end
-- ==== Proof.OprojQuant.lean ====
/-
  The attention output projection's norm and quantiser at one index, at the ideal instance.

  `rmsNorm` is the one number both programs compute at a row and a column of the normalised, weighted rows; `weighted_apply`, `ref_weighted` say so.
  `scale_apply`, `codes_apply`: the kernel's scales and codes are Quant.lean's at the row's greatest magnitude; `ref_scale`, `ref_codes`: the reference's.
-/
module

public import proofs.«01_k».proof.Proof.OprojEntries

@[expose] public section

set_option maxRecDepth 16384

noncomputable section

open Idealize.ShloMosaic Idealize.ShloMosaic.ValueIdx
open scoped BigOperators

namespace Cert.Oproj.Entries

/-! ## The norm -/

/-- A row `f` at column `j` over the row's root mean square, times the weight `g`. -/
def rmsNorm (f : Fin 4096 → EReal) (j : Fin 4096) (g : EReal) : EReal :=
  f j * Ideal.rsqrt ((∑ k : Fin 4096, f k * f k) * Ideal.ofBits .f32 0x39800000#32 + Ideal.ofBits .f32 0x3727C5AC#32) * g

theorem ofBits_4096 : Ideal.ofBits .f32 0x45800000#32 = ((4096 : ℝ) : EReal) := by
  simp [Ideal.ofBits, Ideal.ieee, -EReal.coe_mul]; norm_num

theorem ofBits_recip : Ideal.ofBits .f32 0x39800000#32 = ((1 / 4096 : ℝ) : EReal) := by
  simp [Ideal.ofBits, Ideal.ieee, -EReal.coe_mul]; norm_num

/-- Dividing by 4096 is multiplying by its reciprocal. -/
theorem mean_eq (x : EReal) : Ideal.div x (Ideal.ofBits .f32 0x45800000#32) = x * Ideal.ofBits .f32 0x39800000#32 := by
  rw [ofBits_4096, ofBits_recip, Ideal.div_coe (by norm_num)]

section Kernel

open Cert.OprojIdeal Cert.OprojIdeal.Gen Cert.OprojIdeal.Hand

variable (x0 : Vec Ideal S256x2048 .fp8e4m3) (x1 : Vec Ideal S256x1 .f32) (x2 : Vec Ideal S2048x4096 .fp8e4m3) (x3 : Vec Ideal S1x4096 .f32)
  (x4 : Vec Ideal S256x4096 .bf16) (x5 : Vec Ideal S1x4096 .bf16)

/-- The kernel's normalised, weighted rows. -/
abbrev weighted : FVec Ideal S256x4096 .f32 := k0_pay42 (normed (F := Ideal) x0 x1 x2 x3 x4) (gain (F := Ideal) x5)

theorem weighted_apply (r : Fin 256) (j : Fin 4096) :
    weighted x0 x1 x2 x3 x4 x5 (ix2 r j) = rmsNorm (fun k => hidden (F := Ideal) x0 x1 x2 x3 x4 (ix2 r k)) j (x5 (ix2 0 j)) := by
  have hg : gain (F := Ideal) x5 (ix2 r j) = x5 (ix2 0 j) := by
    unfold gain k0_pay41 k0_pay3
    exact Row.brow_apply _ _ r j
  have hw : weighted x0 x1 x2 x3 x4 x5 (ix2 r j) = normed (F := Ideal) x0 x1 x2 x3 x4 (ix2 r j) * gain (F := Ideal) x5 (ix2 r j) := by
    unfold weighted k0_pay42
    exact Row.mulf_at _ _ _
  rw [hw, hg, normed_apply]
  rfl

variable (n g : FVec Ideal S256x4096 .f32)

/-- The kernel's row maximum at most `x`: every entry of the row is, in absolute value. -/
theorem rowmax (r : Fin 256) (x : EReal) : k0_pay43 n g (ix2 r 0) ≤ x ↔ ∀ j : Fin 4096, Row.ab (k0_pay42 n g (ix2 r j)) ≤ x :=
  Row.rowmax_le (absf (k0_pay42 n g)) _ _ _ _ r 0 x

/-- The first four steps of the exponent search. -/
theorem search_hi : k0_pay45 n g = Row.vstep (k0_pay44 n g) (Row.vstep (k0_pay44 n g) (Row.vstep (k0_pay44 n g)
    (Row.vstep (k0_pay44 n g) (broadcast S256x1 0#32) 128#32) 64#32) 32#32) 16#32 := by
  unfold k0_pay45
  generalize k0_pay44 n g = t
  unfold Row.vstep
  rfl

/-- The last four. -/
theorem search_lo (t : FVec Ideal S256x1 .f32) (f : IVec S256x1 32) :
    k0_pay47 t f k0_pay46 = Row.vstep t (Row.vstep t (Row.vstep t (Row.vstep t f 8#32) 4#32) 2#32) 1#32 := by
  unfold k0_pay47 Row.vstep
  rfl

/-- The exponent field that the search finds. -/
theorem field_apply (i : S256x1.Idx) : k0_pay47 (k0_pay44 n g) (k0_pay45 n g) k0_pay46 i = Quant.field (k0_pay44 n g i) := by
  rw [search_lo, search_hi]; exact Row.vfield_at _ i

/-- The exponent from a found field. -/
theorem exponent_of_field (a t : FVec Ideal S256x1 .f32) (f o : IVec S256x1 32) (i : S256x1.Idx) :
    k0_pay50 (k0_pay48 a t f o) (k0_pay49 t f o) i = Quant.expOf (k0_pay47 t f o i) (a i) := by
  unfold k0_pay50 k0_pay48 k0_pay49 Quant.expOf
  generalize k0_pay47 t f o = w
  rfl

/-- The exponent that is chosen. -/
theorem exponent_apply (i : S256x1.Idx) :
    k0_pay50 (k0_pay48 (k0_pay43 n g) (k0_pay44 n g) (k0_pay45 n g) k0_pay46) (k0_pay49 (k0_pay44 n g) (k0_pay45 n g) k0_pay46) i
      = Quant.expOf (Quant.field (k0_pay44 n g i)) (k0_pay43 n g i) := by
  rw [exponent_of_field, field_apply]

theorem pay51_eq (b : IVec S256x1 1) (e : IVec S256x1 32) : k0_pay51 (F := Ideal) b e = Codes.pow2Vec (addi (k0_pay50 b e) (broadcast S256x1 127#32)) := by
  unfold k0_pay51
  generalize k0_pay50 b e = w
  rfl

theorem pay52_eq (v : FVec Ideal S256x4096 .f32) (b : IVec S256x1 1) (e : IVec S256x1 32) :
    k0_pay52 v b e = Codes.codeVec v (Codes.pow2Vec (addi (subi (broadcast S256x1 0#32) (k0_pay50 b e)) (broadcast S256x1 127#32)))
      facts.broadcasts_S256x1_S256x4096 facts.bitsLt_fp8e4m3_f32 := by
  unfold k0_pay52
  generalize k0_pay50 b e = w
  rfl

/-- The number whose exponent is found: the row maximum over 448. -/
theorem pay44_apply (i : S256x1.Idx) : k0_pay44 n g i = k0_pay43 n g i * Ideal.ofBits .f32 0x3B124925#32 := by
  unfold k0_pay44
  exact Row.mulf_at _ _ _

/-- The kernel's row maximum. -/
abbrev amax (r : Fin 256) : EReal := k0_pay43 (normed (F := Ideal) x0 x1 x2 x3 x4) (gain (F := Ideal) x5) (ix2 r 0)

/-- The kernel's scale of a row. -/
theorem scale_apply (r : Fin 256) : scale (F := Ideal) x0 x1 x2 x3 x4 x5 (ix2 r 0)
    = Quant.kScale (amax x0 x1 x2 x3 x4 x5 r * Ideal.ofBits .f32 0x3B124925#32) (amax x0 x1 x2 x3 x4 x5 r) := by
  unfold Cert.OprojIdeal.Hand.scale isOne expo
  rw [pay51_eq, Codes.pow2Vec_at, exponent_apply, pay44_apply]
  rfl

/-- The kernel's codes. -/
theorem codes_apply (r : Fin 256) (j : Fin 4096) : codes (F := Ideal) x0 x1 x2 x3 x4 x5 (ix2 r j)
    = Codes.clip (weighted x0 x1 x2 x3 x4 x5 (ix2 r j)
        * Quant.kInv (amax x0 x1 x2 x3 x4 x5 r * Ideal.ofBits .f32 0x3B124925#32) (amax x0 x1 x2 x3 x4 x5 r)) := by
  unfold Cert.OprojIdeal.Hand.codes isOne expo
  rw [pay52_eq, Codes.codeVec_at, Codes.pow2Vec_at]
  refine congrArg (fun e => Codes.clip (weighted x0 x1 x2 x3 x4 x5 (ix2 r j) * Quant.pow2 (IntOp.subi 0#32 e))) ?_
  rw [exponent_apply, pay44_apply]

end Kernel

section Reference

open Cert.OprojRefIdeal Cert.OprojRefIdeal.Gen

variable (a0 : Vec Ideal S1024x2048 .fp8e4m3) (a1 : Vec Ideal S1024x1 .f32) (a2 : Vec Ideal S2048x4096 .fp8e4m3) (a3 : Vec Ideal S1x4096 .f32)
  (a4 : Vec Ideal S1024x4096 .bf16) (a5 : Vec Ideal S1x4096 .bf16)

/-- The reference's new residual stream. -/
theorem ref_hidden (r : Fin 1024) (j : Fin 4096) :
    k0_pay1 a4 a0 a1 a2 a3 (ix2 r j) = hid (a4 (ix2 r j)) (∑ k : Fin 2048, a0 (ix2 r k) * a2 (ix2 k j)) (a1 (ix2 r 0)) (a3 (ix2 0 j)) := by
  rw [← Row.matmul_zero a0 a2 r j, ← Row.bcol_apply a1 facts.broadcasts_S1024x1_S1024x4096 r j,
    ← Row.brow_apply a3 facts.broadcasts_S1x4096_S1024x4096 r j]
  rfl

/-- The reference's inverse root mean square from the rows' sums of squares. -/
abbrev refRms (s : FVec Ideal S1024x1 .f32) : FVec Ideal S1024x1 .f32 :=
  rsqrt (addf (divf s (broadcast S1024x1 (Scalar.ofBits .f32 0x45800000#32))) (broadcast S1024x1 (Scalar.ofBits .f32 0x3727C5AC#32)))

theorem refRms_at (s : FVec Ideal S1024x1 .f32) (i : S1024x1.Idx) :
    refRms s i = Ideal.rsqrt (Ideal.div (s i) (Ideal.ofBits .f32 0x45800000#32) + Ideal.ofBits .f32 0x3727C5AC#32) := rfl

/-- The reference's normalised, weighted rows. -/
theorem ref_weighted (r : Fin 1024) (j : Fin 4096) :
    k0_pay2 a4 a0 a1 a2 a3 a5 (ix2 r j) = rmsNorm (fun k => k0_pay1 a4 a0 a1 a2 a3 (ix2 r k)) j (a5 (ix2 0 j)) := by
  unfold k0_pay2
  generalize k0_pay1 a4 a0 a1 a2 a3 = v
  have e : ∀ (p q s : FVec Ideal S1024x4096 .f32), mulf (mulf p q) s (ix2 r j) = p (ix2 r j) * q (ix2 r j) * s (ix2 r j) := fun _ _ _ => rfl
  refine (e _ _ _).trans ?_
  rw [Row.brow_apply, Row.bcol_apply]
  refine congrArg₂ (fun p q => v (ix2 r j) * p * q) ?_ rfl
  refine (refRms_at _ _).trans ?_
  rw [mean_eq]
  exact congrArg (fun q => Ideal.rsqrt (q * Ideal.ofBits .f32 0x39800000#32 + Ideal.ofBits .f32 0x3727C5AC#32)) (Row.rowsum_eq (mulf v v) _ _ _ _ r 0)

/-- The reference's row maximum. -/
abbrev refMax (r : Fin 1024) : EReal :=
  shapeCast S1024x1 (multiReduction .maximumf [1] S1024 (absf (k0_pay2 a4 a0 a1 a2 a3 a5)) 0xFF800000#32 facts.reduces_S1024x4096_S1024 (.inl rfl) rfl)
    facts.shapeCasts_S1024_S1024x1 (ix2 r 0)

theorem refMax_le (r : Fin 1024) (x : EReal) :
    refMax a0 a1 a2 a3 a4 a5 r ≤ x ↔ ∀ j : Fin 4096, Row.ab (k0_pay2 a4 a0 a1 a2 a3 a5 (ix2 r j)) ≤ x :=
  Row.rowmax_le (absf (k0_pay2 a4 a0 a1 a2 a3 a5)) _ _ _ _ r 0 x

theorem refMax_nonneg (r : Fin 1024) : 0 ≤ refMax a0 a1 a2 a3 a4 a5 r :=
  (Row.ab_nonneg _).trans ((refMax_le a0 a1 a2 a3 a4 a5 r _).mp le_rfl 0)

/-- The number whose exponent is counted. -/
theorem ref_pay3_apply (r : Fin 1024) : k0_pay3 a4 a0 a1 a2 a3 a5 (ix2 r 0) = refMax a0 a1 a2 a3 a4 a5 r * Ideal.ofBits .f32 0x3B124925#32 := by
  unfold k0_pay3
  exact Row.mulf_at _ _ _

/-- The reference's exponents. -/
theorem ref_exponent (r : Fin 1024) :
    k0_pay6 (k0_pay3 a4 a0 a1 a2 a3 a5) (k0_pay4 a4 a0 a1 a2 a3 a5) (Scalar.ofBits .f32 0x00000000#32) k0_pay5 (ix2 r 0)
      = Quant.rExp (refMax a0 a1 a2 a3 a4 a5 r * Ideal.ofBits .f32 0x3B124925#32) := by
  have e : k0_pay6 (k0_pay3 a4 a0 a1 a2 a3 a5) (k0_pay4 a4 a0 a1 a2 a3 a5) (Scalar.ofBits .f32 0x00000000#32) k0_pay5
      = Row.refExpVec (k0_pay3 a4 a0 a1 a2 a3 a5)
        (Row.refMask (k0_pay3 a4 a0 a1 a2 a3 a5) facts.broadcasts_S1024x1_S1024x256 facts.iota_S1024x256_d1_w32)
        facts.reduces_S1024x256_S1024 facts.shapeCasts_S1024_S1024x1 := by
    unfold k0_pay6 k0_pay4 k0_pay5
    generalize k0_pay3 a4 a0 a1 a2 a3 a5 = t
    rfl
  rw [e, Row.refExpVec_at, ref_pay3_apply]

theorem ref_pay7_eq (t : FVec Ideal S1024x1 .f32) (b : IVec S1024x256 1) (z : Ideal .f32) (o : FVec Ideal S1024x256 .f32) :
    k0_pay7 t b z o = Row.refScaleVec (k0_pay6 t b z o) := by
  unfold k0_pay7
  rfl

theorem ref_pay8_eq (v : FVec Ideal S1024x4096 .f32) (t : FVec Ideal S1024x1 .f32) (b : IVec S1024x256 1) (z : Ideal .f32) (o : FVec Ideal S1024x256 .f32) :
    k0_pay8 v t b z o = Codes.codeVec v (Codes.refInvVec (k0_pay6 t b z o)) facts.broadcasts_S1024x1_S1024x4096 facts.bitsLt_fp8e4m3_f32 := by
  unfold k0_pay8
  rfl

open Cert.OprojRefIdeal.Value in
/-- The number whose exponent is counted, with the loads read. -/
theorem pay10_eq : k0_pay10 a0 a1 a2 a3 a4 a5 = k0_pay3 a4 a0 a1 a2 a3 a5 := by
  unfold k0_pay10
  rw [View.ld_unit_zero (S := S1024x4096) hz4 _ a4, View.ld_unit_zero (S := S1024x2048) hz0 _ a0, View.ld_unit_zero (S := S1024x1) hz1 _ a1,
    View.ld_unit_zero (S := S2048x4096) hz2 _ a2, View.ld_unit_zero (S := S1x4096) hz3 _ a3, View.ld_unit_zero (S := S1x4096) hz5 _ a5]

open Cert.OprojRefIdeal.Value in
/-- The powers of two it reaches, with the loads read. -/
theorem pay11_eq : k0_pay11 a0 a1 a2 a3 a4 a5 = k0_pay4 a4 a0 a1 a2 a3 a5 := by
  unfold k0_pay11
  rw [View.ld_unit_zero (S := S1024x4096) hz4 _ a4, View.ld_unit_zero (S := S1024x2048) hz0 _ a0, View.ld_unit_zero (S := S1024x1) hz1 _ a1,
    View.ld_unit_zero (S := S2048x4096) hz2 _ a2, View.ld_unit_zero (S := S1x4096) hz3 _ a3, View.ld_unit_zero (S := S1x4096) hz5 _ a5]

theorem pay12_eq : k0_pay12 a0 a1 a2 a3 a4 a5 = k0_pay5 := by
  unfold k0_pay12
  with_reducible rfl

/-- The reference's scale of a row. -/
theorem ref_scale (r : Fin 1024) : Cert.OprojRefIdeal.Value.G8 a0 a1 a2 a3 a4 a5 (ix2 r 0)
    = Quant.rScale (refMax a0 a1 a2 a3 a4 a5 r * Ideal.ofBits .f32 0x3B124925#32) := by
  have e : Cert.OprojRefIdeal.Value.G8 a0 a1 a2 a3 a4 a5
      = k0_pay7 (k0_pay3 a4 a0 a1 a2 a3 a5) (k0_pay4 a4 a0 a1 a2 a3 a5) (Scalar.ofBits .f32 0x00000000#32) k0_pay5 := by
    unfold Cert.OprojRefIdeal.Value.G8
    rw [pay10_eq, pay11_eq, pay12_eq]
  rw [e, ref_pay7_eq, Row.refScaleVec_at, ref_exponent]
  rfl

/-- The reference's codes. -/
theorem ref_codes (r : Fin 1024) (j : Fin 4096) : Cert.OprojRefIdeal.Value.G7 a0 a1 a2 a3 a4 a5 (ix2 r j)
    = Codes.clip (k0_pay2 a4 a0 a1 a2 a3 a5 (ix2 r j) * Quant.rInv (refMax a0 a1 a2 a3 a4 a5 r * Ideal.ofBits .f32 0x3B124925#32)) := by
  have e : Cert.OprojRefIdeal.Value.G7 a0 a1 a2 a3 a4 a5
      = k0_pay8 (k0_pay2 a4 a0 a1 a2 a3 a5) (k0_pay3 a4 a0 a1 a2 a3 a5) (k0_pay4 a4 a0 a1 a2 a3 a5) (Scalar.ofBits .f32 0x00000000#32) k0_pay5 := by
    unfold Cert.OprojRefIdeal.Value.G7
    rw [pay10_eq, pay11_eq, pay12_eq]
  rw [e, ref_pay8_eq, Codes.codeVec_at, Codes.refInvVec_at, ref_exponent]
  rfl

/-- The reference's packed scales: row `y`, lane `l` is the scale of row `128 y + l`. -/
theorem ref_dense (y : Fin 8) (l : Fin 128) : Cert.OprojRefIdeal.Value.G9 a0 a1 a2 a3 a4 a5 (ix2 y l)
    = Cert.OprojRefIdeal.Value.G8 a0 a1 a2 a3 a4 a5 (ix2 ⟨128 * y.val + l.val, by omega⟩ 0) := by
  refine (shapeCast_apply (Cert.OprojRefIdeal.Value.G8 a0 a1 a2 a3 a4 a5) facts.shapeCasts_S1024x1_S8x128 (ix2 y l)
    (ix2 ⟨128 * y.val + l.val, by omega⟩ 0) ?_)
  rw [Shape.rowMajor_val_two, Shape.rowMajor_val_two]
  show (128 * y.val + l.val) * 1 + 0 = y.val * 128 + l.val
  omega

end Reference

end Cert.Oproj.Entries

end
-- ==== Proof.OprojEq.lean ====
/-
  The attention output projection's four results are the reference's, as functions of the six arguments.

  `hidden_row`: a row of the block at the point that owns it is the reference's row of the new residual stream.
  `weighted_row`, `amax_row`: so are the normalised row and its greatest magnitude. `G6_eq` … `packed_eq`: the four arrays.
-/
module

public import proofs.«01_k».proof.Proof.OprojQuant

@[expose] public section

set_option maxRecDepth 16384

noncomputable section

open Idealize.ShloMosaic Idealize.ShloMosaic.TcCoe Idealize.ShloMosaic.ValueIdx
open scoped BigOperators

namespace Cert.Oproj.Equation

open Cert.OprojIdeal Cert.OprojIdeal.Gen Cert.OprojIdeal.Hand

variable (m : (ℓ : Loc nD τ sig) → Buf (Elt Ideal) ℓ) (c : Dev nD)

/-- The attention's codes. -/
abbrev aA : Vec Ideal S1024x2048 .fp8e4m3 := m ((c : Thread nD τ).loc main_arg0)

/-- Their rows' scales. -/
abbrev aS : Vec Ideal S1024x1 .f32 := m ((c : Thread nD τ).loc main_arg1)

/-- The weights. -/
abbrev aW : Vec Ideal S2048x4096 .fp8e4m3 := m ((c : Thread nD τ).loc main_arg2)

/-- The weights' scales. -/
abbrev aP : Vec Ideal S1x4096 .f32 := m ((c : Thread nD τ).loc main_arg3)

/-- The old residual. -/
abbrev aX : Vec Ideal S1024x4096 .bf16 := m ((c : Thread nD τ).loc main_arg4)

/-- The norm's weights. -/
abbrev aG : Vec Ideal S1x4096 .bf16 := m ((c : Thread nD τ).loc main_arg5)

/-! ## The blocks of the arguments -/

theorem moves : ∀ t : Fin cfg0.N, (win0_0.index t 0 = t.val ∧ win0_0.index t 1 = 0) ∧ (win0_1.index t 0 = t.val ∧ win0_1.index t 1 = 0)
    ∧ win0_4.index t 0 = t.val ∧ win0_4.index t 1 = 0 := by decide +kernel

theorem still : ∀ t : Fin cfg0.N, (win0_2.index t 0 = 0 ∧ win0_2.index t 1 = 0) ∧ (win0_3.index t 0 = 0 ∧ win0_3.index t 1 = 0)
    ∧ win0_5.index t 0 = 0 ∧ win0_5.index t 1 = 0 := by decide +kernel

theorem a_apply (r : Fin 1024) (k : Fin 2048) : (iblk m c 0 (ptOf r) : Vec Ideal S256x2048 .fp8e4m3) (ix2 (rowOf r) k) = aA m c (ix2 r k) := by
  obtain ⟨⟨h0, h1⟩, -⟩ := moves (ptOf r)
  unfold iblk
  rw [View.read_apply]
  refine congrArg (m ((c : Thread nD τ).loc main_arg0)) ?_
  funext a; apply Fin.ext
  match a with
  | ⟨0, _⟩ => show win0_0.index (ptOf r) 0 * 256 + 1 * (r.val % 256) = r.val; rw [h0]; show r.val / 256 * 256 + 1 * (r.val % 256) = r.val; omega
  | ⟨1, _⟩ => show win0_0.index (ptOf r) 1 * 2048 + 1 * k.val = k.val; rw [h1]; omega

theorem s_apply (r : Fin 1024) : (iblk m c 1 (ptOf r) : Vec Ideal S256x1 .f32) (ix2 (rowOf r) 0) = aS m c (ix2 r 0) := by
  obtain ⟨-, ⟨h0, h1⟩, -⟩ := moves (ptOf r)
  unfold iblk
  rw [View.read_apply]
  refine congrArg (m ((c : Thread nD τ).loc main_arg1)) ?_
  funext a; apply Fin.ext
  match a with
  | ⟨0, _⟩ => show win0_1.index (ptOf r) 0 * 256 + 1 * (r.val % 256) = r.val; rw [h0]; show r.val / 256 * 256 + 1 * (r.val % 256) = r.val; omega
  | ⟨1, _⟩ => show win0_1.index (ptOf r) 1 * 1 + 1 * 0 = 0; rw [h1]

theorem x_apply (r : Fin 1024) (j : Fin 4096) : (iblk m c 4 (ptOf r) : Vec Ideal S256x4096 .bf16) (ix2 (rowOf r) j) = aX m c (ix2 r j) := by
  obtain ⟨-, -, h0, h1⟩ := moves (ptOf r)
  unfold iblk
  rw [View.read_apply]
  refine congrArg (m ((c : Thread nD τ).loc main_arg4)) ?_
  funext a; apply Fin.ext
  match a with
  | ⟨0, _⟩ => show win0_4.index (ptOf r) 0 * 256 + 1 * (r.val % 256) = r.val; rw [h0]; show r.val / 256 * 256 + 1 * (r.val % 256) = r.val; omega
  | ⟨1, _⟩ => show win0_4.index (ptOf r) 1 * 4096 + 1 * j.val = j.val; rw [h1]; omega

theorem w_apply (t : Fin cfg0.N) (k : Fin 2048) (j : Fin 4096) : (iblk m c 2 t : Vec Ideal S2048x4096 .fp8e4m3) (ix2 k j) = aW m c (ix2 k j) := by
  obtain ⟨⟨h0, h1⟩, -⟩ := still t
  unfold iblk
  rw [View.read_apply]
  refine congrArg (m ((c : Thread nD τ).loc main_arg2)) ?_
  funext a; apply Fin.ext
  match a with
  | ⟨0, _⟩ => show win0_2.index t 0 * 2048 + 1 * k.val = k.val; rw [h0]; omega
  | ⟨1, _⟩ => show win0_2.index t 1 * 4096 + 1 * j.val = j.val; rw [h1]; omega

theorem p_apply (t : Fin cfg0.N) (j : Fin 4096) : (iblk m c 3 t : Vec Ideal S1x4096 .f32) (ix2 0 j) = aP m c (ix2 0 j) := by
  obtain ⟨-, ⟨h0, h1⟩, -⟩ := still t
  unfold iblk
  rw [View.read_apply]
  refine congrArg (m ((c : Thread nD τ).loc main_arg3)) ?_
  funext a; apply Fin.ext
  match a with
  | ⟨0, _⟩ => show win0_3.index t 0 * 1 + 1 * 0 = 0; rw [h0]
  | ⟨1, _⟩ => show win0_3.index t 1 * 4096 + 1 * j.val = j.val; rw [h1]; omega

theorem g_apply (t : Fin cfg0.N) (j : Fin 4096) : (iblk m c 5 t : Vec Ideal S1x4096 .bf16) (ix2 0 j) = aG m c (ix2 0 j) := by
  obtain ⟨-, -, h0, h1⟩ := still t
  unfold iblk
  rw [View.read_apply]
  refine congrArg (m ((c : Thread nD τ).loc main_arg5)) ?_
  funext a; apply Fin.ext
  match a with
  | ⟨0, _⟩ => show win0_5.index t 0 * 1 + 1 * 0 = 0; rw [h0]
  | ⟨1, _⟩ => show win0_5.index t 1 * 4096 + 1 * j.val = j.val; rw [h1]; omega

/-! ## One row -/

/-- The new residual stream. -/
theorem hidden_row (r : Fin 1024) (j : Fin 4096) :
    hidden (F := Ideal) (iblk m c 0 (ptOf r)) (iblk m c 1 (ptOf r)) (iblk m c 2 (ptOf r)) (iblk m c 3 (ptOf r)) (iblk m c 4 (ptOf r)) (ix2 (rowOf r) j)
      = Cert.OprojRefIdeal.Gen.k0_pay1 (F := Ideal) (aX m c) (aA m c) (aS m c) (aW m c) (aP m c) (ix2 r j) := by
  refine (Entries.hidden_apply _ _ _ _ _ _ _).trans (Eq.trans ?_ (Entries.ref_hidden _ _ _ _ _ r j).symm)
  rw [x_apply, s_apply, p_apply]
  simp only [a_apply, w_apply]

/-- The normalised, weighted row. -/
theorem weighted_row (r : Fin 1024) (j : Fin 4096) :
    Entries.weighted (iblk m c 0 (ptOf r)) (iblk m c 1 (ptOf r)) (iblk m c 2 (ptOf r)) (iblk m c 3 (ptOf r)) (iblk m c 4 (ptOf r)) (iblk m c 5 (ptOf r)) (ix2 (rowOf r) j)
      = Cert.OprojRefIdeal.Gen.k0_pay2 (F := Ideal) (aX m c) (aA m c) (aS m c) (aW m c) (aP m c) (aG m c) (ix2 r j) := by
  refine (Entries.weighted_apply _ _ _ _ _ _ _ _).trans (Eq.trans ?_ (Entries.ref_weighted _ _ _ _ _ _ r j).symm)
  rw [g_apply, show (fun k => hidden (F := Ideal) (iblk m c 0 (ptOf r)) (iblk m c 1 (ptOf r)) (iblk m c 2 (ptOf r)) (iblk m c 3 (ptOf r)) (iblk m c 4 (ptOf r)) (ix2 (rowOf r) k))
    = _ from funext fun k => hidden_row m c r k]

/-- The row's greatest magnitude. -/
theorem amax_row (r : Fin 1024) :
    Entries.amax (iblk m c 0 (ptOf r)) (iblk m c 1 (ptOf r)) (iblk m c 2 (ptOf r)) (iblk m c 3 (ptOf r)) (iblk m c 4 (ptOf r)) (iblk m c 5 (ptOf r)) (rowOf r)
      = Entries.refMax (aA m c) (aS m c) (aW m c) (aP m c) (aX m c) (aG m c) r := by
  refine eq_of_forall_ge_iff fun x => ?_
  rw [Entries.refMax_le]
  refine (Entries.rowmax _ _ _ _).trans (forall_congr' fun j => ?_)
  rw [← weighted_row]

/-- The row's scale. -/
theorem scale_row (r : Fin 1024) :
    scale (F := Ideal) (iblk m c 0 (ptOf r)) (iblk m c 1 (ptOf r)) (iblk m c 2 (ptOf r)) (iblk m c 3 (ptOf r)) (iblk m c 4 (ptOf r)) (iblk m c 5 (ptOf r)) (ix2 (rowOf r) 0)
      = Cert.OprojRefIdeal.Value.G8 (F := Ideal) (aA m c) (aS m c) (aW m c) (aP m c) (aX m c) (aG m c) (ix2 r 0) := by
  rw [Entries.scale_apply, amax_row, Entries.ref_scale]
  exact Row.scale_row (Entries.refMax_nonneg _ _ _ _ _ _ r)

/-- The row's codes. -/
theorem codes_row (r : Fin 1024) (j : Fin 4096) :
    codes (F := Ideal) (iblk m c 0 (ptOf r)) (iblk m c 1 (ptOf r)) (iblk m c 2 (ptOf r)) (iblk m c 3 (ptOf r)) (iblk m c 4 (ptOf r)) (iblk m c 5 (ptOf r)) (ix2 (rowOf r) j)
      = Cert.OprojRefIdeal.Value.G7 (F := Ideal) (aA m c) (aS m c) (aW m c) (aP m c) (aX m c) (aG m c) (ix2 r j) := by
  rw [Entries.codes_apply, amax_row, weighted_row, Entries.ref_codes]
  rw [Quant.kInv_eq (mul_nonneg (Entries.refMax_nonneg _ _ _ _ _ _ r) Row.recip_nonneg) fun h => by rw [h, zero_mul]]

/-! ## The four results -/

/-- The new residual stream. -/
theorem G6_eq : G6 m c = Cert.OprojRefIdeal.Value.G6 (F := Ideal) (aA m c) (aS m c) (aW m c) (aP m c) (aX m c) (aG m c) := by
  funext i
  obtain ⟨r, j, rfl⟩ : ∃ (r : Fin 1024) (j : Fin 4096), i = ix2 r j := ⟨i 0, i 1, (eq_ix2 i)⟩
  exact hidden_row m c r j

/-- The codes. -/
theorem G7_eq : G7 m c = Cert.OprojRefIdeal.Value.G7 (F := Ideal) (aA m c) (aS m c) (aW m c) (aP m c) (aX m c) (aG m c) := by
  funext i
  obtain ⟨r, j, rfl⟩ : ∃ (r : Fin 1024) (j : Fin 4096), i = ix2 r j := ⟨i 0, i 1, (eq_ix2 i)⟩
  exact codes_row m c r j

/-- The scales. -/
theorem G8_eq : G8 m c = Cert.OprojRefIdeal.Value.G8 (F := Ideal) (aA m c) (aS m c) (aW m c) (aP m c) (aX m c) (aG m c) := by
  funext i
  obtain ⟨r, z, rfl⟩ : ∃ (r : Fin 1024) (z : Fin 1), i = ix2 r z := ⟨i 0, i 1, (eq_ix2 i)⟩
  obtain rfl : z = 0 := Subsingleton.elim _ _
  exact scale_row m c r

/-- A column of 256 packed as two rows of 128. -/
theorem pack_apply (s : FVec Ideal S256x1 .f32) (y : Fin 2) (l : Fin 128) :
    k0_pay1 s (ix2 y l) = s (ix2 ⟨128 * y.val + l.val, by omega⟩ 0) := by
  unfold k0_pay1
  refine shapeCast_apply s facts.shapeCasts_S256x1_S2x128 (ix2 y l) (ix2 ⟨128 * y.val + l.val, by omega⟩ 0) ?_
  rw [Shape.rowMajor_val_two, Shape.rowMajor_val_two]
  show (128 * y.val + l.val) * 1 + 0 = y.val * 128 + l.val
  omega

/-- The packed scales. -/
theorem packed_eq : packed m c = Cert.OprojRefIdeal.Value.G9 (F := Ideal) (aA m c) (aS m c) (aW m c) (aP m c) (aX m c) (aG m c) := by
  funext i
  obtain ⟨y, l, rfl⟩ : ∃ (y : Fin 8) (l : Fin 128), i = ix2 y l := ⟨i 0, i 1, (eq_ix2 i)⟩
  rw [Entries.ref_dense, ← scale_row]
  unfold packed rowsAt dense
  have hp : ptOf (⟨128 * y.val + l.val, by omega⟩ : Fin 1024) = ownerOf (ix2 y l) :=
    Fin.ext (by show (128 * y.val + l.val) / 256 = y.val / 2; omega)
  have hr : rowOf (⟨128 * y.val + l.val, by omega⟩ : Fin 1024) = (⟨128 * (y.val % 2) + l.val, by omega⟩ : Fin 256) :=
    Fin.ext (by show (128 * y.val + l.val) % 256 = 128 * (y.val % 2) + l.val; omega)
  rw [hp, hr]
  exact pack_apply _ ⟨y.val % 2, Nat.mod_lt _ (by norm_num)⟩ l

end Cert.Oproj.Equation

end
-- ==== Proof.OprojClaim.lean ====
/-
  The attention output projection's value claim: run on the same six arguments, the kernel and the reference leave the same four arrays.
-/
module

public import proofs.«01_k».proof.Defs
public import proofs.«01_k».proof.Proof.OprojEq

@[expose] public section

noncomputable section

open Idealize.ShloMosaic Idealize.ShloMosaic.TcCoe Idealize.SL.Sem

namespace Cert.Oproj.Equation

/-- Both programs leave the new residual stream, the codes of its norm, their rows' scales, and the scales laid out as 8x128. -/
theorem algebraic : Cert.algebraic_OprojIdeal_OprojRefIdeal (hOprojIdeal := Cert.OprojIdeal.Gen.facts) (hOprojRefIdeal := Cert.OprojRefIdeal.Gen.facts) := by
  intro m g m' g' _ hargs
  refine ⟨fun c => Cert.OprojIdeal.Hand.G6 m c, fun c => Cert.OprojIdeal.Hand.G7 m c, fun c => Cert.OprojIdeal.Hand.G8 m c,
    fun c => Cert.OprojIdeal.Hand.packed m c, Cert.OprojIdeal.Hand.run m g, ?_⟩
  refine θ_run_mono (Cert.OprojRefIdeal.Value.run m' g') fun r hr c => ?_
  obtain ⟨h0, h1, h2, h3, hk⟩ := hr c
  obtain ⟨e0, e1, e2, e3, e4, e5⟩ := hargs c
  refine ⟨h0.trans ?_, h1.trans ?_, h2.trans ?_, h3.trans ?_, hk⟩
  · rw [e0, e1, e2, e3, e4, e5]
    exact (G6_eq m c).symm
  · rw [e0, e1, e2, e3, e4, e5]
    exact (G7_eq m c).symm
  · rw [e0, e1, e2, e3, e4, e5]
    exact (G8_eq m c).symm
  · rw [e0, e1, e2, e3, e4, e5]
    exact (packed_eq m c).symm

end Cert.Oproj.Equation

end
-- ==== Proof.QkvLoop.lean ====
/-
  The projection to queries, keys and values: what the first grid point's loop leaves in the codes and in the scales.

  One trip takes 128 rows of the input: it weighs them by their root mean squares and the norm's weights (`weighted`) and quantises each row with one
  scale (`scaleBlk`, `codesBlk`). `codesAll` and `scaleAll` are all eight trips' rows, and `read_codes` and `read_scale` say that the loop leaves them.
-/
module

public import proofs.«01_k».proof.Proof.Gen.QkvIdeal.Loops
public import Idealize.ShloMosaic.Lib.VecWindow
public import Idealize.ShloMosaic.Lib.ValueIdx

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI Idealize.SL.Sem
open Idealize.ShloMosaic.ValueIdx

variable {F : FTy → Type} [FloatOps F]

/-! ## What one trip computes -/

/-- Sublanes of the transposed sums of lanes. -/
def part47 (v : Vec F S128x4096 .bf16) : FVec F S8x128 .f32 :=
  k0_pay47 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part48 (v : Vec F S128x4096 .bf16) : FVec F S8x128 .f32 :=
  k0_pay48 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part49 (v : Vec F S128x4096 .bf16) : FVec F S8x128 .f32 :=
  k0_pay49 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part50 (v : Vec F S128x4096 .bf16) : FVec F S8x128 .f32 :=
  k0_pay50 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part51 (v : Vec F S128x4096 .bf16) : FVec F S8x128 .f32 :=
  k0_pay51 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part52 (v : Vec F S128x4096 .bf16) : FVec F S8x128 .f32 :=
  k0_pay52 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part53 (v : Vec F S128x4096 .bf16) : FVec F S8x128 .f32 :=
  k0_pay53 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part54 (v : Vec F S128x4096 .bf16) : FVec F S8x128 .f32 :=
  k0_pay54 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part55 (v : Vec F S128x4096 .bf16) : FVec F S8x128 .f32 :=
  k0_pay55 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part56 (v : Vec F S128x4096 .bf16) : FVec F S8x128 .f32 :=
  k0_pay56 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part57 (v : Vec F S128x4096 .bf16) : FVec F S8x128 .f32 :=
  k0_pay57 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part58 (v : Vec F S128x4096 .bf16) : FVec F S8x128 .f32 :=
  k0_pay58 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part59 (v : Vec F S128x4096 .bf16) : FVec F S8x128 .f32 :=
  k0_pay59 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part60 (v : Vec F S128x4096 .bf16) : FVec F S8x128 .f32 :=
  k0_pay60 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- Sublanes of the transposed sums of lanes. -/
def part61 (v : Vec F S128x4096 .bf16) : FVec F S8x128 .f32 :=
  k0_pay61 (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 v) (k0_pay30 v) (k0_pay31 v) (k0_pay32 v) (k0_pay33 v) (k0_pay34 v) (k0_pay35 v) (k0_pay36 v) (k0_pay37 v) (k0_pay38 v) (k0_pay39 v) (k0_pay40 v) (k0_pay41 v) (k0_pay42 v) (k0_pay43 v) (k0_pay44 v) (k0_pay45 v)

/-- The rows over their root mean squares, times the norm's weights. -/
def weighted (v : Vec F S128x4096 .bf16) (g : Vec F S1x4096 .bf16) : FVec F S128x4096 .f32 := k0_pay62 (k0_pay1 g) (k0_pay13 v) (part47 v) (part48 v) (part49 v) (part50 v) (part51 v) (part52 v) (part53 v) (part54 v) (part55 v) (part56 v) (part57 v) (part58 v) (part59 v) (part60 v) (part61 v)

/-- The rows' largest absolute values, -/
def rowMax (v : Vec F S128x4096 .bf16) (g : Vec F S1x4096 .bf16) : FVec F S128x1 .f32 := k0_pay63 (k0_pay1 g) (k0_pay13 v) (part47 v) (part48 v) (part49 v) (part50 v) (part51 v) (part52 v) (part53 v) (part54 v) (part55 v) (part56 v) (part57 v) (part58 v) (part59 v) (part60 v) (part61 v)

/-- times the reciprocal of the largest code. -/
def scaled (v : Vec F S128x4096 .bf16) (g : Vec F S1x4096 .bf16) : FVec F S128x1 .f32 := k0_pay64 (k0_pay1 g) (k0_pay13 v) (part47 v) (part48 v) (part49 v) (part50 v) (part51 v) (part52 v) (part53 v) (part54 v) (part55 v) (part56 v) (part57 v) (part58 v) (part59 v) (part60 v) (part61 v)

/-- The exponents' search: the first bit, -/
def first (v : Vec F S128x4096 .bf16) (g : Vec F S1x4096 .bf16) : IVec S128x1 32 := k0_pay65 (k0_pay1 g) (k0_pay13 v) (part47 v) (part48 v) (part49 v) (part50 v) (part51 v) (part52 v) (part53 v) (part54 v) (part55 v) (part56 v) (part57 v) (part58 v) (part59 v) (part60 v) (part61 v)

/-- the second trial, -/
def second (v : Vec F S128x4096 .bf16) (g : Vec F S1x4096 .bf16) : IVec S128x1 32 := k0_pay66 (k0_pay1 g) (k0_pay13 v) (part47 v) (part48 v) (part49 v) (part50 v) (part51 v) (part52 v) (part53 v) (part54 v) (part55 v) (part56 v) (part57 v) (part58 v) (part59 v) (part60 v) (part61 v)

/-- the bits down to 4, -/
def third (v : Vec F S128x4096 .bf16) (g : Vec F S1x4096 .bf16) : IVec S128x1 32 := k0_pay67 (scaled v g) (first v g) (second v g)

/-- and the next trial. -/
def fourth (v : Vec F S128x4096 .bf16) (g : Vec F S1x4096 .bf16) : IVec S128x1 32 := k0_pay68 (scaled v g) (first v g) (second v g)

/-- The rows' scales. -/
def scaleBlk (v : Vec F S128x4096 .bf16) (g : Vec F S1x4096 .bf16) : FVec F S128x1 .f32 := k0_pay70 (rowMax v g) (scaled v g) (third v g) (fourth v g)

/-- The rows' codes. -/
def codesBlk (v : Vec F S128x4096 .bf16) (g : Vec F S1x4096 .bf16) : FVec F S128x4096 .fp8e4m3 := k0_pay2 (weighted v g) (k0_pay71 (rowMax v g) (scaled v g) (third v g) (fourth v g))

/-- 128 rows of `x`, the `k`-th group. -/
def rowsOf (x : Vec F S1024x4096 .bf16) (k : ℕ) : Vec F S128x4096 .bf16 := fun z => x (ix2 ⟨(128 * k + (z 0).val) % 1024, Nat.mod_lt _ (by norm_num)⟩ (z 1))

/-- All the codes. -/
def codesAll (x : Vec F S1024x4096 .bf16) (g : Vec F S1x4096 .bf16) : Vec F S1024x4096 .fp8e4m3 := fun y =>
  codesBlk (rowsOf x ((y 0).val / 128)) g (ix2 ⟨(y 0).val % 128, Nat.mod_lt _ (by norm_num)⟩ (y 1))

/-- All the scales. -/
def scaleAll (x : Vec F S1024x4096 .bf16) (g : Vec F S1x4096 .bf16) : Vec F S1024x1 .f32 := fun y =>
  scaleBlk (rowsOf x ((y 0).val / 128)) g (ix2 ⟨(y 0).val % 128, Nat.mod_lt _ (by norm_num)⟩ (y 1))

/-! ## What the loop leaves -/

variable (𝒱 : Variants) (c : Dev nD) (bd : Option 𝒱.V) (i : grid0.Coords) (arg1 : Memref sig .tc .vmem S1024x4096 .bf16) (harg1 : arg1.IsWhole) (arg2 : Memref sig .tc .vmem S1x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S8x128 .f32) (harg13 : arg13.IsWhole) (arg14 : Memref sig .tc .vmem S1024x512 .bf16) (harg14 : arg14.IsWhole)
  (k0_h1 : k0_cond1 i = 1#1) (v12 : Vec F S1x4096 .bf16) (X : BufTy.Contents (Elt F) arg1.view.ty)

theorem trips_eq : k0_t1_loop.trips = 8 := by decide +kernel

/-- The rows a trip loads. -/
theorem loaded (k : Fin k0_t1_loop.trips) (h : ∀ a, k0_off1 k a + S128x4096.size a ≤ S1024x4096.size a) :
    View.readAt (Elt F) arg1.view (Rect.unit (s := S1024x4096) (k0_off1 k) S128x4096.size h).toLoadRect X = rowsOf (View.read (Elt F) arg1.view X) k.val := by
  have hk : k.val < 8 := lt_of_lt_of_eq k.isLt trips_eq
  funext z
  have h0 : (z 0).val < 128 := (z 0).isLt
  refine congrArg (View.read (Elt F) arg1.view X) (funext fun a => Fin.ext ?_)
  have e : k0_off1 k = ![128 * k.val, 0] := k0_off1_eq k
  match a with
  | ⟨0, _⟩ =>
    have e0 : k0_off1 k 0 = 128 * k.val := congrFun e 0
    show k0_off1 k 0 + 1 * (z 0).val = (128 * k.val + (z 0).val) % 1024; omega
  | ⟨1, _⟩ =>
    have e1 : k0_off1 k 1 = 0 := congrFun e 1
    show k0_off1 k 1 + 1 * (z 1).val = (z 1).val; omega

set_option maxHeartbeats 1000000 in
/-- The pieces one trip stores. -/
theorem trip_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v12 X k
      = ([⟨Rect.unit (s := S1024x4096) (k0_off1 k) S128x4096.size (k0_off1_inb i k k0_h1), codesBlk (View.readAt (Elt F) arg1.view (Rect.unit (s := S1024x4096) (k0_off1 k) S128x4096.size (k0_off1_inb i k k0_h1)).toLoadRect X) v12⟩],
         [⟨Rect.unit (s := S1024x1) (k0_off2 k) S128x1.size (k0_off2_inb i k k0_h1), scaleBlk (View.readAt (Elt F) arg1.view (Rect.unit (s := S1024x4096) (k0_off1 k) S128x4096.size (k0_off1_inb i k k0_h1)).toLoadRect X) v12⟩]) := by
  unfold tripL_k0_t1 trip_k0_t1
  rfl

/-- The rows of the trips before `k` hold their codes and scales. -/
theorem read_pb (G : BufTy.Contents (Elt F) arg11.view.ty) (G' : BufTy.Contents (Elt F) arg12.view.ty) : ∀ k : ℕ, k ≤ 8 →
    (∀ y : S1024x4096.Idx, (y 0).val < 128 * k → View.read (Elt F) arg11.view (arg11.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v12 X k).1) y = codesAll (View.read (Elt F) arg1.view X) v12 y)
    ∧ (∀ y : S1024x1.Idx, (y 0).val < 128 * k → View.read (Elt F) arg12.view (arg12.view.writes (Elt F) G' (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v12 X k).2) y = scaleAll (View.read (Elt F) arg1.view X) v12 y) := by
  intro k
  induction k with
  | zero => intro _; exact ⟨fun y hy => absurd hy (by omega), fun y hy => absurd hy (by omega)⟩
  | succ k ih =>
    intro hk
    obtain ⟨ih1, ih2⟩ := ih (by omega)
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v12 X ⟨k, lt_of_lt_of_eq (by omega : k < 8) trips_eq.symm⟩
    rw [trip_eq] at e
    rw [show pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v12 X (k + 1) = _ from e]
    rw [loaded]
    refine ⟨fun y hy => ?_, fun y hy => ?_⟩
    · refine (congrFun (View.read_writes_cons_put _ _ _ _ _ (k0_off1_eq _)) y).trans ?_
      unfold VecWindow.put
      have h1 : (y 1).val < 4096 := (y 1).isLt
      by_cases hlo : (y 0).val < 128 * k
      · rw [dif_neg (fun hall => by have h0 : 128 * k ≤ (y 0).val := (hall (0 : Fin 2)).1; omega)]
        exact ih1 y hlo
      · have hmem : ∀ a : Fin 2, (![128 * k, 0] : Fin 2 → ℕ) a ≤ (y a).val ∧ (y a).val < (![128 * k, 0] : Fin 2 → ℕ) a + S128x4096.size a := by
          intro a
          match a with
          | ⟨0, _⟩ => show 128 * k ≤ (y 0).val ∧ (y 0).val < 128 * k + 128; omega
          | ⟨1, _⟩ => show 0 ≤ (y 1).val ∧ (y 1).val < 0 + 4096; omega
        rw [dif_pos hmem]
        unfold codesAll
        have ho : (y 0).val / 128 = k := by omega
        rw [ho]
        refine congrArg (codesBlk (rowsOf (View.read (Elt F) arg1.view X) k) v12) ?_
        funext a; apply Fin.ext
        match a with
        | ⟨0, _⟩ => show (y 0).val - 128 * k = (y 0).val % 128; omega
        | ⟨1, _⟩ => show (y 1).val - 0 = (y 1).val; omega
    · refine (congrFun (View.read_writes_cons_put _ _ _ _ _ (k0_off2_eq _)) y).trans ?_
      unfold VecWindow.put
      have h1 : (y 1).val < 1 := (y 1).isLt
      by_cases hlo : (y 0).val < 128 * k
      · rw [dif_neg (fun hall => by have h0 : 128 * k ≤ (y 0).val := (hall (0 : Fin 2)).1; omega)]
        exact ih2 y hlo
      · have hmem : ∀ a : Fin 2, (![128 * k, 0] : Fin 2 → ℕ) a ≤ (y a).val ∧ (y a).val < (![128 * k, 0] : Fin 2 → ℕ) a + S128x1.size a := by
          intro a
          match a with
          | ⟨0, _⟩ => show 128 * k ≤ (y 0).val ∧ (y 0).val < 128 * k + 128; omega
          | ⟨1, _⟩ => show 0 ≤ (y 1).val ∧ (y 1).val < 0 + 1; omega
        rw [dif_pos hmem]
        unfold scaleAll
        have ho : (y 0).val / 128 = k := by omega
        rw [ho]
        refine congrArg (scaleBlk (rowsOf (View.read (Elt F) arg1.view X) k) v12) ?_
        funext a; apply Fin.ext
        match a with
        | ⟨0, _⟩ => show (y 0).val - 128 * k = (y 0).val % 128; omega
        | ⟨1, _⟩ => show (y 1).val - 0 = (y 1).val; omega

/-- After the loop the codes are all there, -/
theorem read_codes (G : BufTy.Contents (Elt F) arg11.view.ty) (G' : BufTy.Contents (Elt F) arg12.view.ty) :
    View.read (Elt F) arg11.view (arg11.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v12 X k0_t1_loop.trips).1) = codesAll (View.read (Elt F) arg1.view X) v12 := by
  rw [trips_eq]
  funext y
  have h0 : (y 0).val < 1024 := (y 0).isLt
  exact (read_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v12 X G G' 8 le_rfl).1 y (by omega)

/-- and so are the scales. -/
theorem read_scale (G : BufTy.Contents (Elt F) arg11.view.ty) (G' : BufTy.Contents (Elt F) arg12.view.ty) :
    View.read (Elt F) arg12.view (arg12.view.writes (Elt F) G' (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v12 X k0_t1_loop.trips).2) = scaleAll (View.read (Elt F) arg1.view X) v12 := by
  rw [trips_eq]
  funext y
  have h0 : (y 0).val < 1024 := (y 0).isLt
  exact (read_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v12 X G G' 8 le_rfl).2 y (by omega)

end Cert.QkvIdeal.Hand

end
-- ==== Proof.QkvBody.lean ====
/-
  The projection to queries, keys and values: what the kernel's body leaves in each output window's block at each grid point.

  The first point fills the codes, the scales and the packed scales (`Hand.codesAll`, `Hand.scaleAll`) and goes on, as the next three do, to a block
  of queries (`qTile`); the fifth point makes the keys (`kTile`) and the last the values (`vTile`).
-/
module

public import proofs.«01_k».proof.Proof.QkvLoop
public import proofs.«01_k».proof.Proof.Gen.QkvIdeal.Frame

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- Four column blocks side by side. -/
def cat4 (a b c d : Vec F S1024x128 .bf16) : Vec F S1024x512 .bf16 := fun y =>
  let z : S1024x128.Idx := ix2 (y 0) ⟨(y 1).val % 128, Nat.mod_lt _ (by norm_num)⟩
  if (y 1).val < 128 then a z else if (y 1).val < 256 then b z else if (y 1).val < 384 then c z else d z

/-- One block put over the columns from `o` on. -/
theorem put_apply (x : Vec F S1024x512 .bf16) (o : ℕ) (ho : o % 128 = 0) (w : Vec F S1024x128 .bf16) (y : S1024x512.Idx) :
    VecWindow.put x ![0, o] S1024x128.size w y
      = if o ≤ (y 1).val ∧ (y 1).val < o + 128 then w (ix2 (y 0) ⟨(y 1).val % 128, Nat.mod_lt _ (by norm_num)⟩) else x y := by
  unfold VecWindow.put
  have h0 : (y 0).val < 1024 := (y 0).isLt
  by_cases h : o ≤ (y 1).val ∧ (y 1).val < o + 128
  · have hmem : ∀ a : Fin 2, (![0, o] : Fin 2 → ℕ) a ≤ (y a).val ∧ (y a).val < (![0, o] : Fin 2 → ℕ) a + S1024x128.size a := by
      intro a
      match a with
      | ⟨0, _⟩ => show 0 ≤ (y 0).val ∧ (y 0).val < 0 + 1024; omega
      | ⟨1, _⟩ => exact h
    rw [dif_pos hmem, if_pos h]
    refine congrArg w (funext fun a => Fin.ext ?_)
    match a with
    | ⟨0, _⟩ => show (y 0).val - 0 = (y 0).val; omega
    | ⟨1, _⟩ => show (y 1).val - o = (y 1).val % 128; omega
  · rw [dif_neg (fun hall => h (hall (1 : Fin 2))), if_neg h]

/-- Four column stores leave the four blocks side by side. -/
theorem read_cat4 {κ : Kind} {sp : Space} (v : View sig κ sp S1024x512 .bf16) (f : v.ty.Contents (Elt F)) (a b c d : Vec F S1024x128 .bf16)
    (i0 : ∀ j, (![0, 0] : Fin 2 → ℕ) j + S1024x128.size j ≤ S1024x512.size j) (i1 : ∀ j, (![0, 128] : Fin 2 → ℕ) j + S1024x128.size j ≤ S1024x512.size j)
    (i2 : ∀ j, (![0, 256] : Fin 2 → ℕ) j + S1024x128.size j ≤ S1024x512.size j) (i3 : ∀ j, (![0, 384] : Fin 2 → ℕ) j + S1024x128.size j ≤ S1024x512.size j) :
    v.read (Elt F) (v.writes (Elt F) f [⟨Rect.unit ![0, 384] S1024x128.size i3, d⟩, ⟨Rect.unit ![0, 256] S1024x128.size i2, c⟩, ⟨Rect.unit ![0, 128] S1024x128.size i1, b⟩,
      ⟨Rect.unit ![0, 0] S1024x128.size i0, a⟩]) = cat4 a b c d := by
  rw [View.read_writes_cons_put _ _ _ _ _ rfl, View.read_writes_cons_put _ _ _ _ _ rfl, View.read_writes_cons_put _ _ _ _ _ rfl, View.read_writes_cons_put _ _ _ _ _ rfl]
  funext y
  have h1 : (y 1).val < 512 := (y 1).isLt
  rw [put_apply _ 384 rfl, put_apply _ 256 rfl, put_apply _ 128 rfl, put_apply _ 0 rfl]
  unfold cat4
  by_cases g0 : (y 1).val < 128
  · rw [if_neg (by omega), if_neg (by omega), if_neg (by omega), if_pos (by omega)]; exact (if_pos g0).symm
  by_cases g1 : (y 1).val < 256
  · rw [if_neg (by omega), if_neg (by omega), if_pos (by omega)]; exact ((if_neg g0).trans (if_pos g1)).symm
  by_cases g2 : (y 1).val < 384
  · rw [if_neg (by omega), if_pos (by omega)]; exact ((if_neg g0).trans ((if_neg g1).trans (if_pos g2))).symm
  · rw [if_pos (by omega)]; exact ((if_neg g0).trans ((if_neg g1).trans (if_neg g2))).symm

/-- A block of queries. -/
def qTile (x10 : Vec F S1024x4096 .fp8e4m3) (w : Vec F S4096x512 .fp8e4m3) (x11 : Vec F S1024x1 .f32) (s : Vec F S1x512 .f32) (cos sin : Vec F S1024x128 .f32) : Vec F S1024x512 .bf16 :=
  cat4 (k0_pay73 x10 w x11 s cos sin) (k0_pay74 x10 w x11 s cos sin) (k0_pay4 (k0_pay75 x10 w x11 s) (k0_pay76 x10 w x11 s cos) 64#32 sin) (k0_pay5 (k0_pay72 x10 w x11 s) cos sin)

/-- The keys. -/
def kTile (x10 : Vec F S1024x4096 .fp8e4m3) (w : Vec F S4096x512 .fp8e4m3) (x11 : Vec F S1024x1 .f32) (s : Vec F S1x512 .f32) (cos sin : Vec F S1024x128 .f32) : Vec F S1024x512 .bf16 :=
  cat4 (k0_pay78 x10 w x11 s cos sin) (k0_pay79 x10 w x11 s cos sin) (k0_pay6 (k0_pay80 x10 w x11 s) (k0_pay81 x10 w x11 s cos) 64#32 sin) (k0_pay7 (k0_pay77 x10 w x11 s) cos sin)

/-- The values. -/
def vTile (x10 : Vec F S1024x4096 .fp8e4m3) (w : Vec F S4096x512 .fp8e4m3) (x11 : Vec F S1024x1 .f32) (s : Vec F S1x512 .f32) : Vec F S1024x512 .bf16 :=
  cat4 (k0_pay9 x10 w x11 s) (k0_pay10 x10 w x11 s) (k0_pay11 x10 w x11 s) (k0_pay12 x10 w x11 s)

/-! ## The body's triples -/

set_option maxHeartbeats 4000000 in
/-- The body at the first point: the codes, the scales, the packed scales and a block of queries, whatever the outputs held. -/
theorem sound_first (c : Dev nD) (E : Set ℕ) (i : grid0.Coords) (h1 : k0_cond1 i = 1#1) (h2 : k0_cond2 i = 1#1) (h3 : ¬k0_cond3 i = 1#1) (h4 : ¬k0_cond4 i = 1#1) (arg1 : Memref sig .tc .vmem S1024x4096 .bf16) (harg1 : arg1.IsWhole) (arg2 : Memref sig .tc .vmem S1x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S8x128 .f32) (harg13 : arg13.IsWhole) (arg14 : Memref sig .tc .vmem S1024x512 .bf16) (harg14 : arg14.IsWhole)
    (x0 : Vec F S1024x4096 .bf16) (x1 : Vec F S1x4096 .bf16) (x2 : Vec F S4096x512 .fp8e4m3) (x3 : Vec F S4096x512 .fp8e4m3) (x4 : Vec F S4096x512 .fp8e4m3) (x5 : Vec F S1x512 .f32) (x6 : Vec F S1x512 .f32) (x7 : Vec F S1x512 .f32) (x8 : Vec F S1024x128 .f32) (x9 : Vec F S1024x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (codesAll x0 x1) ∗ owns (c : Thread nD τ) arg12 fullShare (scaleAll x0 x1) ∗ owns (c : Thread nD τ) arg13 fullShare (k0_pay3 (scaleAll x0 x1)) ∗ owns (c : Thread nD τ) arg14 fullShare (qTile (codesAll x0 x1) x2 (scaleAll x0 x1) x5 x8 x9)) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_qkv_eq_skeleton]; unfold cc0_qkv_skel
  rw [dif_pos h1, dif_pos h2, dif_neg h3, dif_neg h4]
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  have e1 : View.readAt (Elt F) arg1.view (Rect.unit (s := S1024x4096) ![0, 0] S1024x4096.size inb_S1024x4096_S1024x4096_0_0).toLoadRect f0 = View.read (Elt F) arg1.view f0 := View.readAt_full _ _ _
  have e2 : View.readAt (Elt F) arg2.view (Rect.unit (s := S1x4096) ![0, 0] S1x4096.size inb_S1x4096_S1x4096_0_0).toLoadRect f1 = View.read (Elt F) arg2.view f1 := View.readAt_full _ _ _
  have e3 : View.readAt (Elt F) arg3.view (Rect.unit (s := S4096x512) ![0, 0] S4096x512.size inb_S4096x512_S4096x512_0_0).toLoadRect f2 = View.read (Elt F) arg3.view f2 := View.readAt_full _ _ _
  have e4 : View.readAt (Elt F) arg4.view (Rect.unit (s := S4096x512) ![0, 0] S4096x512.size inb_S4096x512_S4096x512_0_0).toLoadRect f3 = View.read (Elt F) arg4.view f3 := View.readAt_full _ _ _
  have e5 : View.readAt (Elt F) arg5.view (Rect.unit (s := S4096x512) ![0, 0] S4096x512.size inb_S4096x512_S4096x512_0_0).toLoadRect f4 = View.read (Elt F) arg5.view f4 := View.readAt_full _ _ _
  have e6 : View.readAt (Elt F) arg6.view (Rect.unit (s := S1x512) ![0, 0] S1x512.size inb_S1x512_S1x512_0_0).toLoadRect f5 = View.read (Elt F) arg6.view f5 := View.readAt_full _ _ _
  have e7 : View.readAt (Elt F) arg7.view (Rect.unit (s := S1x512) ![0, 0] S1x512.size inb_S1x512_S1x512_0_0).toLoadRect f6 = View.read (Elt F) arg7.view f6 := View.readAt_full _ _ _
  have e8 : View.readAt (Elt F) arg8.view (Rect.unit (s := S1x512) ![0, 0] S1x512.size inb_S1x512_S1x512_0_0).toLoadRect f7 = View.read (Elt F) arg8.view f7 := View.readAt_full _ _ _
  have e9 : View.readAt (Elt F) arg9.view (Rect.unit (s := S1024x128) ![0, 0] S1024x128.size inb_S1024x128_S1024x128_0_0).toLoadRect f8 = View.read (Elt F) arg9.view f8 := View.readAt_full _ _ _
  have e10 : View.readAt (Elt F) arg10.view (Rect.unit (s := S1024x128) ![0, 0] S1024x128.size inb_S1024x128_S1024x128_0_0).toLoadRect f9 = View.read (Elt F) arg10.view f9 := View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [← e2]
    exact read_codes _ _ _ _ arg1 harg1 arg2 harg2 arg3 harg3 arg4 harg4 arg5 harg5 arg6 harg6 arg7 harg7 arg8 harg8 arg9 harg9 arg10 harg10 arg11 harg11 arg12 harg12 arg13 harg13 arg14 harg14 h1 _ f0 f10 f11
  isplitl [H11]
  · iexists _; isplitr
    swap; · iexact H11
    ipureintro
    rw [← e2]
    exact read_scale _ _ _ _ arg1 harg1 arg2 harg2 arg3 harg3 arg4 harg4 arg5 harg5 arg6 harg6 arg7 harg7 arg8 harg8 arg9 harg9 arg10 harg10 arg11 harg11 arg12 harg12 arg13 harg13 arg14 harg14 h1 _ f0 f10 f11
  isplitl [H12]
  · iexists _; isplitr
    swap; · iexact H12
    ipureintro
    refine (View.read_writes_full _ _ _ _ _).trans ?_
    rw [← read_scale Variants.none c none i arg1 harg1 arg2 harg2 arg3 harg3 arg4 harg4 arg5 harg5 arg6 harg6 arg7 harg7 arg8 harg8 arg9 harg9 arg10 harg10 arg11 harg11 arg12 harg12 arg13 harg13 arg14 harg14 h1 (View.read (Elt F) arg2.view f1) f0 f10 f11, ← e2]
    rw [← View.readAt_full _ _ inb_S1024x1_S1024x1_0_0]
    rfl
  iexists _; isplitr
  swap; · iexact H13
  ipureintro
  refine (read_cat4 _ _ _ _ _ _ _ _ _ _).trans ?_
  rw [← read_scale Variants.none c none i arg1 harg1 arg2 harg2 arg3 harg3 arg4 harg4 arg5 harg5 arg6 harg6 arg7 harg7 arg8 harg8 arg9 harg9 arg10 harg10 arg11 harg11 arg12 harg12 arg13 harg13 arg14 harg14 h1 (View.read (Elt F) arg2.view f1) f0 f10 f11, ← read_codes Variants.none c none i arg1 harg1 arg2 harg2 arg3 harg3 arg4 harg4 arg5 harg5 arg6 harg6 arg7 harg7 arg8 harg8 arg9 harg9 arg10 harg10 arg11 harg11 arg12 harg12 arg13 harg13 arg14 harg14 h1 (View.read (Elt F) arg2.view f1) f0 f10 f11, ← e2, ← e3, ← e6, ← e9, ← e10]
  rw [← View.readAt_full arg12.view _ inb_S1024x1_S1024x1_0_0, ← View.readAt_full arg11.view _ inb_S1024x4096_S1024x4096_0_0]
  rfl

set_option maxHeartbeats 4000000 in
/-- The body at a later point of the queries: the codes and the scales are read and kept. -/
theorem sound_q (c : Dev nD) (E : Set ℕ) (i : grid0.Coords) (h1 : ¬k0_cond1 i = 1#1) (h2 : k0_cond2 i = 1#1) (h3 : ¬k0_cond3 i = 1#1) (h4 : ¬k0_cond4 i = 1#1) (arg1 : Memref sig .tc .vmem S1024x4096 .bf16) (harg1 : arg1.IsWhole) (arg2 : Memref sig .tc .vmem S1x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S8x128 .f32) (harg13 : arg13.IsWhole) (arg14 : Memref sig .tc .vmem S1024x512 .bf16) (harg14 : arg14.IsWhole)
    (x0 : Vec F S1024x4096 .bf16) (x1 : Vec F S1x4096 .bf16) (x2 : Vec F S4096x512 .fp8e4m3) (x3 : Vec F S4096x512 .fp8e4m3) (x4 : Vec F S4096x512 .fp8e4m3) (x5 : Vec F S1x512 .f32) (x6 : Vec F S1x512 .f32) (x7 : Vec F S1x512 .f32) (x8 : Vec F S1024x128 .f32) (x9 : Vec F S1024x128 .f32) (x10 : Vec F S1024x4096 .fp8e4m3) (x11 : Vec F S1024x1 .f32) (x12 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (qTile x10 x2 x11 x5 x8 x9)) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_qkv_eq_skeleton]; unfold cc0_qkv_skel
  rw [dif_neg h1, dif_pos h2, dif_neg h3, dif_neg h4]
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  have e1 : View.readAt (Elt F) arg1.view (Rect.unit (s := S1024x4096) ![0, 0] S1024x4096.size inb_S1024x4096_S1024x4096_0_0).toLoadRect f0 = View.read (Elt F) arg1.view f0 := View.readAt_full _ _ _
  have e2 : View.readAt (Elt F) arg2.view (Rect.unit (s := S1x4096) ![0, 0] S1x4096.size inb_S1x4096_S1x4096_0_0).toLoadRect f1 = View.read (Elt F) arg2.view f1 := View.readAt_full _ _ _
  have e3 : View.readAt (Elt F) arg3.view (Rect.unit (s := S4096x512) ![0, 0] S4096x512.size inb_S4096x512_S4096x512_0_0).toLoadRect f2 = View.read (Elt F) arg3.view f2 := View.readAt_full _ _ _
  have e4 : View.readAt (Elt F) arg4.view (Rect.unit (s := S4096x512) ![0, 0] S4096x512.size inb_S4096x512_S4096x512_0_0).toLoadRect f3 = View.read (Elt F) arg4.view f3 := View.readAt_full _ _ _
  have e5 : View.readAt (Elt F) arg5.view (Rect.unit (s := S4096x512) ![0, 0] S4096x512.size inb_S4096x512_S4096x512_0_0).toLoadRect f4 = View.read (Elt F) arg5.view f4 := View.readAt_full _ _ _
  have e6 : View.readAt (Elt F) arg6.view (Rect.unit (s := S1x512) ![0, 0] S1x512.size inb_S1x512_S1x512_0_0).toLoadRect f5 = View.read (Elt F) arg6.view f5 := View.readAt_full _ _ _
  have e7 : View.readAt (Elt F) arg7.view (Rect.unit (s := S1x512) ![0, 0] S1x512.size inb_S1x512_S1x512_0_0).toLoadRect f6 = View.read (Elt F) arg7.view f6 := View.readAt_full _ _ _
  have e8 : View.readAt (Elt F) arg8.view (Rect.unit (s := S1x512) ![0, 0] S1x512.size inb_S1x512_S1x512_0_0).toLoadRect f7 = View.read (Elt F) arg8.view f7 := View.readAt_full _ _ _
  have e9 : View.readAt (Elt F) arg9.view (Rect.unit (s := S1024x128) ![0, 0] S1024x128.size inb_S1024x128_S1024x128_0_0).toLoadRect f8 = View.read (Elt F) arg9.view f8 := View.readAt_full _ _ _
  have e10 : View.readAt (Elt F) arg10.view (Rect.unit (s := S1024x128) ![0, 0] S1024x128.size inb_S1024x128_S1024x128_0_0).toLoadRect f9 = View.read (Elt F) arg10.view f9 := View.readAt_full _ _ _
  have e11 : View.readAt (Elt F) arg11.view (Rect.unit (s := S1024x4096) ![0, 0] S1024x4096.size inb_S1024x4096_S1024x4096_0_0).toLoadRect f10 = View.read (Elt F) arg11.view f10 := View.readAt_full _ _ _
  have e12 : View.readAt (Elt F) arg12.view (Rect.unit (s := S1024x1) ![0, 0] S1024x1.size inb_S1024x1_S1024x1_0_0).toLoadRect f11 = View.read (Elt F) arg12.view f11 := View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  refine (read_cat4 _ _ _ _ _ _ _ _ _ _).trans ?_
  rw [← e11, ← e12, ← e3, ← e6, ← e9, ← e10]
  rfl

set_option maxHeartbeats 4000000 in
/-- The body at the point of the keys. -/
theorem sound_k (c : Dev nD) (E : Set ℕ) (i : grid0.Coords) (h1 : ¬k0_cond1 i = 1#1) (h2 : ¬k0_cond2 i = 1#1) (h3 : k0_cond3 i = 1#1) (h4 : ¬k0_cond4 i = 1#1) (arg1 : Memref sig .tc .vmem S1024x4096 .bf16) (harg1 : arg1.IsWhole) (arg2 : Memref sig .tc .vmem S1x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S8x128 .f32) (harg13 : arg13.IsWhole) (arg14 : Memref sig .tc .vmem S1024x512 .bf16) (harg14 : arg14.IsWhole)
    (x0 : Vec F S1024x4096 .bf16) (x1 : Vec F S1x4096 .bf16) (x2 : Vec F S4096x512 .fp8e4m3) (x3 : Vec F S4096x512 .fp8e4m3) (x4 : Vec F S4096x512 .fp8e4m3) (x5 : Vec F S1x512 .f32) (x6 : Vec F S1x512 .f32) (x7 : Vec F S1x512 .f32) (x8 : Vec F S1024x128 .f32) (x9 : Vec F S1024x128 .f32) (x10 : Vec F S1024x4096 .fp8e4m3) (x11 : Vec F S1024x1 .f32) (x12 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (kTile x10 x3 x11 x6 x8 x9)) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_qkv_eq_skeleton]; unfold cc0_qkv_skel
  rw [dif_neg h1, dif_neg h2, dif_pos h3, dif_neg h4]
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  have e1 : View.readAt (Elt F) arg1.view (Rect.unit (s := S1024x4096) ![0, 0] S1024x4096.size inb_S1024x4096_S1024x4096_0_0).toLoadRect f0 = View.read (Elt F) arg1.view f0 := View.readAt_full _ _ _
  have e2 : View.readAt (Elt F) arg2.view (Rect.unit (s := S1x4096) ![0, 0] S1x4096.size inb_S1x4096_S1x4096_0_0).toLoadRect f1 = View.read (Elt F) arg2.view f1 := View.readAt_full _ _ _
  have e3 : View.readAt (Elt F) arg3.view (Rect.unit (s := S4096x512) ![0, 0] S4096x512.size inb_S4096x512_S4096x512_0_0).toLoadRect f2 = View.read (Elt F) arg3.view f2 := View.readAt_full _ _ _
  have e4 : View.readAt (Elt F) arg4.view (Rect.unit (s := S4096x512) ![0, 0] S4096x512.size inb_S4096x512_S4096x512_0_0).toLoadRect f3 = View.read (Elt F) arg4.view f3 := View.readAt_full _ _ _
  have e5 : View.readAt (Elt F) arg5.view (Rect.unit (s := S4096x512) ![0, 0] S4096x512.size inb_S4096x512_S4096x512_0_0).toLoadRect f4 = View.read (Elt F) arg5.view f4 := View.readAt_full _ _ _
  have e6 : View.readAt (Elt F) arg6.view (Rect.unit (s := S1x512) ![0, 0] S1x512.size inb_S1x512_S1x512_0_0).toLoadRect f5 = View.read (Elt F) arg6.view f5 := View.readAt_full _ _ _
  have e7 : View.readAt (Elt F) arg7.view (Rect.unit (s := S1x512) ![0, 0] S1x512.size inb_S1x512_S1x512_0_0).toLoadRect f6 = View.read (Elt F) arg7.view f6 := View.readAt_full _ _ _
  have e8 : View.readAt (Elt F) arg8.view (Rect.unit (s := S1x512) ![0, 0] S1x512.size inb_S1x512_S1x512_0_0).toLoadRect f7 = View.read (Elt F) arg8.view f7 := View.readAt_full _ _ _
  have e9 : View.readAt (Elt F) arg9.view (Rect.unit (s := S1024x128) ![0, 0] S1024x128.size inb_S1024x128_S1024x128_0_0).toLoadRect f8 = View.read (Elt F) arg9.view f8 := View.readAt_full _ _ _
  have e10 : View.readAt (Elt F) arg10.view (Rect.unit (s := S1024x128) ![0, 0] S1024x128.size inb_S1024x128_S1024x128_0_0).toLoadRect f9 = View.read (Elt F) arg10.view f9 := View.readAt_full _ _ _
  have e11 : View.readAt (Elt F) arg11.view (Rect.unit (s := S1024x4096) ![0, 0] S1024x4096.size inb_S1024x4096_S1024x4096_0_0).toLoadRect f10 = View.read (Elt F) arg11.view f10 := View.readAt_full _ _ _
  have e12 : View.readAt (Elt F) arg12.view (Rect.unit (s := S1024x1) ![0, 0] S1024x1.size inb_S1024x1_S1024x1_0_0).toLoadRect f11 = View.read (Elt F) arg12.view f11 := View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  refine (read_cat4 _ _ _ _ _ _ _ _ _ _).trans ?_
  rw [← e11, ← e12, ← e4, ← e7, ← e9, ← e10]
  rfl

set_option maxHeartbeats 4000000 in
/-- The body at the point of the values. -/
theorem sound_v (c : Dev nD) (E : Set ℕ) (i : grid0.Coords) (h1 : ¬k0_cond1 i = 1#1) (h2 : ¬k0_cond2 i = 1#1) (h3 : ¬k0_cond3 i = 1#1) (h4 : k0_cond4 i = 1#1) (arg1 : Memref sig .tc .vmem S1024x4096 .bf16) (harg1 : arg1.IsWhole) (arg2 : Memref sig .tc .vmem S1x4096 .bf16) (harg2 : arg2.IsWhole) (arg3 : Memref sig .tc .vmem S4096x512 .fp8e4m3) (harg3 : arg3.IsWhole) (arg4 : Memref sig .tc .vmem S4096x512 .fp8e4m3) (harg4 : arg4.IsWhole) (arg5 : Memref sig .tc .vmem S4096x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x4096 .fp8e4m3) (harg11 : arg11.IsWhole) (arg12 : Memref sig .tc .vmem S1024x1 .f32) (harg12 : arg12.IsWhole) (arg13 : Memref sig .tc .vmem S8x128 .f32) (harg13 : arg13.IsWhole) (arg14 : Memref sig .tc .vmem S1024x512 .bf16) (harg14 : arg14.IsWhole)
    (x0 : Vec F S1024x4096 .bf16) (x1 : Vec F S1x4096 .bf16) (x2 : Vec F S4096x512 .fp8e4m3) (x3 : Vec F S4096x512 .fp8e4m3) (x4 : Vec F S4096x512 .fp8e4m3) (x5 : Vec F S1x512 .f32) (x6 : Vec F S1x512 .f32) (x7 : Vec F S1x512 .f32) (x8 : Vec F S1024x128 .f32) (x9 : Vec F S1024x128 .f32) (x10 : Vec F S1024x4096 .fp8e4m3) (x11 : Vec F S1024x1 .f32) (x12 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (vTile x10 x4 x11 x7)) -∗ K ⟨⟩))
      ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_qkv_eq_skeleton]; unfold cc0_qkv_skel
  rw [dif_neg h1, dif_neg h2, dif_neg h3, dif_pos h4]
  simp only [k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  have e1 : View.readAt (Elt F) arg1.view (Rect.unit (s := S1024x4096) ![0, 0] S1024x4096.size inb_S1024x4096_S1024x4096_0_0).toLoadRect f0 = View.read (Elt F) arg1.view f0 := View.readAt_full _ _ _
  have e2 : View.readAt (Elt F) arg2.view (Rect.unit (s := S1x4096) ![0, 0] S1x4096.size inb_S1x4096_S1x4096_0_0).toLoadRect f1 = View.read (Elt F) arg2.view f1 := View.readAt_full _ _ _
  have e3 : View.readAt (Elt F) arg3.view (Rect.unit (s := S4096x512) ![0, 0] S4096x512.size inb_S4096x512_S4096x512_0_0).toLoadRect f2 = View.read (Elt F) arg3.view f2 := View.readAt_full _ _ _
  have e4 : View.readAt (Elt F) arg4.view (Rect.unit (s := S4096x512) ![0, 0] S4096x512.size inb_S4096x512_S4096x512_0_0).toLoadRect f3 = View.read (Elt F) arg4.view f3 := View.readAt_full _ _ _
  have e5 : View.readAt (Elt F) arg5.view (Rect.unit (s := S4096x512) ![0, 0] S4096x512.size inb_S4096x512_S4096x512_0_0).toLoadRect f4 = View.read (Elt F) arg5.view f4 := View.readAt_full _ _ _
  have e6 : View.readAt (Elt F) arg6.view (Rect.unit (s := S1x512) ![0, 0] S1x512.size inb_S1x512_S1x512_0_0).toLoadRect f5 = View.read (Elt F) arg6.view f5 := View.readAt_full _ _ _
  have e7 : View.readAt (Elt F) arg7.view (Rect.unit (s := S1x512) ![0, 0] S1x512.size inb_S1x512_S1x512_0_0).toLoadRect f6 = View.read (Elt F) arg7.view f6 := View.readAt_full _ _ _
  have e8 : View.readAt (Elt F) arg8.view (Rect.unit (s := S1x512) ![0, 0] S1x512.size inb_S1x512_S1x512_0_0).toLoadRect f7 = View.read (Elt F) arg8.view f7 := View.readAt_full _ _ _
  have e9 : View.readAt (Elt F) arg9.view (Rect.unit (s := S1024x128) ![0, 0] S1024x128.size inb_S1024x128_S1024x128_0_0).toLoadRect f8 = View.read (Elt F) arg9.view f8 := View.readAt_full _ _ _
  have e10 : View.readAt (Elt F) arg10.view (Rect.unit (s := S1024x128) ![0, 0] S1024x128.size inb_S1024x128_S1024x128_0_0).toLoadRect f9 = View.read (Elt F) arg10.view f9 := View.readAt_full _ _ _
  have e11 : View.readAt (Elt F) arg11.view (Rect.unit (s := S1024x4096) ![0, 0] S1024x4096.size inb_S1024x4096_S1024x4096_0_0).toLoadRect f10 = View.read (Elt F) arg11.view f10 := View.readAt_full _ _ _
  have e12 : View.readAt (Elt F) arg12.view (Rect.unit (s := S1024x1) ![0, 0] S1024x1.size inb_S1024x1_S1024x1_0_0).toLoadRect f11 = View.read (Elt F) arg12.view f11 := View.readAt_full _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  refine (read_cat4 _ _ _ _ _ _ _ _ _ _).trans ?_
  rw [← e11, ← e12, ← e5, ← e8]
  rfl

end Cert.QkvIdeal.Hand

end
-- ==== Proof.QkvRun.lean ====
/-
  The query, key and value projection's run: the pipeline's proof data, the body obligation, the launch, and the frame.

  The first point quantises all the rows and every later point finds the codes and the scales in their buffers, where nothing is stored again
  until they are written back after the last point.
-/
module

public import proofs.«01_k».proof.Proof.QkvBody
public import Idealize.ShloMosaic.Lib.Pipeline.TableIdle
public import Idealize.ShloMosaic.Lib.Claim

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The first point. -/
abbrev p0 : Fin cfg0.N := ⟨0, lt_of_lt_of_eq (by norm_num) N_0.symm⟩

/-- The codes and the scales of all the rows. -/
def codesW (c : Dev nD) : Vec F S1024x4096 .fp8e4m3 := codesAll (iblk m c 0 p0) (iblk m c 1 p0)
def scaleW (c : Dev nD) : Vec F S1024x1 .f32 := scaleAll (iblk m c 0 p0) (iblk m c 1 p0)

/-- The column block that point `t` computes: four of queries, one of keys, one of values. -/
def tileW (c : Dev nD) (t : Fin cfg0.N) : Vec F S1024x512 .bf16 :=
  if t.val < 4 then qTile (codesW m c) (iblk m c 2 t) (scaleW m c) (iblk m c 5 t) (iblk m c 8 t) (iblk m c 9 t)
  else if t.val = 4 then kTile (codesW m c) (iblk m c 3 t) (scaleW m c) (iblk m c 6 t) (iblk m c 8 t) (iblk m c 9 t)
  else vTile (codesW m c) (iblk m c 4 t) (scaleW m c) (iblk m c 7 t)

/-- The proof data: the arrays as the region finds them; after the body at point `t` each input's buffer at its block, the codes', the scales' and
    the packed scales' at all the rows' values, and the projection's at the point's column block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => codesW m c
    | ⟨11, _⟩ => scaleW m c
    | ⟨12, _⟩ => k0_pay3 (scaleW m c)
    | ⟨13, _⟩ => tileW m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d
theorem before0_6 (c : Dev nD) (t : Fin cfg0.N) (d) : (dats m 0 c).before 6 t d = iblk m c 6 t :=
  before0_6_of m (dats m 0 c) (A_eq m c 6) (fun t => by dsimp only [dats]) t d
theorem before0_7 (c : Dev nD) (t : Fin cfg0.N) (d) : (dats m 0 c).before 7 t d = iblk m c 7 t :=
  before0_7_of m (dats m 0 c) (A_eq m c 7) (fun t => by dsimp only [dats]) t d
theorem before0_8 (c : Dev nD) (t : Fin cfg0.N) (d) : (dats m 0 c).before 8 t d = iblk m c 8 t :=
  before0_8_of m (dats m 0 c) (A_eq m c 8) (fun t => by dsimp only [dats]) t d
theorem before0_9 (c : Dev nD) (t : Fin cfg0.N) (d) : (dats m 0 c).before 9 t d = iblk m c 9 t :=
  before0_9_of m (dats m 0 c) (A_eq m c 9) (fun t => by dsimp only [dats]) t d

/-! ## The conditions -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val < 4 :=
  (by decide +kernel : ∀ t : Fin grid0.N, k0_cond2 (grid0.coords t) = 1#1 ↔ t.val < 4)
theorem cond3_iff : ∀ t : Fin cfg0.N, k0_cond3 (grid0.coords t) = 1#1 ↔ t.val = 4 :=
  (by decide +kernel : ∀ t : Fin grid0.N, k0_cond3 (grid0.coords t) = 1#1 ↔ t.val = 4)
theorem cond4_iff : ∀ t : Fin cfg0.N, k0_cond4 (grid0.coords t) = 1#1 ↔ 5 ≤ t.val :=
  (by decide +kernel : ∀ t : Fin grid0.N, k0_cond4 (grid0.coords t) = 1#1 ↔ 5 ≤ t.val)

/-! ## What the kept buffers hold -/

/-- A buffer at `after` meets what the obligation says of it, if at an idle point that does not write back it was found so. -/
theorem leaves_intro (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t)
  · exact .rfl
  · cases hf : (cfg0.win w).flush t
    · dsimp only
      iintro H
      iexists (dats m 0 c).after w t
      rw [h hi]
      iexact H
    · exact .rfl

theorem no_flush (w : Fin cfg0.W) (hw : ∀ t : Fin cfg0.N, (cfg0.win w).flush t = true ↔ t.val % 6 = 5) (t : Fin cfg0.N) (h : t.val < 5) : (cfg0.win w).flush t = false := by
  rcases hf : (cfg0.win w).flush t with _ | _
  · rfl
  · have := (hw t).mp hf; omega

/-- A window stored at the first point only is not fresh at a later one. -/
theorem not_fresh (w : Fin cfg0.W) (hw : ∀ t : Fin cfg0.N, (cfg0.win w).flush t = true ↔ t.val % 6 = 5)
    (hi : ∀ i, cfg0.idle w i = !(k0_cond1 i == 1#1)) : ∀ n, n + 1 ≤ 5 → cfg0.fresh w (n + 1) = false := by
  intro n
  induction n with
  | zero =>
    intro _
    have hN : (0 : ℕ) < cfg0.N := lt_of_lt_of_eq (by norm_num) N_0.symm
    rw [Cfg.fresh_succ cfg0 w 0 hN, no_flush w hw _ (by norm_num), hi]
    have h1 : k0_cond1 (cfg0.grid.coords (⟨0, hN⟩ : Fin cfg0.N)) = 1#1 := (cond1_iff ⟨0, hN⟩).mpr rfl
    rw [h1]; rfl
  | succ n ih =>
    intro h
    have hN : n + 1 < cfg0.N := lt_of_lt_of_eq (by omega : n + 1 < 6) N_0.symm
    rw [Cfg.fresh_succ cfg0 w (n + 1) hN, no_flush w hw _ (by show n + 1 < 5; omega), ih (by omega), Bool.and_false, Bool.or_false]

/-- What the body finds there at a later point. -/
theorem found (c : Dev nD) (w : Fin cfg0.W) (ho : (cfg0.win w).isOut = true) (hclip : ∀ (i : cfg0.grid.Coords) a, (cfg0.win w).clip i a = none)
    (hw : ∀ t : Fin cfg0.N, (cfg0.win w).flush t = true ↔ t.val % 6 = 5) (hi : ∀ i, cfg0.idle w i = !(k0_cond1 i == 1#1))
    (hc : ∀ t t', (dats m 0 c).after w t = (dats m 0 c).after w t') (t : Fin cfg0.N) (ht : t.val ≠ 0) (d) :
    (dats m 0 c).before w t d = (dats m 0 c).after w t := by
  rw [Dat.before_out_traj (dats m 0 c) w ho hclip (fun t _ _ _ => hc _ _) t.val t rfl d]
  have hN : t.val < 6 := lt_of_lt_of_eq t.isLt N_0
  have hf := not_fresh w hw hi (t.val - 1) (by omega)
  rw [Nat.sub_add_cancel (Nat.pos_of_ne_zero ht)] at hf
  rw [hf, if_neg Bool.false_ne_true]
  exact hc _ _

theorem idle_pos (i : grid0.Coords) (h : (!(k0_cond1 i == 1#1)) = true) : ¬ k0_cond1 i = 1#1 := by
  intro e; rw [e] at h; exact absurd h (by decide)

theorem before0_10 (c : Dev nD) (t : Fin cfg0.N) (ht : t.val ≠ 0) (d) : (dats m 0 c).before 10 t d = codesW m c :=
  found m c 10 rfl (fun _ _ => rfl) flush0_10 (fun _ => rfl) (fun _ _ => rfl) t ht d
theorem leaves10 (c : Dev nD) (t : Fin cfg0.N) : owns (c : Thread nD τ) (st0_10 t) fullShare (codesW m c) ⊢ (dats m 0 c).leavesExact 10 t :=
  leaves_intro m c 10 t fun h d => before0_10 m c t (fun h0 => idle_pos _ h ((cond1_iff t).mpr h0)) d

theorem before0_11 (c : Dev nD) (t : Fin cfg0.N) (ht : t.val ≠ 0) (d) : (dats m 0 c).before 11 t d = scaleW m c :=
  found m c 11 rfl (fun _ _ => rfl) flush0_11 (fun _ => rfl) (fun _ _ => rfl) t ht d
theorem leaves11 (c : Dev nD) (t : Fin cfg0.N) : owns (c : Thread nD τ) (st0_11 t) fullShare (scaleW m c) ⊢ (dats m 0 c).leavesExact 11 t :=
  leaves_intro m c 11 t fun h d => before0_11 m c t (fun h0 => idle_pos _ h ((cond1_iff t).mpr h0)) d

theorem before0_12 (c : Dev nD) (t : Fin cfg0.N) (ht : t.val ≠ 0) (d) : (dats m 0 c).before 12 t d = k0_pay3 (scaleW m c) :=
  found m c 12 rfl (fun _ _ => rfl) flush0_12 (fun _ => rfl) (fun _ _ => rfl) t ht d
theorem leaves12 (c : Dev nD) (t : Fin cfg0.N) : owns (c : Thread nD τ) (st0_12 t) fullShare (k0_pay3 (scaleW m c)) ⊢ (dats m 0 c).leavesExact 12 t :=
  leaves_intro m c 12 t fun h d => before0_12 m c t (fun h0 => idle_pos _ h ((cond1_iff t).mpr h0)) d

theorem live13 (t : Fin cfg0.N) : cfg0.idle 13 (cfg0.grid.coords t) = false := by
  show (!(k0_cond2 (grid0.coords t) == 1#1) && !(k0_cond3 (grid0.coords t) == 1#1) && !(k0_cond4 (grid0.coords t) == 1#1)) = false
  have hN : t.val < 6 := lt_of_lt_of_eq t.isLt N_0
  rcases Nat.lt_or_ge t.val 4 with h | h
  · rw [(cond2_iff t).mpr h]; rfl
  · rcases Nat.lt_or_ge t.val 5 with h' | h'
    · rw [(cond3_iff t).mpr (by omega)]; simp
    · rw [(cond4_iff t).mpr h']; simp

theorem leaves13 (c : Dev nD) (t : Fin cfg0.N) : owns (c : Thread nD τ) (st0_13 t) fullShare (tileW m c t) ⊢ (dats m 0 c).leavesExact 13 t :=
  leaves_intro m c 13 t fun h => absurd ((live13 t).symm.trans h) Bool.false_ne_true

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (dats m 0 c).leavesExact 10 t ∗ (dats m 0 c).leavesExact 11 t ∗ (dats m 0 c).leavesExact 12 t ∗ (dats m 0 c).leavesExact 13 t)

theorem body_first (c : Dev nD) (t : Fin cfg0.N) (ht : t.val = 0) :
    bodyPre m c t ⊢ wp frame (wpE (defs₀ (F := F)) Variants.none c none) Set.univ (bodyAt0 t) (fun _ => bodyPost m c t) := by
  obtain rfl : t = p0 := Fin.ext ht
  unfold bodyPre bodyPost bodyAt0
  simp only [before0_0, before0_1, before0_2, before0_3, before0_4, before0_5, before0_6, before0_7, before0_8, before0_9]
  rw [show (dats m 0 c).Φ p0.succ = (dats m 0 c).Φ p0.castSucc from rfl,
    show (dats m 0 c).owesAt () p0.succ = (dats m 0 c).owesAt () p0.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_first c Set.univ _ ((cond1_iff p0).mpr (by show _; simp)) ((cond2_iff p0).mpr (by show _; simp)) (fun h => absurd ((cond3_iff p0).mp h) (by show _; simp)) (fun h => absurd ((cond4_iff p0).mp h) (by show _; simp)) _ _ _ _ _ _ _ _ _ _ _ _ _ _ _ _ _ _ _ _ _ _ _ _ _ _ _ _ (iblk m c 0 p0) (iblk m c 1 p0) (iblk m c 2 p0) (iblk m c 3 p0) (iblk m c 4 p0) (iblk m c 5 p0) (iblk m c 6 p0) (iblk m c 7 p0) (iblk m c 8 p0) (iblk m c 9 p0) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves10 m c p0); iexact H10
  isplitl [H11]; · iapply (leaves11 m c p0); iexact H11
  isplitl [H12]; · iapply (leaves12 m c p0); iexact H12
  iapply (leaves13 m c p0)
  rw [show tileW m c p0 = qTile (codesW m c) (iblk m c 2 p0) (scaleW m c) (iblk m c 5 p0) (iblk m c 8 p0) (iblk m c 9 p0) from if_pos (by norm_num)]
  iexact H13

theorem body_q (c : Dev nD) (t : Fin cfg0.N) (ht0 : t.val ≠ 0) (ht : t.val < 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10 m c t ht0, before0_11 m c t ht0, before0_12 m c t ht0]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_q c Set.univ _ (fun h => absurd ((cond1_iff t).mp h) (by omega)) ((cond2_iff t).mpr (by omega)) (fun h => absurd ((cond3_iff t).mp h) (by omega)) (fun h => absurd ((cond4_iff t).mp h) (by omega)) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (codesW m c) (scaleW m c) (k0_pay3 (scaleW m c)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves10 m c t); iexact H10
  isplitl [H11]; · iapply (leaves11 m c t); iexact H11
  isplitl [H12]; · iapply (leaves12 m c t); iexact H12
  iapply (leaves13 m c t)
  rw [show tileW m c t = qTile (codesW m c) (iblk m c 2 t) (scaleW m c) (iblk m c 5 t) (iblk m c 8 t) (iblk m c 9 t) from if_pos ht]
  iexact H13

theorem body_k (c : Dev nD) (t : Fin cfg0.N) (ht0 : t.val ≠ 0) (ht : t.val = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10 m c t ht0, before0_11 m c t ht0, before0_12 m c t ht0]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_k c Set.univ _ (fun h => absurd ((cond1_iff t).mp h) (by omega)) (fun h => absurd ((cond2_iff t).mp h) (by omega)) ((cond3_iff t).mpr (by omega)) (fun h => absurd ((cond4_iff t).mp h) (by omega)) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (codesW m c) (scaleW m c) (k0_pay3 (scaleW m c)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves10 m c t); iexact H10
  isplitl [H11]; · iapply (leaves11 m c t); iexact H11
  isplitl [H12]; · iapply (leaves12 m c t); iexact H12
  iapply (leaves13 m c t)
  rw [show tileW m c t = kTile (codesW m c) (iblk m c 3 t) (scaleW m c) (iblk m c 6 t) (iblk m c 8 t) (iblk m c 9 t) from (if_neg (by omega)).trans (if_pos ht)]
  iexact H13

theorem body_v (c : Dev nD) (t : Fin cfg0.N) (ht0 : t.val ≠ 0) (ht : 5 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10 m c t ht0, before0_11 m c t ht0, before0_12 m c t ht0]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_v c Set.univ _ (fun h => absurd ((cond1_iff t).mp h) (by omega)) (fun h => absurd ((cond2_iff t).mp h) (by omega)) (fun h => absurd ((cond3_iff t).mp h) (by omega)) ((cond4_iff t).mpr (by omega)) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (codesW m c) (scaleW m c) (k0_pay3 (scaleW m c)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (leaves10 m c t); iexact H10
  isplitl [H11]; · iapply (leaves11 m c t); iexact H11
  isplitl [H12]; · iapply (leaves12 m c t); iexact H12
  iapply (leaves13 m c t)
  rw [show tileW m c t = vTile (codesW m c) (iblk m c 4 t) (scaleW m c) (iblk m c 7 t) from (if_neg (by omega)).trans (if_neg (by omega))]
  iexact H13

theorem sound_body (c : Dev nD) (t : Fin cfg0.N) :
    bodyPre m c t ⊢ wp frame (wpE (defs₀ (F := F)) Variants.none c none) Set.univ (bodyAt0 t) (fun _ => bodyPost m c t) := by
  rcases Nat.eq_zero_or_pos t.val with h0 | h0
  · exact body_first m c t h0
  · rcases Nat.lt_or_ge t.val 4 with h | h
    · exact body_q m c t (by omega) h
    · rcases Nat.lt_or_ge t.val 5 with h' | h'
      · exact body_k m c t (by omega) (by omega)
      · exact body_v m c t (by omega) h'

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

set_option backward.isDefEq.respectTransparency.types false in
set_option maxHeartbeats 800000 in
/-- The launch: every final state has every array of the pipeline at what the library computes from the proof data, every other unscoped buffer
    as the region found it, and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.QkvIdeal.Hand

end
-- ==== Proof.QkvFrame.lean ====
/-
  The frame of the query, key and value projection as printed. The program and its idealization, which rewrites nothing, are one program printed
  under two names: their buffers, their entries and their kernels are equal, so the frame of the one is the frame of the other.
-/
module

public import proofs.«01_k».proof.Defs
public import proofs.«01_k».proof.Proof.QkvRun
public import proofs.«01_k».proof.Proof.Gen.Qkv

@[expose] public section

set_option maxRecDepth 65536

noncomputable section

open Idealize.ShloMosaic Idealize.ShloMosaic.TcCoe Idealize.SL.Sem

namespace Cert.Qkv.Hand

/-- The kernel is the idealization's. -/
theorem body_eq : @cc0_qkv Bits _ _ = @Cert.QkvIdeal.cc0_qkv Bits _ _ := rfl

/-- So are the bodies' table, -/
theorem defs₀_eq : defs₀ (F := Bits) = Cert.QkvIdeal.defs₀ (F := Bits) := by
  unfold defs₀ Cert.QkvIdeal.defs₀
  refine congrArg Defs.onTc ?_
  funext l x
  match l, x with
  | 0, (t, s) => rfl
  | ⟨_ + 1, h⟩, _ => exact absurd h (Nat.not_lt.2 (Nat.le_add_left _ _))

/-- the definitions, -/
theorem defs_eq : defs (F := Bits) = Cert.QkvIdeal.defs (F := Bits) := congrArg (Pipeline.defs Cert.QkvIdeal.pcfgs) defs₀_eq

/-- and the entry. -/
theorem main_eq : main (F := Bits) = Cert.QkvIdeal.main (F := Bits) := rfl

/-- The frame. -/
theorem frame : Cert.quiescent_Qkv (hQkv := Cert.Qkv.Gen.facts) := by
  intro m ρ _
  have h := Cert.QkvIdeal.Hand.frame (F := Bits) m ρ
  have h' := defs_eq ▸ h
  exact h'

end Cert.Qkv.Hand

end
-- ==== Proof.QkvFinal.lean ====
/-
  The arrays that the query, key and value projection leaves: the codes, the scales and the packed scales of all the rows, and each column of the
  projection from the point that owns the column.

  `colOf`, `ptOf`: a column of the projection as a column of a point's block. `G13`: the projection. `run`: every run leaves the four results, and
  the arguments as they were.
-/
module

public import proofs.«01_k».proof.Proof.QkvRun
public import Idealize.ShloMosaic.Lib.Pipeline.ArrRel
public import Idealize.ShloMosaic.Lib.ValueIdx

@[expose] public section

set_option maxRecDepth 16384

noncomputable section

namespace Cert.QkvIdeal.Hand

open Cert.QkvIdeal Cert.QkvIdeal.Gen
open Idealize.ShloMosaic Idealize.ShloMosaic.TcCoe Idealize.SL.Sem
open Idealize.ShloMosaic.ValueIdx
open Idealize.ShloMosaic.Pipeline (Dat Cfg Window)

variable {F : FTy → Type} [FloatOps F]

variable (m : (ℓ : Loc nD τ sig) → Buf (Elt F) ℓ) (ρ : Dev nD → PrngReg)

/-- The point that owns column `j`. -/
abbrev ptOf (j : Fin 3072) : Fin cfg0.N := ⟨j.val / 512, lt_of_lt_of_eq (by omega) N_0.symm⟩

/-- Column `j`'s place in its point's block. -/
abbrev colOf (j : Fin 3072) : Fin 512 := ⟨j.val % 512, Nat.mod_lt _ (by norm_num)⟩

/-- The projection. -/
def G13 (c : Dev nD) : Vec F S1024x3072 .bf16 := fun i => tileW m c (ptOf (i 1)) (ix2 (i 0) (colOf (i 1)))

/-! ## The blocks of the results -/

theorem out_rows : ∀ t : Fin cfg0.N, (win0_10.index t 0 = 0 ∧ win0_10.index t 1 = 0) ∧ (win0_11.index t 0 = 0 ∧ win0_11.index t 1 = 0)
    ∧ (win0_12.index t 0 = 0 ∧ win0_12.index t 1 = 0) ∧ win0_13.index t 0 = 0 ∧ win0_13.index t 1 = t.val := by decide +kernel

theorem disjoint10 : ∀ t t' : Fin cfg0.N, (cfg0.win 10).flush t = true → (cfg0.win 10).flush t' = true → t ≠ t' →
    Disjoint ((cfg0.win 10).blk t).view.set ((cfg0.win 10).blk t').view.set := fun t t' h h' hne => by
  have e := (flush0_10 t).mp h
  have e' := (flush0_10 t').mp h'
  have l : t.val < 6 := lt_of_lt_of_eq t.isLt N_0
  have l' : t'.val < 6 := lt_of_lt_of_eq t'.isLt N_0
  exact absurd (Fin.ext (by omega)) hne

theorem final10 (c : Dev nD) : (dats m 0 c).arrAt 10 cfg0.N = codesW m c := by
  funext i
  have l : 5 < cfg0.N := lt_of_lt_of_eq (by norm_num) N_0.symm
  obtain ⟨⟨h0, h1⟩, -⟩ := out_rows ⟨5, l⟩
  have h := congrFun ((dats m 0 c).read_blk_arrAt_eq_flushed 10 disjoint10 cfg0.N ⟨5, l⟩ l ((flush0_10 _).mpr rfl)) i
  rw [View.read_apply] at h
  refine Eq.trans (congrArg ((dats m 0 c).arrAt 10 cfg0.N) ?_) h
  funext a; apply Fin.ext
  match a with
  | ⟨0, _⟩ => show (i 0).val = win0_10.index ⟨5, l⟩ 0 * 1024 + 1 * (i 0).val; rw [h0]; omega
  | ⟨1, _⟩ => show (i 1).val = win0_10.index ⟨5, l⟩ 1 * 4096 + 1 * (i 1).val; rw [h1]; omega

theorem disjoint11 : ∀ t t' : Fin cfg0.N, (cfg0.win 11).flush t = true → (cfg0.win 11).flush t' = true → t ≠ t' →
    Disjoint ((cfg0.win 11).blk t).view.set ((cfg0.win 11).blk t').view.set := fun t t' h h' hne => by
  have e := (flush0_11 t).mp h
  have e' := (flush0_11 t').mp h'
  have l : t.val < 6 := lt_of_lt_of_eq t.isLt N_0
  have l' : t'.val < 6 := lt_of_lt_of_eq t'.isLt N_0
  exact absurd (Fin.ext (by omega)) hne

theorem final11 (c : Dev nD) : (dats m 0 c).arrAt 11 cfg0.N = scaleW m c := by
  funext i
  have l : 5 < cfg0.N := lt_of_lt_of_eq (by norm_num) N_0.symm
  obtain ⟨-, ⟨h0, h1⟩, -⟩ := out_rows ⟨5, l⟩
  have h := congrFun ((dats m 0 c).read_blk_arrAt_eq_flushed 11 disjoint11 cfg0.N ⟨5, l⟩ l ((flush0_11 _).mpr rfl)) i
  rw [View.read_apply] at h
  refine Eq.trans (congrArg ((dats m 0 c).arrAt 11 cfg0.N) ?_) h
  funext a; apply Fin.ext
  match a with
  | ⟨0, _⟩ => show (i 0).val = win0_11.index ⟨5, l⟩ 0 * 1024 + 1 * (i 0).val; rw [h0]; omega
  | ⟨1, _⟩ => show (i 1).val = win0_11.index ⟨5, l⟩ 1 * 1 + 1 * (i 1).val; rw [h1]; omega

theorem disjoint12 : ∀ t t' : Fin cfg0.N, (cfg0.win 12).flush t = true → (cfg0.win 12).flush t' = true → t ≠ t' →
    Disjoint ((cfg0.win 12).blk t).view.set ((cfg0.win 12).blk t').view.set := fun t t' h h' hne => by
  have e := (flush0_12 t).mp h
  have e' := (flush0_12 t').mp h'
  have l : t.val < 6 := lt_of_lt_of_eq t.isLt N_0
  have l' : t'.val < 6 := lt_of_lt_of_eq t'.isLt N_0
  exact absurd (Fin.ext (by omega)) hne

theorem final12 (c : Dev nD) : (dats m 0 c).arrAt 12 cfg0.N = k0_pay3 (scaleW m c) := by
  funext i
  have l : 5 < cfg0.N := lt_of_lt_of_eq (by norm_num) N_0.symm
  obtain ⟨-, -, ⟨h0, h1⟩, -⟩ := out_rows ⟨5, l⟩
  have h := congrFun ((dats m 0 c).read_blk_arrAt_eq_flushed 12 disjoint12 cfg0.N ⟨5, l⟩ l ((flush0_12 _).mpr rfl)) i
  rw [View.read_apply] at h
  refine Eq.trans (congrArg ((dats m 0 c).arrAt 12 cfg0.N) ?_) h
  funext a; apply Fin.ext
  match a with
  | ⟨0, _⟩ => show (i 0).val = win0_12.index ⟨5, l⟩ 0 * 8 + 1 * (i 0).val; rw [h0]; omega
  | ⟨1, _⟩ => show (i 1).val = win0_12.index ⟨5, l⟩ 1 * 128 + 1 * (i 1).val; rw [h1]; omega

theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne
    ((by decide +kernel : ∀ t t' : Fin grid0.N, win0_13.index t = win0_13.index t' → t = t') t t' h)

theorem final13 (c : Dev nD) : (dats m 0 c).arrAt 13 cfg0.N = G13 m c := by
  funext i
  obtain ⟨-, -, -, h0, h1⟩ := out_rows (ptOf (i 1))
  have h := congrFun ((dats m 0 c).read_blk_arrAt_eq_flushed 13 disjoint13 cfg0.N (ptOf (i 1)) (ptOf (i 1)).isLt (flush0_13 _)) (ix2 (i 0) (colOf (i 1)))
  rw [View.read_apply] at h
  refine Eq.trans (congrArg ((dats m 0 c).arrAt 13 cfg0.N) ?_) h
  funext a; apply Fin.ext
  match a with
  | ⟨0, _⟩ => show (i 0).val = win0_13.index (ptOf (i 1)) 0 * 1024 + 1 * (i 0).val; rw [h0]; omega
  | ⟨1, _⟩ => show (i 1).val = win0_13.index (ptOf (i 1)) 1 * 512 + 1 * ((i 1).val % 512); rw [h1]; show (i 1).val = (i 1).val / 512 * 512 + 1 * ((i 1).val % 512); omega

/-! ## The run -/

/-- Every run leaves the four results and the arguments as they were. -/
theorem run : θ_run defs (onTc (τ := τ) (main (F := F))) ⟨m, fun _ => 0, ρ⟩ fun r => ∀ c : Dev nD,
      r.2.mem ((c : Thread nD τ).loc main_v0_0) = codesW m c
      ∧ r.2.mem ((c : Thread nD τ).loc main_v0_1) = scaleW m c
      ∧ r.2.mem ((c : Thread nD τ).loc main_v0_2) = k0_pay3 (scaleW m c)
      ∧ r.2.mem ((c : Thread nD τ).loc main_v0_3) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h.1 c).1 10).trans (final10 m c), ((h.1 c).1 11).trans (final11 m c), ((h.1 c).1 12).trans (final12 m c),
      ((h.1 c).1 13).trans (final13 m c), h.2.1 c⟩)
    (θ_run_and (run_main m ρ) (frame m ρ))

end Cert.QkvIdeal.Hand

end
-- ==== Proof.QkvEntries.lean ====
/-
  The query, key and value projection's normalised, weighted rows at one index, at the ideal instance.

  `weighted_apply`: the kernel's, a row over its root mean square times the weight.
-/
module

public import proofs.«01_k».proof.Proof.QkvFinal
public import proofs.«01_k».proof.Proof.OprojQuant

@[expose] public section

set_option maxRecDepth 16384

noncomputable section

open Idealize.ShloMosaic Idealize.ShloMosaic.ValueIdx
open scoped BigOperators

namespace Cert.Qkv.Entries

/-- A row `f` at column `j` over the row's root mean square, times the weight `g`. -/
abbrev rmsNorm (f : Fin 4096 → EReal) (j : Fin 4096) (g : EReal) : EReal := Cert.Oproj.Entries.rmsNorm f j g

section Kernel

open Cert.QkvIdeal Cert.QkvIdeal.Gen Cert.QkvIdeal.Hand

variable (v : Vec Ideal S128x4096 .bf16) (g : Vec Ideal S1x4096 .bf16)

/-! ## The norm -/

/-- The root mean square's inverse, from the eight sublanes' sums. -/
abbrev inverseRms (x : FVec Ideal S8x128 .f32) : FVec Ideal S128x1 .f32 :=
  rsqrt (addf (mulf (extractStridedSlice S128x1 ![0, 0] (transpose S128x8 [1, 0]
    (addf (addf (addf x (dynamicRotate 0 4#32 none x facts.rotates_S8x128_d0)) (dynamicRotate 0 2#32 none (addf x (dynamicRotate 0 4#32 none x facts.rotates_S8x128_d0)) facts.rotates_S8x128_d0))
        (dynamicRotate 0 1#32 none (addf (addf x (dynamicRotate 0 4#32 none x facts.rotates_S8x128_d0)) (dynamicRotate 0 2#32 none (addf x (dynamicRotate 0 4#32 none x facts.rotates_S8x128_d0)) facts.rotates_S8x128_d0)) facts.rotates_S8x128_d0))
      facts.transposes_S8x128_p1_0_S128x8) facts.slices_S128x8_o0_0_S128x1) (broadcast S128x1 (Scalar.ofBits .f32 0x39800000#32)))
    (broadcast S128x1 (Scalar.ofBits .f32 0x3727C5AC#32)))

/-- Eight sublanes of the transposed sums. -/
theorem sub_at (w : FVec Ideal S128x128 .f32) (o : ℕ) (h : S128x128.Slices ![o, 0] S8x128) :
    extractStridedSlice S8x128 ![o, 0] (transpose S128x128 [1, 0] w facts.transposes_S128x128_p1_0_S128x128) h = RowTree.sub w o := RowTree.sub_eq w o _ h

/-- The transposed sums of lanes. -/
theorem lanes_eq : k0_pay46 (k0_pay14 (F := Ideal) v) (k0_pay15 (F := Ideal) v) (k0_pay16 (F := Ideal) v) (k0_pay17 (F := Ideal) v) (k0_pay18 (F := Ideal) v) (k0_pay19 (F := Ideal) v) (k0_pay20 (F := Ideal) v) (k0_pay21 (F := Ideal) v) (k0_pay22 (F := Ideal) v) (k0_pay23 (F := Ideal) v) (k0_pay24 (F := Ideal) v) (k0_pay25 (F := Ideal) v) (k0_pay26 (F := Ideal) v) (k0_pay27 (F := Ideal) v) (k0_pay28 (F := Ideal) v) (k0_pay29 (F := Ideal) v) (k0_pay30 (F := Ideal) v) (k0_pay31 (F := Ideal) v) (k0_pay32 (F := Ideal) v) (k0_pay33 (F := Ideal) v) (k0_pay34 (F := Ideal) v) (k0_pay35 (F := Ideal) v) (k0_pay36 (F := Ideal) v) (k0_pay37 (F := Ideal) v) (k0_pay38 (F := Ideal) v) (k0_pay39 (F := Ideal) v) (k0_pay40 (F := Ideal) v) (k0_pay41 (F := Ideal) v) (k0_pay42 (F := Ideal) v) (k0_pay43 (F := Ideal) v) (k0_pay44 (F := Ideal) v) (k0_pay45 (F := Ideal) v)
    = transpose S128x128 [1, 0] (RowTree.lanes (k0_pay13 (F := Ideal) v)) facts.transposes_S128x128_p1_0_S128x128 := by
  unfold k0_pay46 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45
  generalize k0_pay13 (F := Ideal) v = x
  simp only [RowTree.sq_eq]
  refine congrArg (fun w => transpose S128x128 [1, 0] w facts.transposes_S128x128_p1_0_S128x128) ?_
  funext i
  unfold RowTree.lanes
  simp only [Finset.sum_range_succ, Finset.sum_range_zero, zero_add]
  rfl

/-- The rows over their root mean squares, weighted, from the sums of sublanes. -/
theorem pay62_eq (w : FVec Ideal S1x4096 .f32) (x : FVec Ideal S128x4096 .f32) (p47 p48 p49 p50 p51 p52 p53 p54 p55 p56 p57 p58 p59 p60 p61 : FVec Ideal S8x128 .f32) :
    k0_pay62 w x p47 p48 p49 p50 p51 p52 p53 p54 p55 p56 p57 p58 p59 p60 p61 = mulf (mulf x (broadcastTo S128x4096 (inverseRms (addf (addf (addf (addf (addf (addf (addf (addf (addf (addf (addf (addf (addf (addf p61 p47) p48) p49) p50) p51) p52) p53) p54) p55) p56) p57) p58) p59) p60))
      facts.broadcasts_S128x1_S128x4096)) (broadcastTo S128x4096 w facts.broadcasts_S1x4096_S128x4096) := rfl

theorem part47_eq : part47 (F := Ideal) v = RowTree.sub (RowTree.lanes (k0_pay13 (F := Ideal) v)) 16 := by
  unfold part47 k0_pay47
  rw [lanes_eq]
  exact sub_at _ 16 _

theorem part48_eq : part48 (F := Ideal) v = RowTree.sub (RowTree.lanes (k0_pay13 (F := Ideal) v)) 24 := by
  unfold part48 k0_pay48
  rw [lanes_eq]
  exact sub_at _ 24 _

theorem part49_eq : part49 (F := Ideal) v = RowTree.sub (RowTree.lanes (k0_pay13 (F := Ideal) v)) 32 := by
  unfold part49 k0_pay49
  rw [lanes_eq]
  exact sub_at _ 32 _

theorem part50_eq : part50 (F := Ideal) v = RowTree.sub (RowTree.lanes (k0_pay13 (F := Ideal) v)) 40 := by
  unfold part50 k0_pay50
  rw [lanes_eq]
  exact sub_at _ 40 _

theorem part51_eq : part51 (F := Ideal) v = RowTree.sub (RowTree.lanes (k0_pay13 (F := Ideal) v)) 48 := by
  unfold part51 k0_pay51
  rw [lanes_eq]
  exact sub_at _ 48 _

theorem part52_eq : part52 (F := Ideal) v = RowTree.sub (RowTree.lanes (k0_pay13 (F := Ideal) v)) 56 := by
  unfold part52 k0_pay52
  rw [lanes_eq]
  exact sub_at _ 56 _

theorem part53_eq : part53 (F := Ideal) v = RowTree.sub (RowTree.lanes (k0_pay13 (F := Ideal) v)) 64 := by
  unfold part53 k0_pay53
  rw [lanes_eq]
  exact sub_at _ 64 _

theorem part54_eq : part54 (F := Ideal) v = RowTree.sub (RowTree.lanes (k0_pay13 (F := Ideal) v)) 72 := by
  unfold part54 k0_pay54
  rw [lanes_eq]
  exact sub_at _ 72 _

theorem part55_eq : part55 (F := Ideal) v = RowTree.sub (RowTree.lanes (k0_pay13 (F := Ideal) v)) 80 := by
  unfold part55 k0_pay55
  rw [lanes_eq]
  exact sub_at _ 80 _

theorem part56_eq : part56 (F := Ideal) v = RowTree.sub (RowTree.lanes (k0_pay13 (F := Ideal) v)) 88 := by
  unfold part56 k0_pay56
  rw [lanes_eq]
  exact sub_at _ 88 _

theorem part57_eq : part57 (F := Ideal) v = RowTree.sub (RowTree.lanes (k0_pay13 (F := Ideal) v)) 96 := by
  unfold part57 k0_pay57
  rw [lanes_eq]
  exact sub_at _ 96 _

theorem part58_eq : part58 (F := Ideal) v = RowTree.sub (RowTree.lanes (k0_pay13 (F := Ideal) v)) 104 := by
  unfold part58 k0_pay58
  rw [lanes_eq]
  exact sub_at _ 104 _

theorem part59_eq : part59 (F := Ideal) v = RowTree.sub (RowTree.lanes (k0_pay13 (F := Ideal) v)) 112 := by
  unfold part59 k0_pay59
  rw [lanes_eq]
  exact sub_at _ 112 _

theorem part60_eq : part60 (F := Ideal) v = RowTree.sub (RowTree.lanes (k0_pay13 (F := Ideal) v)) 120 := by
  unfold part60 k0_pay60
  rw [lanes_eq]
  exact sub_at _ 120 _

theorem part61_eq : part61 (F := Ideal) v
    = addf (RowTree.sub (RowTree.lanes (k0_pay13 (F := Ideal) v)) 0) (RowTree.sub (RowTree.lanes (k0_pay13 (F := Ideal) v)) 8) := by
  unfold part61 k0_pay61
  rw [lanes_eq]
  exact congrArg₂ addf (sub_at _ 0 _) (sub_at _ 8 _)

theorem sublanes_eq (u : FVec Ideal S128x128 .f32) :
    addf (addf (addf (addf (addf (addf (addf (addf (addf (addf (addf (addf (addf (addf (addf (RowTree.sub u 0) (RowTree.sub u 8)) (RowTree.sub u 16)) (RowTree.sub u 24)) (RowTree.sub u 32)) (RowTree.sub u 40)) (RowTree.sub u 48)) (RowTree.sub u 56)) (RowTree.sub u 64)) (RowTree.sub u 72)) (RowTree.sub u 80)) (RowTree.sub u 88)) (RowTree.sub u 96)) (RowTree.sub u 104)) (RowTree.sub u 112)) (RowTree.sub u 120) = RowTree.sublanes u := by
  funext i
  unfold RowTree.sublanes
  simp only [Finset.sum_range_succ, Finset.sum_range_zero, zero_add]
  rfl

/-- The normalised, weighted rows. -/
theorem weighted_apply (r : Fin 128) (j : Fin 4096) :
    weighted (F := Ideal) v g (ix2 r j) = rmsNorm (fun k => v (ix2 r k)) j (g (ix2 0 j)) := by
  unfold weighted
  rw [pay62_eq, part47_eq, part48_eq, part49_eq, part50_eq, part51_eq, part52_eq, part53_eq, part54_eq, part55_eq, part56_eq, part57_eq, part58_eq, part59_eq, part60_eq, part61_eq, sublanes_eq, Row.mulf_at, Row.mulf_at, Row.bcol_apply, Row.brow_apply]
  rw [show (fun k => v (ix2 r k)) = (fun k => k0_pay13 (F := Ideal) v (ix2 r k)) from rfl]
  generalize k0_pay13 (F := Ideal) v = x
  unfold rmsNorm Cert.Oproj.Entries.rmsNorm
  rw [← RowTree.total_eq x r, ← RowTree.rolls_apply (RowTree.sublanes (RowTree.lanes x)) facts.rotates_S8x128_d0 r]
  generalize RowTree.sublanes (RowTree.lanes x) = y
  have e : ∀ y : FVec Ideal S8x128 .f32, extractStridedSlice S128x1 ![0, 0] (transpose S128x8 [1, 0] y facts.transposes_S8x128_p1_0_S128x8)
      facts.slices_S128x8_o0_0_S128x1 (ix2 r 0) = y (ix2 0 r) := fun y =>
    (slice2_axis1_apply 0 _ facts.slices_S128x8_o0_0_S128x1 r 0 0 rfl).trans (transpose_ix2_apply y facts.transposes_S8x128_p1_0_S128x8 r 0)
  refine congrArg₂ (fun p q => x (ix2 r j) * p * q) ?_ rfl
  refine Eq.trans ?_ (congrArg (fun q => Ideal.rsqrt (q * Ideal.ofBits .f32 0x39800000#32 + Ideal.ofBits .f32 0x3727C5AC#32)) (e _))
  rfl

end Kernel

end Cert.Qkv.Entries

end
-- ==== Proof.QkvRef.lean ====
/-
  The reference query, key and value projection's norm and quantiser at one index, at the ideal instance.

  `ref_weighted`: the normalised, weighted rows, a row over its root mean square times the weight. `ref_scale`, `ref_codes`: the scales and the
  codes are Quant.lean's at the row's greatest magnitude.
-/
module

public import proofs.«01_k».proof.Proof.OprojQuant
public import proofs.«01_k».proof.Proof.Gen.QkvRefIdeal.Value

@[expose] public section

set_option maxRecDepth 16384

noncomputable section

open Idealize.ShloMosaic Idealize.ShloMosaic.ValueIdx
open scoped BigOperators

namespace Cert.Qkv.Entries

section Reference

open Cert.QkvRefIdeal Cert.QkvRefIdeal.Gen

variable (a0 : Vec Ideal S1024x4096 .bf16) (a1 : Vec Ideal S1x4096 .bf16)

/-- The reference's inverse root mean square from the rows' sums of squares. -/
abbrev refRms (s : FVec Ideal S1024x1 .f32) : FVec Ideal S1024x1 .f32 :=
  rsqrt (addf (divf s (broadcast S1024x1 (Scalar.ofBits .f32 0x45800000#32))) (broadcast S1024x1 (Scalar.ofBits .f32 0x3727C5AC#32)))

theorem refRms_at (s : FVec Ideal S1024x1 .f32) (i : S1024x1.Idx) :
    refRms s i = Ideal.rsqrt (Ideal.div (s i) (Ideal.ofBits .f32 0x45800000#32) + Ideal.ofBits .f32 0x3727C5AC#32) := rfl

/-- The reference's normalised, weighted rows. -/
theorem ref_weighted (r : Fin 1024) (j : Fin 4096) :
    k0_pay1 a0 a1 (ix2 r j) = Cert.Oproj.Entries.rmsNorm (fun k => a0 (ix2 r k)) j (a1 (ix2 0 j)) := by
  unfold k0_pay1
  have e : ∀ (p q s : FVec Ideal S1024x4096 .f32), mulf (mulf p q) s (ix2 r j) = p (ix2 r j) * q (ix2 r j) * s (ix2 r j) := fun _ _ _ => rfl
  refine (e _ _ _).trans ?_
  rw [Row.brow_apply, Row.bcol_apply]
  refine congrArg₂ (fun p q => a0 (ix2 r j) * p * q) ?_ rfl
  refine (refRms_at _ _).trans ?_
  rw [Cert.Oproj.Entries.mean_eq]
  exact congrArg (fun q => Ideal.rsqrt (q * Ideal.ofBits .f32 0x39800000#32 + Ideal.ofBits .f32 0x3727C5AC#32))
    (Row.rowsum_eq (mulf (extf .f32 a0 facts.bitsLt_bf16_f32 : FVec Ideal S1024x4096 .f32) (extf .f32 a0 facts.bitsLt_bf16_f32)) _ _ _ _ r 0)

/-- The reference's row maximum. -/
abbrev refMax (r : Fin 1024) : EReal :=
  shapeCast S1024x1 (multiReduction .maximumf [1] S1024 (absf (k0_pay1 a0 a1)) 0xFF800000#32 facts.reduces_S1024x4096_S1024 (.inl rfl) rfl)
    facts.shapeCasts_S1024_S1024x1 (ix2 r 0)

theorem refMax_le (r : Fin 1024) (x : EReal) : refMax a0 a1 r ≤ x ↔ ∀ j : Fin 4096, Row.ab (k0_pay1 a0 a1 (ix2 r j)) ≤ x :=
  Row.rowmax_le (absf (k0_pay1 a0 a1)) _ _ _ _ r 0 x

theorem refMax_nonneg (r : Fin 1024) : 0 ≤ refMax a0 a1 r :=
  (Row.ab_nonneg _).trans ((refMax_le a0 a1 r _).mp le_rfl 0)

/-- The number whose exponent is counted. -/
def refScaled : FVec Ideal S1024x1 .f32 :=
  mulf (shapeCast S1024x1 (multiReduction .maximumf [1] S1024 (absf (k0_pay1 a0 a1)) 0xFF800000#32 facts.reduces_S1024x4096_S1024 (.inl rfl) rfl)
    facts.shapeCasts_S1024_S1024x1) (broadcast S1024x1 (Scalar.ofBits .f32 0x3B124925#32))

theorem refScaled_apply (r : Fin 1024) : refScaled a0 a1 (ix2 r 0) = refMax a0 a1 r * Ideal.ofBits .f32 0x3B124925#32 := by
  unfold refScaled
  exact Row.mulf_at _ _ _

/-- The reference's exponents. -/
theorem ref_exponent (r : Fin 1024) : k0_pay2 a0 a1 (ix2 r 0) = Quant.rExp (refMax a0 a1 r * Ideal.ofBits .f32 0x3B124925#32) := by
  have e : k0_pay2 a0 a1 = Row.refExpVec (refScaled a0 a1)
        (Row.refMask (refScaled a0 a1) facts.broadcasts_S1024x1_S1024x256 facts.iota_S1024x256_d1_w32)
        facts.reduces_S1024x256_S1024 facts.shapeCasts_S1024_S1024x1 := by
    unfold k0_pay2
    dsimp only
    have h : refScaled a0 a1 = mulf (shapeCast S1024x1 (multiReduction .maximumf [1] S1024 (absf (k0_pay1 a0 a1)) 0xFF800000#32 facts.reduces_S1024x4096_S1024 (.inl rfl) rfl)
        facts.shapeCasts_S1024_S1024x1) (broadcast S1024x1 (Scalar.ofBits .f32 0x3B124925#32)) := by
      unfold refScaled; rfl
    rw [← h]
  rw [e, Row.refExpVec_at, refScaled_apply]

/-- The reference's scales as a column. -/
abbrev refScale : FVec Ideal S1024x1 .f32 := k0_pay3 (k0_pay2 a0 a1) (Scalar.ofBits .f32 0x42FE0000#32)

/-- The reference's codes as rows. -/
abbrev refCodes : FVec Ideal S1024x4096 .fp8e4m3 := k0_pay4 (k0_pay1 a0 a1) (k0_pay2 a0 a1)

/-- The reference's scale of a row. -/
theorem ref_scale (r : Fin 1024) : refScale a0 a1 (ix2 r 0) = Quant.rScale (refMax a0 a1 r * Ideal.ofBits .f32 0x3B124925#32) := by
  have e : ∀ x : FVec Ideal S1024x1 .f32, k0_pay3 x (Scalar.ofBits .f32 0x42FE0000#32) = Row.refScaleVec x := fun _ => rfl
  unfold refScale
  rw [e, Row.refScaleVec_at, ref_exponent]
  rfl

/-- The reference's codes. -/
theorem ref_codes (r : Fin 1024) (j : Fin 4096) : refCodes a0 a1 (ix2 r j)
    = Codes.clip (k0_pay1 a0 a1 (ix2 r j) * Quant.rInv (refMax a0 a1 r * Ideal.ofBits .f32 0x3B124925#32)) := by
  have e : ∀ (w : FVec Ideal S1024x4096 .f32) (x : FVec Ideal S1024x1 .f32),
      k0_pay4 w x = Codes.codeVec w (Codes.refInvVec x) facts.broadcasts_S1024x1_S1024x4096 facts.bitsLt_fp8e4m3_f32 := fun _ _ => rfl
  unfold refCodes
  rw [e, Codes.codeVec_at, Codes.refInvVec_at, ref_exponent]
  rfl

end Reference

end Cert.Qkv.Entries

end
-- ==== Proof.QkvQuant.lean ====
/-
  The query, key and value projection's quantiser, at the ideal instance.

  `scale_apply`, `codes_apply`: the kernel's scales and codes of 128 rows are Quant.lean's at the row's greatest magnitude. `scaleAll_eq`,
  `codesAll_eq`: over all the rows they are the reference's.
-/
module

public import proofs.«01_k».proof.Proof.QkvEntries
public import proofs.«01_k».proof.Proof.QkvRef

@[expose] public section

set_option maxRecDepth 16384

noncomputable section

open Idealize.ShloMosaic Idealize.ShloMosaic.ValueIdx
open scoped BigOperators

namespace Cert.Qkv.Entries

section Kernel

open Cert.QkvIdeal Cert.QkvIdeal.Gen Cert.QkvIdeal.Hand

variable (v : Vec Ideal S128x4096 .bf16) (g : Vec Ideal S1x4096 .bf16)

/-! ## The quantiser -/

/-- The kernel's row maximum at most `x`: every entry of the row is, in absolute value. -/
theorem rowmax (r : Fin 128) (x : EReal) : rowMax (F := Ideal) v g (ix2 r 0) ≤ x ↔ ∀ j : Fin 4096, Row.ab (weighted (F := Ideal) v g (ix2 r j)) ≤ x := by
  unfold rowMax weighted
  exact Row.rowmax_le (absf (k0_pay62 (k0_pay1 (F := Ideal) g) (k0_pay13 v) (part47 v) (part48 v) (part49 v) (part50 v) (part51 v) (part52 v) (part53 v) (part54 v) (part55 v) (part56 v) (part57 v) (part58 v) (part59 v) (part60 v) (part61 v))) _ _ _ _ r 0 x

/-- The number whose exponent is found: the row maximum over 448. -/
theorem scaled_apply (i : S128x1.Idx) : scaled (F := Ideal) v g i = rowMax (F := Ideal) v g i * Ideal.ofBits .f32 0x3B124925#32 := by
  unfold scaled rowMax k0_pay64
  exact Row.mulf_at _ _ _

theorem first_eq : first (F := Ideal) v g = Row.vstep (scaled (F := Ideal) v g) (broadcast S128x1 0#32) 128#32 := by
  unfold first scaled k0_pay65
  generalize k0_pay64 (F := Ideal) _ _ _ _ _ _ _ _ _ _ _ _ _ _ _ _ _ = t
  rfl

theorem second_eq : second (F := Ideal) v g = addi (first (F := Ideal) v g) (broadcast S128x1 64#32) := by
  unfold second first k0_pay66
  rfl

/-- The exponent from a found field, on vectors. -/
def expoVec (a : FVec Ideal S128x1 .f32) (f : IVec S128x1 32) : IVec S128x1 32 :=
  select (ori (ori (cmpi .eq f (broadcast S128x1 0#32)) (cmpi .eq f (broadcast S128x1 255#32))) (cmpf .oeq a (broadcast S128x1 (Scalar.ofBits .f32 0x00000000#32))))
    (broadcast S128x1 0#32) (subi f (broadcast S128x1 126#32))

theorem pay67_eq (t : FVec Ideal S128x1 .f32) (f : IVec S128x1 32) : k0_pay67 t f (addi f (broadcast S128x1 64#32))
    = Row.vstep t (Row.vstep t (Row.vstep t (Row.vstep t (Row.vstep t f 64#32) 32#32) 16#32) 8#32) 4#32 := by
  unfold k0_pay67 Row.vstep
  rfl

theorem pay69_eq (a t : FVec Ideal S128x1 .f32) (f : IVec S128x1 32) : k0_pay69 a t f (addi f (broadcast S128x1 2#32))
    = expoVec a (Row.vstep t (Row.vstep t f 2#32) 1#32) := by
  unfold k0_pay69 Row.vstep expoVec
  rfl

/-- The exponents that are chosen. -/
theorem expo_eq : k0_pay69 (rowMax (F := Ideal) v g) (scaled (F := Ideal) v g) (third v g) (fourth v g)
    = expoVec (rowMax (F := Ideal) v g) (Row.vstep (scaled (F := Ideal) v g) (Row.vstep (scaled (F := Ideal) v g) (Row.vstep (scaled (F := Ideal) v g)
        (Row.vstep (scaled (F := Ideal) v g) (Row.vstep (scaled (F := Ideal) v g) (Row.vstep (scaled (F := Ideal) v g) (Row.vstep (scaled (F := Ideal) v g)
        (Row.vstep (scaled (F := Ideal) v g) (broadcast S128x1 0#32) 128#32) 64#32) 32#32) 16#32) 8#32) 4#32) 2#32) 1#32) := by
  have h4 : fourth (F := Ideal) v g = addi (third (F := Ideal) v g) (broadcast S128x1 2#32) := by
    unfold fourth third k0_pay68
    rfl
  rw [h4, pay69_eq]
  unfold third
  rw [second_eq, pay67_eq, first_eq]

theorem expoVec_apply (a : FVec Ideal S128x1 .f32) (f : IVec S128x1 32) (i : S128x1.Idx) : expoVec a f i = Quant.expOf (f i) (a i) := by
  unfold expoVec Quant.expOf
  rfl

theorem expo_apply (i : S128x1.Idx) : k0_pay69 (rowMax (F := Ideal) v g) (scaled (F := Ideal) v g) (third v g) (fourth v g) i
    = Quant.expOf (Quant.field (scaled (F := Ideal) v g i)) (rowMax (F := Ideal) v g i) := by
  rw [expo_eq, expoVec_apply, ← Row.vfield_at]

theorem pay70_eq (a t : FVec Ideal S128x1 .f32) (f o : IVec S128x1 32) :
    k0_pay70 a t f o = Codes.pow2Vec (addi (k0_pay69 a t f o) (broadcast S128x1 127#32)) := by
  unfold k0_pay70
  generalize k0_pay69 a t f o = w
  rfl

theorem pay2_eq (x : FVec Ideal S128x4096 .f32) (e : IVec S128x1 32) :
    k0_pay2 x e = Codes.codeVec x (Codes.pow2Vec (addi e (broadcast S128x1 127#32))) facts.broadcasts_S128x1_S128x4096 facts.bitsLt_fp8e4m3_f32 := by
  unfold k0_pay2
  rfl

/-- The kernel's row maximum. -/
abbrev amax (r : Fin 128) : EReal := rowMax (F := Ideal) v g (ix2 r 0)

/-- The kernel's scale of a row. -/
theorem scale_apply (r : Fin 128) : scaleBlk (F := Ideal) v g (ix2 r 0)
    = Quant.kScale (amax v g r * Ideal.ofBits .f32 0x3B124925#32) (amax v g r) := by
  unfold scaleBlk
  rw [pay70_eq, Codes.pow2Vec_at, expo_apply, scaled_apply]
  rfl

/-- The kernel's codes. -/
theorem codes_apply (r : Fin 128) (j : Fin 4096) : codesBlk (F := Ideal) v g (ix2 r j)
    = Codes.clip (weighted (F := Ideal) v g (ix2 r j) * Quant.kInv (amax v g r * Ideal.ofBits .f32 0x3B124925#32) (amax v g r)) := by
  unfold codesBlk
  rw [pay2_eq, Codes.codeVec_at, Codes.pow2Vec_at]
  refine congrArg (fun e => Codes.clip (weighted (F := Ideal) v g (ix2 r j) * Quant.pow2 e)) ?_
  have e : ∀ (a t : FVec Ideal S128x1 .f32) (f o : IVec S128x1 32), k0_pay71 a t f o (ix2 r 0) = IntOp.subi 0#32 (k0_pay69 a t f o (ix2 r 0)) := fun _ _ _ _ => rfl
  rw [e, expo_apply, scaled_apply]

end Kernel

/-! ## The two quantisers -/

section Both

variable (x : Vec Ideal Cert.QkvIdeal.S1024x4096 .bf16) (g : Vec Ideal Cert.QkvIdeal.S1x4096 .bf16)

open Cert.QkvIdeal.Hand

/-- Row `r` of the argument is row `r % 128` of the group of 128 that holds it. -/
theorem rowsOf_apply (r : Fin 1024) (j : Fin 4096) :
    rowsOf (F := Ideal) x (r.val / 128) (ix2 ⟨r.val % 128, Nat.mod_lt _ (by norm_num)⟩ j) = x (ix2 r j) := by
  unfold rowsOf
  refine congrArg x ?_
  funext a; apply Fin.ext
  match a with
  | ⟨0, _⟩ => show (128 * (r.val / 128) + r.val % 128) % 1024 = r.val; omega
  | ⟨1, _⟩ => rfl

theorem weighted_row (r : Fin 1024) (j : Fin 4096) :
    weighted (F := Ideal) (rowsOf x (r.val / 128)) g (ix2 ⟨r.val % 128, Nat.mod_lt _ (by norm_num)⟩ j) = Cert.QkvRefIdeal.Gen.k0_pay1 (F := Ideal) x g (ix2 r j) := by
  rw [weighted_apply]
  refine Eq.trans ?_ (ref_weighted x g r j).symm
  rw [show (fun k => rowsOf (F := Ideal) x (r.val / 128) (ix2 ⟨r.val % 128, Nat.mod_lt _ (by norm_num)⟩ k)) = _ from funext fun k => rowsOf_apply x r k]

theorem amax_row (r : Fin 1024) : amax (rowsOf (F := Ideal) x (r.val / 128)) g ⟨r.val % 128, Nat.mod_lt _ (by norm_num)⟩ = refMax x g r := by
  refine eq_of_forall_ge_iff fun y => ?_
  rw [refMax_le]
  refine (rowmax _ _ _ _).trans (forall_congr' fun j => ?_)
  rw [← weighted_row]

/-- The scales are the reference's. -/
theorem scaleAll_eq : scaleAll (F := Ideal) x g = refScale x g := by
  funext i
  obtain ⟨r, z, rfl⟩ : ∃ (r : Fin 1024) (z : Fin 1), i = ix2 r z := ⟨i 0, i 1, (eq_ix2 i)⟩
  obtain rfl : z = 0 := Subsingleton.elim _ _
  refine (scale_apply (rowsOf (F := Ideal) x (r.val / 128)) g ⟨r.val % 128, Nat.mod_lt _ (by norm_num)⟩).trans ?_
  rw [amax_row, ref_scale]
  exact Row.scale_row (refMax_nonneg _ _ r)

/-- The codes are the reference's. -/
theorem codesAll_eq : codesAll (F := Ideal) x g = refCodes x g := by
  funext i
  obtain ⟨r, j, rfl⟩ : ∃ (r : Fin 1024) (j : Fin 4096), i = ix2 r j := ⟨i 0, i 1, (eq_ix2 i)⟩
  refine (codes_apply (rowsOf (F := Ideal) x (r.val / 128)) g ⟨r.val % 128, Nat.mod_lt _ (by norm_num)⟩ j).trans ?_
  rw [amax_row, weighted_row, ref_codes]
  rw [Quant.kInv_eq (mul_nonneg (refMax_nonneg _ _ r) Row.recip_nonneg) fun h => by rw [h, zero_mul]]

end Both

end Cert.Qkv.Entries

end
-- ==== Proof.QkvRope.lean ====
/-
  The query, key and value projection's outputs at one index, at the ideal instance.

  A column of the projection is a sum of products times the row's scale times the column's (`lin`). A query or a key is rotated with the column 64 lanes
  away in its head: the kernel rotates lanes and multiplies by the sine (`qTile_apply`, `kTile_apply`); the reference changes the sign of the half that
  moves and of the same half of the sines (`rope3_apply`, `sines_apply`). Values are not rotated (`vTile_apply`).
-/
module

public import proofs.«01_k».proof.Proof.QkvBody
public import proofs.«01_k».proof.Proof.RowTree
public import proofs.«01_k».proof.Proof.Gen.QkvRefIdeal.Value

@[expose] public section

set_option maxRecDepth 16384

noncomputable section

open Idealize.ShloMosaic Idealize.ShloMosaic.ValueIdx
open scoped BigOperators

namespace Cert.Qkv.Rope

/-- One entry of a quantised product: codes against weights, times the row's scale, times the column's. -/
def lin {N : ℕ} (x : FVec Ideal ⟨2, ![1024, 4096]⟩ .fp8e4m3) (w : FVec Ideal ⟨2, ![4096, N]⟩ .fp8e4m3) (s : FVec Ideal ⟨2, ![1024, 1]⟩ .f32)
    (p : FVec Ideal ⟨2, ![1, N]⟩ .f32) (r : Fin 1024) (j : Fin N) : EReal :=
  (∑ k : Fin 4096, x (ix2 r k) * w (ix2 k j)) * s (ix2 r 0) * p (ix2 0 j)

theorem lin_apply {N : ℕ} (x : FVec Ideal ⟨2, ![1024, 4096]⟩ .fp8e4m3) (w : FVec Ideal ⟨2, ![4096, N]⟩ .fp8e4m3) (s : FVec Ideal ⟨2, ![1024, 1]⟩ .f32)
    (p : FVec Ideal ⟨2, ![1, N]⟩ .f32) (hs : (⟨2, ![1024, 1]⟩ : Shape).Broadcasts ⟨2, ![1024, N]⟩) (hp : (⟨2, ![1, N]⟩ : Shape).Broadcasts ⟨2, ![1024, N]⟩)
    (r : Fin 1024) (j : Fin N) :
    mulf (mulf (matmul (DotDims.plain 1024 4096 N) none x w (constant ⟨2, ![1024, N]⟩ .f32 0x00000000#32)) (broadcastTo ⟨2, ![1024, N]⟩ s hs))
      (broadcastTo ⟨2, ![1024, N]⟩ p hp) (ix2 r j) = lin x w s p r j := by
  rw [Row.mulf_at, Row.mulf_at, Row.matmul_zero, Row.bcol_apply, Row.brow_apply]
  rfl

/-- The lane of a column in its head. -/
abbrev lane {N : ℕ} (j : Fin N) : Fin 128 := ⟨j.val % 128, Nat.mod_lt _ (by norm_num)⟩

section Kernel

open Cert.QkvIdeal Cert.QkvIdeal.Gen Cert.QkvIdeal.Hand

variable (x : Vec Ideal S1024x4096 .fp8e4m3) (w : Vec Ideal S4096x512 .fp8e4m3) (s : Vec Ideal S1024x1 .f32) (p : Vec Ideal S1x512 .f32)
  (cos sin : Vec Ideal S1024x128 .f32)

theorem pay72_apply (r : Fin 1024) (j : Fin 512) : k0_pay72 x w s p (ix2 r j) = lin x w s p r j := by
  have e : k0_pay72 x w s p = mulf (mulf (matmul (DotDims.plain 1024 4096 512) none (shapeCast S1024x4096 x facts.shapeCasts_S1024x4096_S1024x4096) w
      (constant S1024x512 .f32 0x00000000#32)) (broadcastTo S1024x512 (shapeCast S1024x1 s facts.shapeCasts_S1024x1_S1024x1) facts.broadcasts_S1024x1_S1024x512))
      (broadcastTo S1024x512 p facts.broadcasts_S1x512_S1024x512) := rfl
  rw [e, lin_apply]
  have h1 : shapeCast S1024x4096 x facts.shapeCasts_S1024x4096_S1024x4096 = x := funext fun i => shapeCast_apply x _ i i rfl
  have h2 : shapeCast S1024x1 s facts.shapeCasts_S1024x1_S1024x1 = s := funext fun i => shapeCast_apply s _ i i rfl
  rw [h1, h2]

theorem pay77_eq : k0_pay77 x w s p = k0_pay72 x w s p := rfl

theorem pay8_eq : k0_pay8 x w s p = k0_pay72 x w s p := rfl

/-- Lanes rotated by half a head. -/
theorem rotate_apply (t : FVec Ideal S1024x128 .f32) (r : Fin 1024) (l : Fin 128) :
    dynamicRotate 1 64#32 none t facts.rotates_S1024x128_d1 (ix2 r l) = t (ix2 r ⟨(l.val + 64) % 128, Nat.mod_lt _ (by norm_num)⟩) := by
  refine dynamicRotate_apply 1 _ t facts.rotates_S1024x128_d1 _ _ fun b => ?_
  match b with
  | ⟨0, _⟩ => rfl
  | ⟨1, _⟩ => show (l.val + 64) % 128 = (l.val + 128 - 64) % 128; omega

/-- One head rotated: 128 columns from `o` on. -/
def head (t : FVec Ideal S1024x512 .f32) (o : ℕ) (h : S1024x512.Slices ![0, o] S1024x128) : FVec Ideal S1024x128 .bf16 :=
  truncf .bf16 (addf (mulf (extractStridedSlice S1024x128 ![0, o] t h) cos)
    (mulf (dynamicRotate 1 64#32 none (extractStridedSlice S1024x128 ![0, o] t h) facts.rotates_S1024x128_d1) sin)) facts.bitsLt_bf16_f32

theorem head_apply (t : FVec Ideal S1024x512 .f32) (o : ℕ) (h : S1024x512.Slices ![0, o] S1024x128) (r : Fin 1024) (l : Fin 128) (j j' : Fin 512)
    (hj : j.val = o + l.val) (hj' : j'.val = o + (l.val + 64) % 128) :
    head cos sin t o h (ix2 r l) = t (ix2 r j) * cos (ix2 r l) + t (ix2 r j') * sin (ix2 r l) := by
  have e : head cos sin t o h (ix2 r l) = extractStridedSlice S1024x128 ![0, o] t h (ix2 r l) * cos (ix2 r l)
      + dynamicRotate 1 64#32 none (extractStridedSlice S1024x128 ![0, o] t h) facts.rotates_S1024x128_d1 (ix2 r l) * sin (ix2 r l) := rfl
  rw [e, rotate_apply, slice2_axis1_apply o t h r l j hj, slice2_axis1_apply o t h r _ j' hj']

theorem heads_apply (t : FVec Ideal S1024x512 .f32) (h0 h1 h2 h3) (r : Fin 1024) (j j' : Fin 512) (hj' : j'.val = 128 * (j.val / 128) + (j.val % 128 + 64) % 128) :
    cat4 (F := Ideal) (head cos sin t 0 h0) (head cos sin t 128 h1) (head cos sin t 256 h2) (head cos sin t 384 h3) (ix2 r j)
      = t (ix2 r j) * cos (ix2 r (lane j)) + t (ix2 r j') * sin (ix2 r (lane j)) := by
  have hj := j.isLt
  unfold cat4
  show (if j.val < 128 then head cos sin t 0 h0 (ix2 r (lane j)) else if j.val < 256 then head cos sin t 128 h1 (ix2 r (lane j))
    else if j.val < 384 then head cos sin t 256 h2 (ix2 r (lane j)) else head cos sin t 384 h3 (ix2 r (lane j))) = _
  by_cases g0 : j.val < 128
  · rw [if_pos g0]; exact head_apply cos sin t 0 h0 r (lane j) j j' (by show j.val = 0 + j.val % 128; omega) (by show j'.val = 0 + (j.val % 128 + 64) % 128; omega)
  rw [if_neg g0]
  by_cases g1 : j.val < 256
  · rw [if_pos g1]; exact head_apply cos sin t 128 h1 r (lane j) j j' (by show j.val = 128 + j.val % 128; omega) (by show j'.val = 128 + (j.val % 128 + 64) % 128; omega)
  rw [if_neg g1]
  by_cases g2 : j.val < 384
  · rw [if_pos g2]; exact head_apply cos sin t 256 h2 r (lane j) j j' (by show j.val = 256 + j.val % 128; omega) (by show j'.val = 256 + (j.val % 128 + 64) % 128; omega)
  rw [if_neg g2]
  exact head_apply cos sin t 384 h3 r (lane j) j j' (by show j.val = 384 + j.val % 128; omega) (by show j'.val = 384 + (j.val % 128 + 64) % 128; omega)

/-- The kernel's queries. -/
theorem qTile_apply (r : Fin 1024) (j j' : Fin 512) (hj' : j'.val = 128 * (j.val / 128) + (j.val % 128 + 64) % 128) :
    qTile (F := Ideal) x w s p cos sin (ix2 r j) = lin x w s p r j * cos (ix2 r (lane j)) + lin x w s p r j' * sin (ix2 r (lane j)) := by
  rw [← pay72_apply, ← pay72_apply, ← heads_apply cos sin (k0_pay72 x w s p) facts.slices_S1024x512_o0_0_S1024x128 facts.slices_S1024x512_o0_128_S1024x128
    facts.slices_S1024x512_o0_256_S1024x128 facts.slices_S1024x512_o0_384_S1024x128 r j j' hj']
  unfold qTile k0_pay73 k0_pay74 k0_pay4 k0_pay75 k0_pay76 k0_pay75 k0_pay5
  generalize k0_pay72 x w s p = t
  rfl

/-- The kernel's keys. -/
theorem kTile_apply (r : Fin 1024) (j j' : Fin 512) (hj' : j'.val = 128 * (j.val / 128) + (j.val % 128 + 64) % 128) :
    kTile (F := Ideal) x w s p cos sin (ix2 r j) = lin x w s p r j * cos (ix2 r (lane j)) + lin x w s p r j' * sin (ix2 r (lane j)) := by
  rw [← pay72_apply, ← pay72_apply, ← heads_apply cos sin (k0_pay72 x w s p) facts.slices_S1024x512_o0_0_S1024x128 facts.slices_S1024x512_o0_128_S1024x128
    facts.slices_S1024x512_o0_256_S1024x128 facts.slices_S1024x512_o0_384_S1024x128 r j j' hj']
  unfold kTile k0_pay78 k0_pay79 k0_pay6 k0_pay80 k0_pay81 k0_pay80 k0_pay7
  rw [pay77_eq]
  generalize k0_pay72 x w s p = t
  rfl

/-- The kernel's values. -/
theorem vTile_apply (r : Fin 1024) (j : Fin 512) : vTile (F := Ideal) x w s p (ix2 r j) = lin x w s p r j := by
  have hj := j.isLt
  rw [← pay72_apply]
  unfold vTile k0_pay9 k0_pay10 k0_pay11 k0_pay12
  rw [pay8_eq]
  generalize k0_pay72 x w s p = t
  have e : ∀ (o : ℕ) (h : S1024x512.Slices ![0, o] S1024x128), j.val = o + j.val % 128 →
      (truncf .bf16 (extractStridedSlice S1024x128 ![0, o] t h : FVec Ideal S1024x128 .f32) facts.bitsLt_bf16_f32 : FVec Ideal S1024x128 .bf16) (ix2 r (lane j))
        = t (ix2 r j) := fun o h ho => slice2_axis1_apply o t h r (lane j) j ho
  unfold cat4
  by_cases g0 : j.val < 128
  · exact (if_pos g0).trans (e 0 _ (by omega))
  by_cases g1 : j.val < 256
  · exact (if_neg g0).trans ((if_pos g1).trans (e 128 _ (by omega)))
  by_cases g2 : j.val < 384
  · exact (if_neg g0).trans ((if_neg g1).trans ((if_pos g2).trans (e 256 _ (by omega))))
  exact (if_neg g0).trans ((if_neg g1).trans ((if_neg g2).trans (e 384 _ (by omega))))

end Kernel

section Reference

/-- The signs of the two moved halves cancel. -/
theorem signs (a b : EReal) : (Ideal.ofBits .f32 0x00000000#32 - a) * (Ideal.ofBits .f32 0x00000000#32 - b) = a * b := by
  rw [Ideal.ofBits_zero_f32, zero_sub, zero_sub, neg_mul_neg]

/-- A rank-two vector with a unit axis put in the middle, broadcast along it. -/
theorem mid_apply {H : ℕ} (x : FVec Ideal ⟨2, ![1024, 128]⟩ .f32) (hs : (⟨2, ![1024, 128]⟩ : Shape).ShapeCasts ⟨3, ![1024, 1, 128]⟩)
    (hb : (⟨3, ![1024, 1, 128]⟩ : Shape).Broadcasts ⟨3, ![1024, H, 128]⟩) (r : Fin 1024) (h : Fin H) (l : Fin 128) :
    broadcastTo ⟨3, ![1024, H, 128]⟩ (shapeCast ⟨3, ![1024, 1, 128]⟩ x hs) hb (ix3 r h l) = x (ix2 r l) := by
  refine (broadcastTo_apply _ hb (ix3 r h l) (ix3 r (0 : Fin 1) l) fun a => ?_).trans ?_
  · match a with
    | ⟨0, _⟩ => rfl
    | ⟨1, _⟩ => rfl
    | ⟨2, _⟩ => rfl
  · refine shapeCast_apply x hs _ _ ?_
    rw [Shape.rowMajor_val_two, Shape.rowMajor_val_three]
    show r.val * 128 + l.val = (r.val * 1 + 0) * 128 + l.val
    omega

/-- The two halves of a head exchanged, the sign of the one that moves down changed. -/
theorem exchange_apply {H : ℕ} (t : FVec Ideal ⟨3, ![1024, H, 128]⟩ .f32) (h1 : (⟨3, ![1024, H, 128]⟩ : Shape).Slices ![0, 0, 64] ⟨3, ![1024, H, 64]⟩)
    (h0 : (⟨3, ![1024, H, 128]⟩ : Shape).Slices ![0, 0, 0] ⟨3, ![1024, H, 64]⟩)
    (hc : Shape.Concatenates [⟨3, ![1024, H, 64]⟩, ⟨3, ![1024, H, 64]⟩] ⟨3, ![1024, H, 128]⟩ 2) (r : Fin 1024) (h : Fin H) (l l' : Fin 128) (hl : l'.val = (l.val + 64) % 128) :
    concatenate ⟨3, ![1024, H, 128]⟩ 2 [⟨⟨3, ![1024, H, 64]⟩, subf (broadcast ⟨3, ![1024, H, 64]⟩ (Scalar.ofBits .f32 0x00000000#32)) (extractStridedSlice ⟨3, ![1024, H, 64]⟩ ![0, 0, 64] t h1)⟩,
      ⟨⟨3, ![1024, H, 64]⟩, extractStridedSlice ⟨3, ![1024, H, 64]⟩ ![0, 0, 0] t h0⟩] hc (ix3 r h l)
      = if l.val < 64 then Ideal.ofBits .f32 0x00000000#32 - t (ix3 r h l') else t (ix3 r h l') := by
  have hl128 := l.isLt
  by_cases g : l.val < 64
  · rw [if_pos g]
    refine (concatenate_pair_apply_left (t := ⟨3, ![1024, H, 128]⟩) (2 : Fin 3) _ _ hc (ix3 r h l) rfl (ix3 r h ⟨l.val, g⟩) fun b => ?_).trans ?_
    · match b with
      | ⟨0, _⟩ => rfl
      | ⟨1, _⟩ => rfl
      | ⟨2, _⟩ => rfl
    · refine congrArg (fun q => Ideal.ofBits .f32 0x00000000#32 - q) ?_
      refine extractStridedSlice_apply _ t h1 _ _ fun a => ?_
      match a with
      | ⟨0, _⟩ => show r.val = 0 + r.val; omega
      | ⟨1, _⟩ => show h.val = 0 + h.val; omega
      | ⟨2, _⟩ => show l'.val = 64 + l.val; omega
  · rw [if_neg g]
    refine (concatenate_pair_apply_right (t := ⟨3, ![1024, H, 128]⟩) (2 : Fin 3) _ _ hc (ix3 r h l) rfl rfl (ix3 r h ⟨l.val - 64, by omega⟩) (fun b hb => ?_) ?_).trans ?_
    · match b with
      | ⟨0, _⟩ => rfl
      | ⟨1, _⟩ => rfl
      | ⟨2, _⟩ => exact absurd rfl hb
    · show l.val - 64 + 64 = l.val
      omega
    · refine extractStridedSlice_apply _ t h0 _ _ fun a => ?_
      match a with
      | ⟨0, _⟩ => show r.val = 0 + r.val; omega
      | ⟨1, _⟩ => show h.val = 0 + h.val; omega
      | ⟨2, _⟩ => show l'.val = 0 + (l.val - 64); omega

/-- The reference's rotation of `H` heads. -/
abbrev rope3 {H : ℕ} (t : FVec Ideal ⟨3, ![1024, H, 128]⟩ .f32) (cos sg : FVec Ideal ⟨2, ![1024, 128]⟩ .f32)
    (h1 : (⟨3, ![1024, H, 128]⟩ : Shape).Slices ![0, 0, 64] ⟨3, ![1024, H, 64]⟩)
    (h0 : (⟨3, ![1024, H, 128]⟩ : Shape).Slices ![0, 0, 0] ⟨3, ![1024, H, 64]⟩)
    (hc : Shape.Concatenates [⟨3, ![1024, H, 64]⟩, ⟨3, ![1024, H, 64]⟩] ⟨3, ![1024, H, 128]⟩ 2)
    (hs : (⟨2, ![1024, 128]⟩ : Shape).ShapeCasts ⟨3, ![1024, 1, 128]⟩) (hb : (⟨3, ![1024, 1, 128]⟩ : Shape).Broadcasts ⟨3, ![1024, H, 128]⟩) :
    FVec Ideal ⟨3, ![1024, H, 128]⟩ .f32 :=
  addf (mulf t (broadcastTo ⟨3, ![1024, H, 128]⟩ (shapeCast ⟨3, ![1024, 1, 128]⟩ cos hs) hb))
    (mulf (concatenate ⟨3, ![1024, H, 128]⟩ 2 [⟨⟨3, ![1024, H, 64]⟩, subf (broadcast ⟨3, ![1024, H, 64]⟩ (Scalar.ofBits .f32 0x00000000#32)) (extractStridedSlice ⟨3, ![1024, H, 64]⟩ ![0, 0, 64] t h1)⟩,
      ⟨⟨3, ![1024, H, 64]⟩, extractStridedSlice ⟨3, ![1024, H, 64]⟩ ![0, 0, 0] t h0⟩] hc)
      (broadcastTo ⟨3, ![1024, H, 128]⟩ (shapeCast ⟨3, ![1024, 1, 128]⟩ sg hs) hb))

/-- It is the kernel's, where the sines' lower half has its sign changed. -/
theorem rope3_apply {H : ℕ} (t : FVec Ideal ⟨3, ![1024, H, 128]⟩ .f32) (cos sg sin : FVec Ideal ⟨2, ![1024, 128]⟩ .f32) (h1 h0 hc hs hb)
    (r : Fin 1024) (h : Fin H) (l l' : Fin 128) (hl : l'.val = (l.val + 64) % 128)
    (hsg : sg (ix2 r l) = if l.val < 64 then Ideal.ofBits .f32 0x00000000#32 - sin (ix2 r l) else sin (ix2 r l)) :
    rope3 t cos sg h1 h0 hc hs hb (ix3 r h l) = t (ix3 r h l) * cos (ix2 r l) + t (ix3 r h l') * sin (ix2 r l) := by
  have e : ∀ a b c d : FVec Ideal ⟨3, ![1024, H, 128]⟩ .f32, addf (mulf a b) (mulf c d) (ix3 r h l) = a (ix3 r h l) * b (ix3 r h l) + c (ix3 r h l) * d (ix3 r h l) :=
    fun _ _ _ _ => rfl
  refine (e _ _ _ _).trans ?_
  rw [mid_apply, mid_apply, exchange_apply t h1 h0 hc r h l l' hl, hsg]
  by_cases g : l.val < 64
  · rw [if_pos g, if_pos g, signs]
  · rw [if_neg g, if_neg g]

open Cert.QkvRefIdeal Cert.QkvRefIdeal.Gen

/-- The reference's sines: the lower half with its sign changed. -/
theorem sines_apply (sin : Vec Ideal S1024x128 .f32) (u v : Vec Ideal S1024x64 .f32)
    (hu : ∀ (r : Fin 1024) (l : Fin 64), u (ix2 r l) = sin (ix2 r ⟨l.val, by omega⟩)) (hv : ∀ (r : Fin 1024) (l : Fin 64), v (ix2 r l) = sin (ix2 r ⟨64 + l.val, by omega⟩))
    (r : Fin 1024) (l : Fin 128) :
    k0_pay5 u v (ix2 r l) = if l.val < 64 then Ideal.ofBits .f32 0x00000000#32 - sin (ix2 r l) else sin (ix2 r l) := by
  have hl := l.isLt
  unfold k0_pay5
  by_cases g : l.val < 64
  · rw [if_pos g]
    refine (concatenate_pair_apply_left (t := S1024x128) (1 : Fin 2) _ _ facts.concatenates_S1024x64_S1024x64_S1024x128_d1 (ix2 r l) rfl (ix2 r ⟨l.val, g⟩) fun b => ?_).trans ?_
    · match b with
      | ⟨0, _⟩ => rfl
      | ⟨1, _⟩ => rfl
    · exact congrArg (fun q => Ideal.ofBits .f32 0x00000000#32 - q) (hu r ⟨l.val, g⟩)
  · rw [if_neg g]
    refine (concatenate_pair_apply_right (t := S1024x128) (1 : Fin 2) _ _ facts.concatenates_S1024x64_S1024x64_S1024x128_d1 (ix2 r l) rfl rfl (ix2 r ⟨l.val - 64, by omega⟩) (fun b hb => ?_) ?_).trans ?_
    · match b with
      | ⟨0, _⟩ => rfl
      | ⟨1, _⟩ => exact absurd rfl hb
    · show l.val - 64 + 64 = l.val
      omega
    · refine (hv r ⟨l.val - 64, by omega⟩).trans (congrArg (fun q => sin (ix2 r q)) (Fin.ext ?_))
      show 64 + (l.val - 64) = l.val
      omega

/-- The heads of a rank-two vector. -/
theorem split_apply {H N : ℕ} (hN : N = 128 * H) (t : FVec Ideal ⟨2, ![1024, N]⟩ .f32) (hs : (⟨2, ![1024, N]⟩ : Shape).ShapeCasts ⟨3, ![1024, H, 128]⟩)
    (r : Fin 1024) (h : Fin H) (l : Fin 128) (j : Fin N) (hj : j.val = 128 * h.val + l.val) :
    shapeCast ⟨3, ![1024, H, 128]⟩ t hs (ix3 r h l) = t (ix2 r j) := by
  refine shapeCast_apply t hs _ _ ?_
  rw [Shape.rowMajor_val_two, Shape.rowMajor_val_three]
  show r.val * N + j.val = (r.val * H + h.val) * 128 + l.val
  subst hN
  rw [hj]
  ring

/-- And back. -/
theorem join_apply {H N : ℕ} (hN : N = 128 * H) (t : FVec Ideal ⟨3, ![1024, H, 128]⟩ .f32) (hs : (⟨3, ![1024, H, 128]⟩ : Shape).ShapeCasts ⟨2, ![1024, N]⟩)
    (r : Fin 1024) (h : Fin H) (l : Fin 128) (j : Fin N) (hj : j.val = 128 * h.val + l.val) :
    shapeCast ⟨2, ![1024, N]⟩ t hs (ix2 r j) = t (ix3 r h l) := by
  refine shapeCast_apply t hs _ _ ?_
  rw [Shape.rowMajor_val_two, Shape.rowMajor_val_three]
  show (r.val * H + h.val) * 128 + l.val = r.val * N + j.val
  subst hN
  rw [hj]
  ring

/-- The reference's rotated columns. -/
theorem roped_apply {H N : ℕ} (hN : N = 128 * H) (t : FVec Ideal ⟨2, ![1024, N]⟩ .f32) (cos sg sin : FVec Ideal ⟨2, ![1024, 128]⟩ .f32)
    (hs2 : (⟨2, ![1024, N]⟩ : Shape).ShapeCasts ⟨3, ![1024, H, 128]⟩) (hs3 : (⟨3, ![1024, H, 128]⟩ : Shape).ShapeCasts ⟨2, ![1024, N]⟩) (h1 h0 hc hs hb)
    (hsg : ∀ (r : Fin 1024) (l : Fin 128), sg (ix2 r l) = if l.val < 64 then Ideal.ofBits .f32 0x00000000#32 - sin (ix2 r l) else sin (ix2 r l))
    (r : Fin 1024) (j j' : Fin N) (hj' : j'.val = 128 * (j.val / 128) + (j.val % 128 + 64) % 128) :
    shapeCast ⟨2, ![1024, N]⟩ (rope3 (shapeCast ⟨3, ![1024, H, 128]⟩ t hs2) cos sg h1 h0 hc hs hb) hs3 (ix2 r j)
      = t (ix2 r j) * cos (ix2 r (lane j)) + t (ix2 r j') * sin (ix2 r (lane j)) := by
  have hj := j.isLt
  have hH : j.val / 128 < H := by omega
  have e : j.val = 128 * (j.val / 128) + j.val % 128 := by omega
  rw [join_apply hN _ hs3 r ⟨j.val / 128, hH⟩ (lane j) j e,
    rope3_apply _ cos sg sin h1 h0 hc hs hb r ⟨j.val / 128, hH⟩ (lane j) ⟨(j.val % 128 + 64) % 128, Nat.mod_lt _ (by norm_num)⟩ rfl (hsg r (lane j)),
    split_apply hN t hs2 r ⟨j.val / 128, hH⟩ (lane j) j e,
    split_apply hN t hs2 r ⟨j.val / 128, hH⟩ ⟨(j.val % 128 + 64) % 128, Nat.mod_lt _ (by norm_num)⟩ j' hj']

end Reference

end Cert.Qkv.Rope

end
-- ==== Proof.QkvRefOut.lean ====
/-
  The reference query, key and value projection's four results at one index, at the ideal instance.

  `codes_eq`, `scales_eq`, `packed_apply`: the codes, the scales and the packed scales. `query_apply`, `key_apply`, `value_apply`: the projection's
  columns, a query's or a key's rotated with the column 64 lanes away in its head.
-/
module

public import proofs.«01_k».proof.Proof.QkvRef
public import proofs.«01_k».proof.Proof.QkvRope

@[expose] public section

set_option maxRecDepth 16384

noncomputable section

open Idealize.ShloMosaic Idealize.ShloMosaic.ValueIdx
open scoped BigOperators

namespace Cert.Qkv.Out

open Cert.QkvRefIdeal Cert.QkvRefIdeal.Gen Cert.QkvRefIdeal.Value

open Cert.Qkv.Entries (refScale refCodes)

open Cert.Qkv.Rope

variable (a0 : Vec Ideal S1024x4096 .bf16) (a1 : Vec Ideal S1x4096 .bf16) (a2 : Vec Ideal S4096x2048 .fp8e4m3) (a3 : Vec Ideal S4096x512 .fp8e4m3) (a4 : Vec Ideal S4096x512 .fp8e4m3) (a5 : Vec Ideal S1x2048 .f32) (a6 : Vec Ideal S1x512 .f32) (a7 : Vec Ideal S1x512 .f32) (a8 : Vec Ideal S1024x128 .f32) (a9 : Vec Ideal S1024x128 .f32)

/-- The normalised rows, with the loads read. -/
theorem pay11_eq : k0_pay11 a0 a1 a2 a3 a4 a5 a6 a7 a8 a9 = k0_pay1 (F := Ideal) a0 a1 := by
  unfold k0_pay11
  rw [View.ld_unit_zero (S := S1024x4096) hz0 _ a0, View.ld_unit_zero (S := S1x4096) hz1 _ a1]

/-- The exponents, with the loads read. -/
theorem pay12_eq : k0_pay12 a0 a1 a2 a3 a4 a5 a6 a7 a8 a9 = k0_pay2 (F := Ideal) a0 a1 := by
  unfold k0_pay12
  rw [View.ld_unit_zero (S := S1024x4096) hz0 _ a0, View.ld_unit_zero (S := S1x4096) hz1 _ a1]

theorem pay13_eq : k0_pay13 a0 a1 a2 a3 a4 a5 a6 a7 a8 a9 = refScale a0 a1 := by
  unfold k0_pay13 refScale
  rw [pay12_eq]

theorem pay14_eq : k0_pay14 a0 a1 a2 a3 a4 a5 a6 a7 a8 a9 = refCodes a0 a1 := by
  unfold k0_pay14 refCodes
  rw [pay11_eq, pay12_eq]

/-- The codes. -/
theorem codes_eq : G10 a0 a1 a2 a3 a4 a5 a6 a7 a8 a9 = refCodes a0 a1 := by
  unfold G10
  exact pay14_eq a0 a1 a2 a3 a4 a5 a6 a7 a8 a9

/-- The scales. -/
theorem scales_eq : G11 a0 a1 a2 a3 a4 a5 a6 a7 a8 a9 = refScale a0 a1 := by
  unfold G11
  exact pay13_eq a0 a1 a2 a3 a4 a5 a6 a7 a8 a9

/-- A column packed as eight rows of 128. -/
theorem pay9_apply (s : FVec Ideal S1024x1 .f32) (y : Fin 8) (l : Fin 128) : k0_pay9 s (ix2 y l) = s (ix2 ⟨128 * y.val + l.val, by omega⟩ 0) := by
  unfold k0_pay9
  refine shapeCast_apply s facts.shapeCasts_S1024x1_S8x128 (ix2 y l) (ix2 ⟨128 * y.val + l.val, by omega⟩ 0) ?_
  rw [Shape.rowMajor_val_two, Shape.rowMajor_val_two]
  show (128 * y.val + l.val) * 1 + 0 = y.val * 128 + l.val
  omega

/-- The packed scales. -/
theorem packed_apply (y : Fin 8) (l : Fin 128) : G12 a0 a1 a2 a3 a4 a5 a6 a7 a8 a9 (ix2 y l) = refScale a0 a1 (ix2 ⟨128 * y.val + l.val, by omega⟩ 0) := by
  unfold G12
  rw [pay13_eq]
  exact pay9_apply _ y l

/-- The sines with the lower half's sign changed. -/
abbrev sines : FVec Ideal S1024x128 .f32 := k0_pay5 (View.ld a9 r0_3) (View.ld a9 r0_4)

theorem sines_at (r : Fin 1024) (l : Fin 128) :
    sines a9 (ix2 r l) = if l.val < 64 then Ideal.ofBits .f32 0x00000000#32 - a9 (ix2 r l) else a9 (ix2 r l) := by
  refine sines_apply a9 _ _ (fun r l => ?_) (fun r l => ?_) r l
  · refine (congrFun (View.ld_unit a9 ![0, 0] S1024x64.size _) (ix2 r l)).trans (extractStridedSlice_apply _ a9 _ _ _ fun a => ?_)
    match a with
    | ⟨0, _⟩ => show r.val = 0 + r.val; omega
    | ⟨1, _⟩ => show l.val = 0 + l.val; omega
  · refine (congrFun (View.ld_unit a9 ![0, 64] S1024x64.size _) (ix2 r l)).trans (extractStridedSlice_apply _ a9 _ _ _ fun a => ?_)
    match a with
    | ⟨0, _⟩ => show r.val = 0 + r.val; omega
    | ⟨1, _⟩ => show 64 + l.val = 64 + l.val; rfl

/-- A quantised product of `N` columns. -/
abbrev prod {N : ℕ} (x : FVec Ideal ⟨2, ![1024, 4096]⟩ .fp8e4m3) (w : FVec Ideal ⟨2, ![4096, N]⟩ .fp8e4m3) (s : FVec Ideal ⟨2, ![1024, 1]⟩ .f32)
    (p : FVec Ideal ⟨2, ![1, N]⟩ .f32) (hs : (⟨2, ![1024, 1]⟩ : Shape).Broadcasts ⟨2, ![1024, N]⟩) (hp : (⟨2, ![1, N]⟩ : Shape).Broadcasts ⟨2, ![1024, N]⟩) :
    FVec Ideal ⟨2, ![1024, N]⟩ .f32 :=
  mulf (mulf (matmul (DotDims.plain 1024 4096 N) none x w (constant ⟨2, ![1024, N]⟩ .f32 0x00000000#32)) (broadcastTo ⟨2, ![1024, N]⟩ s hs))
    (broadcastTo ⟨2, ![1024, N]⟩ p hp)

theorem prod_apply {N : ℕ} (x : FVec Ideal ⟨2, ![1024, 4096]⟩ .fp8e4m3) (w : FVec Ideal ⟨2, ![4096, N]⟩ .fp8e4m3) (s : FVec Ideal ⟨2, ![1024, 1]⟩ .f32)
    (p : FVec Ideal ⟨2, ![1, N]⟩ .f32) (hs : (⟨2, ![1024, 1]⟩ : Shape).Broadcasts ⟨2, ![1024, N]⟩) (hp : (⟨2, ![1, N]⟩ : Shape).Broadcasts ⟨2, ![1024, N]⟩)
    (r : Fin 1024) (j : Fin N) : prod x w s p hs hp (ix2 r j) = lin x w s p r j := lin_apply x w s p hs hp r j

/-- The rotated queries. -/
def queries (x : FVec Ideal S1024x4096 .fp8e4m3) (w : FVec Ideal S4096x2048 .fp8e4m3) (s : FVec Ideal S1024x1 .f32) (p : FVec Ideal S1x2048 .f32)
    (cos sg : FVec Ideal S1024x128 .f32) : FVec Ideal S1024x2048 .f32 :=
  shapeCast S1024x2048 (rope3 (shapeCast S1024x16x128 (prod x w s p facts.broadcasts_S1024x1_S1024x2048 facts.broadcasts_S1x2048_S1024x2048)
    facts.shapeCasts_S1024x2048_S1024x16x128) cos sg facts.slices_S1024x16x128_o0_0_64_S1024x16x64 facts.slices_S1024x16x128_o0_0_0_S1024x16x64
    facts.concatenates_S1024x16x64_S1024x16x64_S1024x16x128_d2 facts.shapeCasts_S1024x128_S1024x1x128 facts.broadcasts_S1024x1x128_S1024x16x128)
    facts.shapeCasts_S1024x16x128_S1024x2048

/-- The rotated keys. -/
def keys (x : FVec Ideal S1024x4096 .fp8e4m3) (w : FVec Ideal S4096x512 .fp8e4m3) (s : FVec Ideal S1024x1 .f32) (p : FVec Ideal S1x512 .f32)
    (cos sg : FVec Ideal S1024x128 .f32) : FVec Ideal S1024x512 .f32 :=
  shapeCast S1024x512 (rope3 (shapeCast S1024x4x128 (prod x w s p facts.broadcasts_S1024x1_S1024x512 facts.broadcasts_S1x512_S1024x512)
    facts.shapeCasts_S1024x512_S1024x4x128) cos sg facts.slices_S1024x4x128_o0_0_64_S1024x4x64 facts.slices_S1024x4x128_o0_0_0_S1024x4x64
    facts.concatenates_S1024x4x64_S1024x4x64_S1024x4x128_d2 facts.shapeCasts_S1024x128_S1024x1x128 facts.broadcasts_S1024x1x128_S1024x4x128)
    facts.shapeCasts_S1024x4x128_S1024x512

/-- The values. -/
def values (x : FVec Ideal S1024x4096 .fp8e4m3) (w : FVec Ideal S4096x512 .fp8e4m3) (s : FVec Ideal S1024x1 .f32) (p : FVec Ideal S1x512 .f32) :
    FVec Ideal S1024x512 .f32 := prod x w s p facts.broadcasts_S1024x1_S1024x512 facts.broadcasts_S1x512_S1024x512

theorem queries_apply (x : FVec Ideal S1024x4096 .fp8e4m3) (w : FVec Ideal S4096x2048 .fp8e4m3) (s : FVec Ideal S1024x1 .f32) (p : FVec Ideal S1x2048 .f32)
    (cos : FVec Ideal S1024x128 .f32) (r : Fin 1024) (j j' : Fin 2048) (hj' : j'.val = 128 * (j.val / 128) + (j.val % 128 + 64) % 128) :
    queries x w s p cos (sines a9) (ix2 r j) = lin x w s p r j * cos (ix2 r (lane j)) + lin x w s p r j' * a9 (ix2 r (lane j)) := by
  unfold queries
  rw [roped_apply (H := 16) (N := 2048) rfl _ cos (sines a9) a9 facts.shapeCasts_S1024x2048_S1024x16x128 facts.shapeCasts_S1024x16x128_S1024x2048 _ _ _ _ _ (sines_at a9) r j j' hj', prod_apply, prod_apply]

theorem keys_apply (x : FVec Ideal S1024x4096 .fp8e4m3) (w : FVec Ideal S4096x512 .fp8e4m3) (s : FVec Ideal S1024x1 .f32) (p : FVec Ideal S1x512 .f32)
    (cos : FVec Ideal S1024x128 .f32) (r : Fin 1024) (j j' : Fin 512) (hj' : j'.val = 128 * (j.val / 128) + (j.val % 128 + 64) % 128) :
    keys x w s p cos (sines a9) (ix2 r j) = lin x w s p r j * cos (ix2 r (lane j)) + lin x w s p r j' * a9 (ix2 r (lane j)) := by
  unfold keys
  rw [roped_apply (H := 4) (N := 512) rfl _ cos (sines a9) a9 facts.shapeCasts_S1024x512_S1024x4x128 facts.shapeCasts_S1024x4x128_S1024x512 _ _ _ _ _ (sines_at a9) r j j' hj', prod_apply, prod_apply]

theorem values_apply (x : FVec Ideal S1024x4096 .fp8e4m3) (w : FVec Ideal S4096x512 .fp8e4m3) (s : FVec Ideal S1024x1 .f32) (p : FVec Ideal S1x512 .f32)
    (r : Fin 1024) (j : Fin 512) : values x w s p (ix2 r j) = lin x w s p r j := by
  unfold values
  exact lin_apply x w s p _ _ r j

/-- The three side by side. -/
abbrev beside (q : FVec Ideal S1024x2048 .f32) (k v : FVec Ideal S1024x512 .f32) : FVec Ideal S1024x3072 .f32 :=
  concatenate S1024x3072 1 [⟨S1024x2048, q⟩, ⟨S1024x512, k⟩, ⟨S1024x512, v⟩] facts.concatenates_S1024x2048_S1024x512_S1024x512_S1024x3072_d1

/-- The key and value half of the projection's expression. -/
theorem pay10_eq (s : FVec Ideal S1024x1 .f32) (x : FVec Ideal S1024x4096 .fp8e4m3) (cos sg : FVec Ideal S1024x128 .f32) (t t' : FVec Ideal S1024x16x128 .f32) :
    k0_pay10 s x cos sg t t' a3 a6 a4 a7 = truncf .bf16 (beside (shapeCast S1024x2048 (addf t' (mulf t (broadcastTo S1024x16x128
      (shapeCast S1024x1x128 sg facts.shapeCasts_S1024x128_S1024x1x128) facts.broadcasts_S1024x1x128_S1024x16x128))) facts.shapeCasts_S1024x16x128_S1024x2048)
      (keys x a3 s a6 cos sg) (values x a4 s a7)) facts.bitsLt_bf16_f32 := by
  unfold k0_pay10 keys values
  rfl

/-- The query half. -/
theorem queries_eq (w : FVec Ideal S1024x4096 .f32) (e : FVec Ideal S1024x1 .f32) (z : Ideal .f32) (cos sg : FVec Ideal S1024x128 .f32) :
    shapeCast S1024x2048 (addf (k0_pay8 w e z cos a2 a5) (mulf (k0_pay7 w e z a2 a5) (broadcastTo S1024x16x128
      (shapeCast S1024x1x128 sg facts.shapeCasts_S1024x128_S1024x1x128) facts.broadcasts_S1024x1x128_S1024x16x128))) facts.shapeCasts_S1024x16x128_S1024x2048
      = queries (k0_pay4 w e) a2 (k0_pay3 e z) a5 cos sg := by
  unfold k0_pay8 k0_pay7 k0_pay6 queries
  generalize k0_pay4 w e = x
  generalize k0_pay3 e z = s
  rfl

/-- The projection. -/
theorem out_eq : G13 a0 a1 a2 a3 a4 a5 a6 a7 a8 a9 = truncf .bf16 (beside (queries (refCodes a0 a1) a2 (refScale a0 a1) a5 a8 (sines a9))
    (keys (refCodes a0 a1) a3 (refScale a0 a1) a6 a8 (sines a9)) (values (refCodes a0 a1) a4 (refScale a0 a1) a7)) facts.bitsLt_bf16_f32 := by
  unfold G13
  rw [pay10_eq, pay11_eq, pay12_eq, pay13_eq, pay14_eq, queries_eq]

theorem beside_left (q : FVec Ideal S1024x2048 .f32) (k v : FVec Ideal S1024x512 .f32) (r : Fin 1024) (j : Fin 3072) (i : Fin 2048) (hi : j.val = i.val) :
    beside q k v (ix2 r j) = q (ix2 r i) := by
  refine concatenate_apply_piece (t := S1024x3072) (1 : Fin 2) [⟨S1024x2048, q⟩, ⟨S1024x512, k⟩, ⟨S1024x512, v⟩]
    facts.concatenates_S1024x2048_S1024x512_S1024x512_S1024x3072_d1 (ix2 r j) 0 (by norm_num) S1024x2048 q rfl rfl 0 rfl (ix2 r i) (fun b hb => ?_) ?_
  · match b with
    | ⟨0, _⟩ => rfl
    | ⟨1, _⟩ => exact absurd rfl hb
  · show 0 + i.val = j.val
    omega

theorem beside_mid (q : FVec Ideal S1024x2048 .f32) (k v : FVec Ideal S1024x512 .f32) (r : Fin 1024) (j : Fin 3072) (i : Fin 512) (hi : j.val = 2048 + i.val) :
    beside q k v (ix2 r j) = k (ix2 r i) := by
  refine concatenate_apply_piece (t := S1024x3072) (1 : Fin 2) [⟨S1024x2048, q⟩, ⟨S1024x512, k⟩, ⟨S1024x512, v⟩]
    facts.concatenates_S1024x2048_S1024x512_S1024x512_S1024x3072_d1 (ix2 r j) 1 (by norm_num) S1024x512 k rfl rfl 2048 rfl (ix2 r i) (fun b hb => ?_) ?_
  · match b with
    | ⟨0, _⟩ => rfl
    | ⟨1, _⟩ => exact absurd rfl hb
  · show 2048 + i.val = j.val
    omega

theorem beside_right (q : FVec Ideal S1024x2048 .f32) (k v : FVec Ideal S1024x512 .f32) (r : Fin 1024) (j : Fin 3072) (i : Fin 512) (hi : j.val = 2560 + i.val) :
    beside q k v (ix2 r j) = v (ix2 r i) := by
  refine concatenate_apply_piece (t := S1024x3072) (1 : Fin 2) [⟨S1024x2048, q⟩, ⟨S1024x512, k⟩, ⟨S1024x512, v⟩]
    facts.concatenates_S1024x2048_S1024x512_S1024x512_S1024x3072_d1 (ix2 r j) 2 (by norm_num) S1024x512 v rfl rfl 2560 rfl (ix2 r i) (fun b hb => ?_) ?_
  · match b with
    | ⟨0, _⟩ => rfl
    | ⟨1, _⟩ => exact absurd rfl hb
  · show 2560 + i.val = j.val
    omega

/-- The reference's queries. -/
theorem query_apply (r : Fin 1024) (j : Fin 3072) (i i' : Fin 2048) (hi : j.val = i.val) (hi' : i'.val = 128 * (i.val / 128) + (i.val % 128 + 64) % 128) :
    G13 a0 a1 a2 a3 a4 a5 a6 a7 a8 a9 (ix2 r j) = lin (refCodes a0 a1) a2 (refScale a0 a1) a5 r i * a8 (ix2 r (lane i))
      + lin (refCodes a0 a1) a2 (refScale a0 a1) a5 r i' * a9 (ix2 r (lane i)) := by
  rw [out_eq]
  exact (beside_left _ _ _ r j i hi).trans (queries_apply a9 _ _ _ _ _ r i i' hi')

/-- The reference's keys. -/
theorem key_apply (r : Fin 1024) (j : Fin 3072) (i i' : Fin 512) (hi : j.val = 2048 + i.val) (hi' : i'.val = 128 * (i.val / 128) + (i.val % 128 + 64) % 128) :
    G13 a0 a1 a2 a3 a4 a5 a6 a7 a8 a9 (ix2 r j) = lin (refCodes a0 a1) a3 (refScale a0 a1) a6 r i * a8 (ix2 r (lane i))
      + lin (refCodes a0 a1) a3 (refScale a0 a1) a6 r i' * a9 (ix2 r (lane i)) := by
  rw [out_eq]
  exact (beside_mid _ _ _ r j i hi).trans (keys_apply a9 _ _ _ _ _ r i i' hi')

/-- The reference's values. -/
theorem value_apply (r : Fin 1024) (j : Fin 3072) (i : Fin 512) (hi : j.val = 2560 + i.val) :
    G13 a0 a1 a2 a3 a4 a5 a6 a7 a8 a9 (ix2 r j) = lin (refCodes a0 a1) a4 (refScale a0 a1) a7 r i := by
  rw [out_eq]
  exact (beside_right _ _ _ r j i hi).trans (values_apply _ _ _ _ r i)

end Cert.Qkv.Out

end
-- ==== Proof.QkvEq.lean ====
/-
  The query, key and value projection's four results are the reference's, as functions of the ten arguments.

  `blk0` … `blk9`: each input's block as a part of its argument. `codes_eq`, `scale_eq`, `packed_eq`, `out_eq`: the four arrays.
-/
module

public import proofs.«01_k».proof.Proof.QkvQuant
public import proofs.«01_k».proof.Proof.QkvRefOut

@[expose] public section

set_option maxRecDepth 16384

noncomputable section

open Idealize.ShloMosaic Idealize.ShloMosaic.TcCoe Idealize.ShloMosaic.ValueIdx
open scoped BigOperators

namespace Cert.Qkv.Equation

open Cert.QkvIdeal Cert.QkvIdeal.Gen Cert.QkvIdeal.Hand

open Cert.Qkv.Entries (refScale refCodes)

open Cert.Qkv.Rope

variable (m : (ℓ : Loc nD τ sig) → Buf (Elt Ideal) ℓ) (c : Dev nD)

/-- The hidden rows. -/
abbrev aX : Vec Ideal S1024x4096 .bf16 := m ((c : Thread nD τ).loc main_arg0)

/-- The norm's weights. -/
abbrev aG : Vec Ideal S1x4096 .bf16 := m ((c : Thread nD τ).loc main_arg1)

/-- The query weights. -/
abbrev aQ : Vec Ideal S4096x2048 .fp8e4m3 := m ((c : Thread nD τ).loc main_arg2)

/-- The key weights. -/
abbrev aK : Vec Ideal S4096x512 .fp8e4m3 := m ((c : Thread nD τ).loc main_arg3)

/-- The value weights. -/
abbrev aV : Vec Ideal S4096x512 .fp8e4m3 := m ((c : Thread nD τ).loc main_arg4)

/-- The query weights' scales. -/
abbrev sQ : Vec Ideal S1x2048 .f32 := m ((c : Thread nD τ).loc main_arg5)

/-- The key weights' scales. -/
abbrev sK : Vec Ideal S1x512 .f32 := m ((c : Thread nD τ).loc main_arg6)

/-- The value weights' scales. -/
abbrev sV : Vec Ideal S1x512 .f32 := m ((c : Thread nD τ).loc main_arg7)

/-- The cosines. -/
abbrev aC : Vec Ideal S1024x128 .f32 := m ((c : Thread nD τ).loc main_arg8)

/-- The sines. -/
abbrev aN : Vec Ideal S1024x128 .f32 := m ((c : Thread nD τ).loc main_arg9)

/-! ## The blocks of the arguments -/

theorem still : ∀ t : Fin cfg0.N, (win0_0.index t 0 = 0 ∧ win0_0.index t 1 = 0) ∧ (win0_1.index t 0 = 0 ∧ win0_1.index t 1 = 0) ∧ (win0_3.index t 0 = 0 ∧ win0_3.index t 1 = 0) ∧ (win0_4.index t 0 = 0 ∧ win0_4.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) := by decide +kernel

theorem moves : ∀ t : Fin cfg0.N, t.val < 4 → (win0_2.index t 0 = 0 ∧ win0_2.index t 1 = t.val) ∧ win0_5.index t 0 = 0 ∧ win0_5.index t 1 = t.val := by
  decide +kernel

theorem blk0 (t : Fin cfg0.N) : (iblk m c 0 t : Vec Ideal S1024x4096 .bf16) = aX m c := by
  obtain ⟨⟨h0, h1⟩, -⟩ := still t
  funext i
  unfold iblk
  rw [View.read_apply]
  refine congrArg (m ((c : Thread nD τ).loc main_arg0)) ?_
  funext a; apply Fin.ext
  match a with
  | ⟨0, _⟩ => show win0_0.index t 0 * 1024 + 1 * (i 0).val = (i 0).val; rw [h0]; omega
  | ⟨1, _⟩ => show win0_0.index t 1 * 4096 + 1 * (i 1).val = (i 1).val; rw [h1]; omega

theorem blk1 (t : Fin cfg0.N) : (iblk m c 1 t : Vec Ideal S1x4096 .bf16) = aG m c := by
  obtain ⟨-, ⟨h0, h1⟩, -⟩ := still t
  funext i
  unfold iblk
  rw [View.read_apply]
  refine congrArg (m ((c : Thread nD τ).loc main_arg1)) ?_
  funext a; apply Fin.ext
  match a with
  | ⟨0, _⟩ => show win0_1.index t 0 * 1 + 1 * (i 0).val = (i 0).val; rw [h0]; omega
  | ⟨1, _⟩ => show win0_1.index t 1 * 4096 + 1 * (i 1).val = (i 1).val; rw [h1]; omega

theorem blk3 (t : Fin cfg0.N) : (iblk m c 3 t : Vec Ideal S4096x512 .fp8e4m3) = aK m c := by
  obtain ⟨-, -, ⟨h0, h1⟩, -⟩ := still t
  funext i
  unfold iblk
  rw [View.read_apply]
  refine congrArg (m ((c : Thread nD τ).loc main_arg3)) ?_
  funext a; apply Fin.ext
  match a with
  | ⟨0, _⟩ => show win0_3.index t 0 * 4096 + 1 * (i 0).val = (i 0).val; rw [h0]; omega
  | ⟨1, _⟩ => show win0_3.index t 1 * 512 + 1 * (i 1).val = (i 1).val; rw [h1]; omega

theorem blk4 (t : Fin cfg0.N) : (iblk m c 4 t : Vec Ideal S4096x512 .fp8e4m3) = aV m c := by
  obtain ⟨-, -, -, ⟨h0, h1⟩, -⟩ := still t
  funext i
  unfold iblk
  rw [View.read_apply]
  refine congrArg (m ((c : Thread nD τ).loc main_arg4)) ?_
  funext a; apply Fin.ext
  match a with
  | ⟨0, _⟩ => show win0_4.index t 0 * 4096 + 1 * (i 0).val = (i 0).val; rw [h0]; omega
  | ⟨1, _⟩ => show win0_4.index t 1 * 512 + 1 * (i 1).val = (i 1).val; rw [h1]; omega

theorem blk6 (t : Fin cfg0.N) : (iblk m c 6 t : Vec Ideal S1x512 .f32) = sK m c := by
  obtain ⟨-, -, -, -, ⟨h0, h1⟩, -⟩ := still t
  funext i
  unfold iblk
  rw [View.read_apply]
  refine congrArg (m ((c : Thread nD τ).loc main_arg6)) ?_
  funext a; apply Fin.ext
  match a with
  | ⟨0, _⟩ => show win0_6.index t 0 * 1 + 1 * (i 0).val = (i 0).val; rw [h0]; omega
  | ⟨1, _⟩ => show win0_6.index t 1 * 512 + 1 * (i 1).val = (i 1).val; rw [h1]; omega

theorem blk7 (t : Fin cfg0.N) : (iblk m c 7 t : Vec Ideal S1x512 .f32) = sV m c := by
  obtain ⟨-, -, -, -, -, ⟨h0, h1⟩, -⟩ := still t
  funext i
  unfold iblk
  rw [View.read_apply]
  refine congrArg (m ((c : Thread nD τ).loc main_arg7)) ?_
  funext a; apply Fin.ext
  match a with
  | ⟨0, _⟩ => show win0_7.index t 0 * 1 + 1 * (i 0).val = (i 0).val; rw [h0]; omega
  | ⟨1, _⟩ => show win0_7.index t 1 * 512 + 1 * (i 1).val = (i 1).val; rw [h1]; omega

theorem blk8 (t : Fin cfg0.N) : (iblk m c 8 t : Vec Ideal S1024x128 .f32) = aC m c := by
  obtain ⟨-, -, -, -, -, -, ⟨h0, h1⟩, -⟩ := still t
  funext i
  unfold iblk
  rw [View.read_apply]
  refine congrArg (m ((c : Thread nD τ).loc main_arg8)) ?_
  funext a; apply Fin.ext
  match a with
  | ⟨0, _⟩ => show win0_8.index t 0 * 1024 + 1 * (i 0).val = (i 0).val; rw [h0]; omega
  | ⟨1, _⟩ => show win0_8.index t 1 * 128 + 1 * (i 1).val = (i 1).val; rw [h1]; omega

theorem blk9 (t : Fin cfg0.N) : (iblk m c 9 t : Vec Ideal S1024x128 .f32) = aN m c := by
  obtain ⟨-, -, -, -, -, -, -, h0, h1⟩ := still t
  funext i
  unfold iblk
  rw [View.read_apply]
  refine congrArg (m ((c : Thread nD τ).loc main_arg9)) ?_
  funext a; apply Fin.ext
  match a with
  | ⟨0, _⟩ => show win0_9.index t 0 * 1024 + 1 * (i 0).val = (i 0).val; rw [h0]; omega
  | ⟨1, _⟩ => show win0_9.index t 1 * 128 + 1 * (i 1).val = (i 1).val; rw [h1]; omega

theorem blk2 (t : Fin cfg0.N) (ht : t.val < 4) (k : Fin 4096) (j : Fin 512) (i : Fin 2048) (hi : i.val = 512 * t.val + j.val) :
    (iblk m c 2 t : Vec Ideal S4096x512 .fp8e4m3) (ix2 k j) = aQ m c (ix2 k i) := by
  obtain ⟨⟨h0, h1⟩, h0', h1'⟩ := moves t ht
  unfold iblk
  rw [View.read_apply]
  refine congrArg (m ((c : Thread nD τ).loc main_arg2)) ?_
  funext a; apply Fin.ext
  match a with
  | ⟨0, _⟩ => show win0_2.index t 0 * 4096 + 1 * k.val = k.val; rw [h0]; omega
  | ⟨1, _⟩ => show win0_2.index t 1 * 512 + 1 * j.val = i.val; rw [h1]; omega

theorem blk5 (t : Fin cfg0.N) (ht : t.val < 4) (k : Fin 1) (j : Fin 512) (i : Fin 2048) (hi : i.val = 512 * t.val + j.val) :
    (iblk m c 5 t : Vec Ideal S1x512 .f32) (ix2 k j) = sQ m c (ix2 k i) := by
  obtain ⟨⟨h0, h1⟩, h0', h1'⟩ := moves t ht
  unfold iblk
  rw [View.read_apply]
  refine congrArg (m ((c : Thread nD τ).loc main_arg5)) ?_
  funext a; apply Fin.ext
  match a with
  | ⟨0, _⟩ => show win0_5.index t 0 * 1 + 1 * k.val = k.val; rw [h0']; omega
  | ⟨1, _⟩ => show win0_5.index t 1 * 512 + 1 * j.val = i.val; rw [h1']; omega

/-! ## The four arrays -/

/-- The codes. -/
theorem codes_ref : codesW m c = refCodes (aX m c) (aG m c) := by
  unfold codesW
  rw [show (iblk m c 0 p0 : Vec Ideal S1024x4096 .bf16) = aX m c from blk0 m c p0, show (iblk m c 1 p0 : Vec Ideal S1x4096 .bf16) = aG m c from blk1 m c p0]
  exact Entries.codesAll_eq _ _

/-- The scales. -/
theorem scale_ref : scaleW m c = refScale (aX m c) (aG m c) := by
  unfold scaleW
  rw [show (iblk m c 0 p0 : Vec Ideal S1024x4096 .bf16) = aX m c from blk0 m c p0, show (iblk m c 1 p0 : Vec Ideal S1x4096 .bf16) = aG m c from blk1 m c p0]
  exact Entries.scaleAll_eq _ _

theorem codes_eq : codesW m c = Cert.QkvRefIdeal.Value.G10 (F := Ideal) (aX m c) (aG m c) (aQ m c) (aK m c) (aV m c) (sQ m c) (sK m c) (sV m c) (aC m c) (aN m c) :=
  (codes_ref m c).trans (Out.codes_eq _ _ _ _ _ _ _ _ _ _).symm

theorem scale_eq : scaleW m c = Cert.QkvRefIdeal.Value.G11 (F := Ideal) (aX m c) (aG m c) (aQ m c) (aK m c) (aV m c) (sQ m c) (sK m c) (sV m c) (aC m c) (aN m c) :=
  (scale_ref m c).trans (Out.scales_eq _ _ _ _ _ _ _ _ _ _).symm

/-- A column packed as eight rows of 128. -/
theorem pack_apply (s : FVec Ideal S1024x1 .f32) (y : Fin 8) (l : Fin 128) : k0_pay3 s (ix2 y l) = s (ix2 ⟨128 * y.val + l.val, by omega⟩ 0) := by
  unfold k0_pay3
  refine (shapeCast_apply (shapeCast S1024x1 s facts.shapeCasts_S1024x1_S1024x1) facts.shapeCasts_S1024x1_S8x128 (ix2 y l) (ix2 ⟨128 * y.val + l.val, by omega⟩ 0) ?_).trans
    (shapeCast_apply s _ _ _ rfl)
  rw [Shape.rowMajor_val_two, Shape.rowMajor_val_two]
  show (128 * y.val + l.val) * 1 + 0 = y.val * 128 + l.val
  omega

/-- The packed scales. -/
theorem packed_eq : k0_pay3 (scaleW m c) = Cert.QkvRefIdeal.Value.G12 (F := Ideal) (aX m c) (aG m c) (aQ m c) (aK m c) (aV m c) (sQ m c) (sK m c) (sV m c) (aC m c) (aN m c) := by
  funext i
  obtain ⟨y, l, rfl⟩ : ∃ (y : Fin 8) (l : Fin 128), i = ix2 y l := ⟨i 0, i 1, (eq_ix2 i)⟩
  rw [Out.packed_apply, pack_apply, scale_ref]

/-- A column of a block of queries is that column of the whole. -/
theorem lin_block (x : FVec Ideal S1024x4096 .fp8e4m3) (s : FVec Ideal S1024x1 .f32) (t : Fin cfg0.N) (ht : t.val < 4) (r : Fin 1024) (j : Fin 512) (i : Fin 2048)
    (hi : i.val = 512 * t.val + j.val) : lin x (iblk m c 2 t : Vec Ideal S4096x512 .fp8e4m3) s (iblk m c 5 t : Vec Ideal S1x512 .f32) r j = lin x (aQ m c) s (sQ m c) r i := by
  unfold lin
  rw [blk5 m c t ht 0 j i hi]
  exact congrArg (fun q => q * s (ix2 r 0) * sQ m c (ix2 0 i)) (Finset.sum_congr rfl fun k _ => by rw [blk2 m c t ht k j i hi])

/-- The projection. -/
theorem out_eq : G13 m c = Cert.QkvRefIdeal.Value.G13 (F := Ideal) (aX m c) (aG m c) (aQ m c) (aK m c) (aV m c) (sQ m c) (sK m c) (sV m c) (aC m c) (aN m c) := by
  funext i
  obtain ⟨r, j, rfl⟩ : ∃ (r : Fin 1024) (j : Fin 3072), i = ix2 r j := ⟨i 0, i 1, (eq_ix2 i)⟩
  have hj := j.isLt
  have hp : (⟨128 * ((colOf j).val / 128) + ((colOf j).val % 128 + 64) % 128, by have := (colOf j).isLt; omega⟩ : Fin 512).val
      = 128 * ((colOf j).val / 128) + ((colOf j).val % 128 + 64) % 128 := rfl
  generalize (⟨128 * ((colOf j).val / 128) + ((colOf j).val % 128 + 64) % 128, by have := (colOf j).isLt; omega⟩ : Fin 512) = j' at hp
  have hc : (colOf j).val = j.val % 512 := rfl
  show tileW m c (ptOf j) (ix2 r (colOf j)) = _
  unfold tileW
  rw [codes_ref, scale_ref]
  by_cases g0 : j.val < 2048
  · have ht : (ptOf j).val < 4 := by show j.val / 512 < 4; omega
    have hv : (ptOf j).val = j.val / 512 := rfl
    have hj' : 512 * (j.val / 512) + j'.val < 2048 := by have := j'.isLt; omega
    rw [if_pos ht, blk8, blk9, Out.query_apply _ _ _ _ _ _ _ _ _ _ r j ⟨j.val, g0⟩ ⟨512 * (j.val / 512) + j'.val, hj'⟩ rfl
      (by show 512 * (j.val / 512) + j'.val = 128 * (j.val / 128) + (j.val % 128 + 64) % 128; omega)]
    refine (qTile_apply _ _ _ _ _ _ r (colOf j) j' hp).trans ?_
    rw [lin_block m c _ _ (ptOf j) ht r (colOf j) ⟨j.val, g0⟩ (by show j.val = 512 * (j.val / 512) + j.val % 512; omega),
      lin_block m c _ _ (ptOf j) ht r j' ⟨512 * (j.val / 512) + j'.val, hj'⟩ rfl]
    have hl : lane (colOf j) = lane (⟨j.val, g0⟩ : Fin 2048) := Fin.ext (by show j.val % 512 % 128 = j.val % 128; omega)
    rw [hl]
  have ht : ¬(ptOf j).val < 4 := by show ¬j.val / 512 < 4; omega
  rw [if_neg ht]
  by_cases g1 : j.val < 2560
  · have h4 : (ptOf j).val = 4 := by show j.val / 512 = 4; omega
    rw [if_pos h4, blk3, blk6, blk8, blk9, Out.key_apply _ _ _ _ _ _ _ _ _ _ r j (colOf j) j' (by omega) hp]
    exact kTile_apply _ _ _ _ _ _ r (colOf j) j' hp
  · have h4 : ¬(ptOf j).val = 4 := by show ¬j.val / 512 = 4; omega
    rw [if_neg h4, blk4, blk7, Out.value_apply _ _ _ _ _ _ _ _ _ _ r j (colOf j) (by omega)]
    exact vTile_apply _ _ _ _ r (colOf j)

end Cert.Qkv.Equation

end
-- ==== Proof.QkvClaim.lean ====
/-
  The query, key and value projection's value claim: run on the same ten arguments, the kernel and the reference leave the same four arrays.
-/
module

public import proofs.«01_k».proof.Defs
public import proofs.«01_k».proof.Proof.QkvEq

@[expose] public section

noncomputable section

open Idealize.ShloMosaic Idealize.ShloMosaic.TcCoe Idealize.SL.Sem

namespace Cert.Qkv.Equation

/-- Both programs leave the norm's codes, their rows' scales, the scales laid out as 8x128, and the projection. -/
theorem algebraic : Cert.algebraic_QkvIdeal_QkvRefIdeal (hQkvIdeal := Cert.QkvIdeal.Gen.facts) (hQkvRefIdeal := Cert.QkvRefIdeal.Gen.facts) := by
  intro m g m' g' _ hargs
  refine ⟨fun c => Cert.QkvIdeal.Hand.codesW m c, fun c => Cert.QkvIdeal.Hand.scaleW m c, fun c => Cert.QkvIdeal.Gen.k0_pay3 (Cert.QkvIdeal.Hand.scaleW m c),
    fun c => Cert.QkvIdeal.Hand.G13 m c, Cert.QkvIdeal.Hand.run m g, ?_⟩
  refine θ_run_mono (Cert.QkvRefIdeal.Value.run m' g') fun r hr c => ?_
  obtain ⟨h0, h1, h2, h3, hk⟩ := hr c
  obtain ⟨e0, e1, e2, e3, e4, e5, e6, e7, e8, e9⟩ := hargs c
  refine ⟨h0.trans ?_, h1.trans ?_, h2.trans ?_, h3.trans ?_, hk⟩
  · rw [e0, e1, e2, e3, e4, e5, e6, e7, e8, e9]
    exact (codes_eq m c).symm
  · rw [e0, e1, e2, e3, e4, e5, e6, e7, e8, e9]
    exact (scale_eq m c).symm
  · rw [e0, e1, e2, e3, e4, e5, e6, e7, e8, e9]
    exact (packed_eq m c).symm
  · rw [e0, e1, e2, e3, e4, e5, e6, e7, e8, e9]
    exact (out_eq m c).symm

end Cert.Qkv.Equation

end
-- ==== Proof.lean ====
module

public import proofs.«01_k».proof.Defs
public import proofs.«01_k».proof.Proof.Gen.Gateup
public import proofs.«01_k».proof.Proof.Gen.Gateup.Skeleton
public import proofs.«01_k».proof.Proof.Gen.Gateup.Launch
public import proofs.«01_k».proof.Proof.Gen.Gateup.Points
public import proofs.«01_k».proof.Proof.Gen.Gateup.Frame
public import proofs.«01_k».proof.Proof.Gen.GateupIdeal
public import proofs.«01_k».proof.Proof.Gen.GateupIdeal.Skeleton
public import proofs.«01_k».proof.Proof.Gen.GateupIdeal.Launch
public import proofs.«01_k».proof.Proof.Gen.GateupIdeal.Points
public import proofs.«01_k».proof.Proof.Gen.GateupIdeal.Frame
public import proofs.«01_k».proof.Proof.Gen.GateupRefIdeal
public import proofs.«01_k».proof.Proof.Gen.GateupRefIdeal.Skeleton
public import proofs.«01_k».proof.Proof.Gen.GateupRefIdeal.Launch
public import proofs.«01_k».proof.Proof.Gen.GateupRefIdeal.Points
public import proofs.«01_k».proof.Proof.Gen.GateupRefIdeal.Frame
public import proofs.«01_k».proof.Proof.Gen.GateupIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownIdeal.Value
public import proofs.«01_k».proof.Proof.Gen.DownRefIdeal.Value
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.OprojRefIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.Qkv.Loops
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Loops
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import proofs.«01_k».proof.Proof.GateupClaim
public import proofs.«01_k».proof.Proof.DownClaim
public import proofs.«01_k».proof.Proof.OprojFrame
public import proofs.«01_k».proof.Proof.OprojClaim
public import proofs.«01_k».proof.Proof.QkvFrame
public import proofs.«01_k».proof.Proof.QkvClaim
public import Idealize.ShloMosaic.Adequacy
public import Idealize.ShloMosaic.Init

@[expose] public section

noncomputable section

namespace Cert.Proof

open Idealize.ShloMosaic Idealize.SL.Sem Cert.Gateup

/-- The certificate: nothing is rewritten; the frames are generated, or `Hand.frame` for the two projections' programs; and the value claims
    are `Gateup.Equation.algebraic`, `Down.Equation.algebraic`, `Oproj.Equation.algebraic` and `Qkv.Equation.algebraic`. -/
theorem claim : Cert.Claim := ⟨Cert.Gateup.Gen.facts, Cert.GateupIdeal.Gen.facts, Cert.GateupRefIdeal.Gen.facts,
  Cert.Down.Gen.facts, Cert.DownIdeal.Gen.facts, Cert.DownRefIdeal.Gen.facts, Cert.Oproj.Gen.facts, Cert.OprojIdeal.Gen.facts, Cert.OprojRefIdeal.Gen.facts,
  Cert.Qkv.Gen.facts, Cert.QkvIdeal.Gen.facts, Cert.QkvRefIdeal.Gen.facts,
  fun m ρ _ => Cert.Gateup.Gen.frame m ρ, fun m ρ _ => Cert.GateupIdeal.Gen.frame m ρ, fun m ρ _ => Cert.GateupRefIdeal.Gen.frame m ρ,
  fun m ρ _ => Cert.Down.Gen.frame m ρ, fun m ρ _ => Cert.DownIdeal.Gen.frame m ρ, fun m ρ _ => Cert.DownRefIdeal.Gen.frame m ρ,
  Cert.Oproj.Hand.frame, fun m ρ _ => Cert.OprojIdeal.Hand.frame m ρ, fun m ρ _ => Cert.OprojRefIdeal.Gen.frame m ρ,
  Cert.Qkv.Hand.frame, fun m ρ _ => Cert.QkvIdeal.Hand.frame m ρ, fun m ρ _ => Cert.QkvRefIdeal.Gen.frame m ρ,
  trivial, Cert.Gateup.Equation.algebraic, trivial, Cert.Down.Equation.algebraic, trivial, Cert.Oproj.Equation.algebraic,
  trivial, Cert.Qkv.Equation.algebraic⟩

end Cert.Proof

end
